-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2)
      ∧ r.2.mem ((c.tc : Thread Cert.MemkvReferenceIdeal.nD Cert.MemkvReferenceIdeal.τ).loc Cert.MemkvReferenceIdeal.main_arg3) = m ((c.tc : Thread Cert.MemkvReferenceIdeal.nD Cert.MemkvReferenceIdeal.τ).loc Cert.MemkvReferenceIdeal.main_arg3))
      ∧ r.2.sem = fun _ => 0)

def preserves_Kernel_KernelIdeal : Prop :=
  IdealRules.named_const.Statement Cert.KernelIdeal.κ "log2e_16" .f32 0x3DB8AA3B#32 (((1 / 16) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v73)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v73) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v103) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)) (v4 : (c : Dev Cert.InprojIdeal.nD) → Buf (Elt Ideal) ((c.tc : Thread Cert.InprojIdeal.nD Cert.InprojIdeal.τ).loc Cert.InprojIdeal.main_v0_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_v0_5) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v26) = v0 c
          ∧ r.2.mem ((c.tc : Thread Cert.InprojReferenceIdeal.nD Cert.InprojReferenceIdeal.τ).loc Cert.InprojReferenceIdeal.main_v27) = v1 c
          ∧ r.2.mem ((c.tc : Thread Cert.InprojReferenceIdeal.nD Cert.InprojReferenceIdeal.τ).loc Cert.InprojReferenceIdeal.main_v28) = v2 c
          ∧ r.2.mem ((c.tc : Thread Cert.InprojReferenceIdeal.nD Cert.InprojReferenceIdeal.τ).loc Cert.InprojReferenceIdeal.main_v30) = v3 c
          ∧ r.2.mem ((c.tc : Thread Cert.InprojReferenceIdeal.nD Cert.InprojReferenceIdeal.τ).loc Cert.InprojReferenceIdeal.main_v37) = v4 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def preserves_Memkv_MemkvIdeal : Prop :=
  True

def algebraic_MemkvIdeal_MemkvReferenceIdeal [hMemkvIdeal : Cert.MemkvIdeal.Facts] [hMemkvReferenceIdeal : Cert.MemkvReferenceIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)
      ∧ m' ((c.tc : Thread Cert.MemkvReferenceIdeal.nD Cert.MemkvReferenceIdeal.τ).loc Cert.MemkvReferenceIdeal.main_arg2) = m ((c.tc : Thread Cert.MemkvIdeal.nD Cert.MemkvIdeal.τ).loc Cert.MemkvIdeal.main_arg2)
      ∧ m' ((c.tc : Thread Cert.MemkvReferenceIdeal.nD Cert.MemkvReferenceIdeal.τ).loc Cert.MemkvReferenceIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v0_0)) (v1 : (c : Dev Cert.MemkvIdeal.nD) → Buf (Elt Ideal) ((c.tc : Thread Cert.MemkvIdeal.nD Cert.MemkvIdeal.τ).loc Cert.MemkvIdeal.main_v0_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v0_0) = v0 c
          ∧ r.2.mem ((c.tc : Thread Cert.MemkvIdeal.nD Cert.MemkvIdeal.τ).loc Cert.MemkvIdeal.main_v0_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v16) = v0 c
          ∧ r.2.mem ((c.tc : Thread Cert.MemkvReferenceIdeal.nD Cert.MemkvReferenceIdeal.τ).loc Cert.MemkvReferenceIdeal.main_v19) = v1 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2)
          ∧ r.2.mem ((c.tc : Thread Cert.MemkvReferenceIdeal.nD Cert.MemkvReferenceIdeal.τ).loc Cert.MemkvReferenceIdeal.main_arg3) = m' ((c.tc : Thread Cert.MemkvReferenceIdeal.nD Cert.MemkvReferenceIdeal.τ).loc Cert.MemkvReferenceIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hInproj : Cert.Inproj.Facts) (hInprojIdeal : Cert.InprojIdeal.Facts) (hInprojReferenceIdeal : Cert.InprojReferenceIdeal.Facts) (hMemkv : Cert.Memkv.Facts) (hMemkvIdeal : Cert.MemkvIdeal.Facts) (hMemkvReferenceIdeal : Cert.MemkvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Memkv (hMemkv := hMemkv)
    ∧ quiescent_MemkvIdeal (hMemkvIdeal := hMemkvIdeal)
    ∧ quiescent_MemkvReferenceIdeal (hMemkvReferenceIdeal := hMemkvReferenceIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Inproj_InprojIdeal
    ∧ algebraic_InprojIdeal_InprojReferenceIdeal (hInprojIdeal := hInprojIdeal) (hInprojReferenceIdeal := hInprojReferenceIdeal)
    ∧ preserves_Memkv_MemkvIdeal
    ∧ algebraic_MemkvIdeal_MemkvReferenceIdeal (hMemkvIdeal := hMemkvIdeal) (hMemkvReferenceIdeal := hMemkvReferenceIdeal)
-- ==== Kernel.lean ====
abbrev S16384x1024 : Shape := ⟨2, ![16384, 1024]⟩
abbrev S16384x512 : Shape := ⟨2, ![16384, 512]⟩
abbrev S1024x1024 : Shape := ⟨2, ![1024, 1024]⟩
abbrev S1x1024 : Shape := ⟨2, ![1, 1024]⟩
abbrev S2048x1024 : Shape := ⟨2, ![2048, 1024]⟩
abbrev S1024x128 : Shape := ⟨2, ![1024, 128]⟩
abbrev S1x128 : Shape := ⟨2, ![1, 128]⟩
abbrev S131072x128 : Shape := ⟨2, ![131072, 128]⟩
abbrev S16384x128 : Shape := ⟨2, ![16384, 128]⟩
abbrev S128x1024 : Shape := ⟨2, ![128, 1024]⟩
abbrev S512x1024 : Shape := ⟨2, ![512, 1024]⟩
abbrev S512x512 : Shape := ⟨2, ![512, 512]⟩
abbrev S256x1024 : Shape := ⟨2, ![256, 1024]⟩
abbrev S4096x128 : Shape := ⟨2, ![4096, 128]⟩
abbrev S512x128 : Shape := ⟨2, ![512, 128]⟩
abbrev S8x512 : Shape := ⟨2, ![8, 512]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S2048x128 : Shape := ⟨2, ![2048, 128]⟩
abbrev S128x256 : Shape := ⟨2, ![128, 256]⟩
abbrev S8x256 : Shape := ⟨2, ![8, 256]⟩

abbrev nBuf : Space → Nat
  | .hbm => 16
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S2048x1024, .bf16⟩
  | .hbm, ⟨7, _⟩ => ⟨S2048x1024, .bf16⟩
  | .hbm, ⟨8, _⟩ => ⟨S1024x1024, .bf16⟩
  | .hbm, ⟨9, _⟩ => ⟨S1x1024, .f32⟩
  | .hbm, ⟨10, _⟩ => ⟨S1024x128, .bf16⟩
  | .hbm, ⟨11, _⟩ => ⟨S1x128, .f32⟩
  | .hbm, ⟨12, _⟩ => ⟨S16384x1024, .f32⟩
  | .hbm, ⟨13, _⟩ => ⟨S131072x128, .f32⟩
  | .hbm, ⟨14, _⟩ => ⟨S16384x128, .i32⟩
  | .hbm, ⟨15, _⟩ => ⟨S128x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x128, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S4096x128, .f32⟩
  | .local _ .vmem, ⟨20, _⟩ => ⟨S4096x128, .f32⟩
  | .local _ .vmem, ⟨21, _⟩ => ⟨S512x128, .i32⟩
  | .local _ .vmem, ⟨22, _⟩ => ⟨S512x128, .i32⟩
  | .local _ .vmem, ⟨23, _⟩ => ⟨S8x512, .f32⟩
  | .local _ .vmem, ⟨24, _⟩ => ⟨S8x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "log2e_16" => some (((1 / 16) * (Real.log 2)⁻¹ : ℝ) : EReal)
  | _ => none
-- ==== ReferenceIdeal.lean ====
abbrev S16384x1024 : Shape := ⟨2, ![16384, 1024]⟩
abbrev S16384x512 : Shape := ⟨2, ![16384, 512]⟩
abbrev S1024x1024 : Shape := ⟨2, ![1024, 1024]⟩
abbrev S1x1024 : Shape := ⟨2, ![1, 1024]⟩
abbrev S2048x1024 : Shape := ⟨2, ![2048, 1024]⟩
abbrev S1024x128 : Shape := ⟨2, ![1024, 128]⟩
abbrev S1x128 : Shape := ⟨2, ![1, 128]⟩
abbrev S8x2048x1024 : Shape := ⟨3, ![8, 2048, 1024]⟩
abbrev S8x2048x512 : Shape := ⟨3, ![8, 2048, 512]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S131072x128 : Shape := ⟨2, ![131072, 128]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .bf16⟩
  | .hbm, ⟨4, _⟩ => ⟨S1x1024, .f32⟩
  | .hbm, ⟨5, _⟩ => ⟨S1024x1024, .bf16⟩
  | .hbm, ⟨6, _⟩ => ⟨S2048x1024, .bf16⟩
  | .hbm, ⟨7, _⟩ => ⟨S2048x1024, .bf16⟩
  | .hbm, ⟨8, _⟩ => ⟨S1024x1024, .bf16⟩
  | .hbm, ⟨9, _⟩ => ⟨S1x1024, .f32⟩
  | .hbm, ⟨10, _⟩ => ⟨S1024x128, .bf16⟩
  | .hbm, ⟨11, _⟩ => ⟨S1x128, .f32⟩
  | .hbm, ⟨12, _⟩ => ⟨S16384x512, .f32⟩
  | .hbm, ⟨13, _⟩ => ⟨S16384x512, .f32⟩
  | .hbm, ⟨14, _⟩ => ⟨S1024x1024, .f32⟩
  | .hbm, ⟨15, _⟩ => ⟨S1024x1024, .f32⟩
  | .hbm, ⟨16, _⟩ => ⟨S2048x1024, .f32⟩
  | .hbm, ⟨17, _⟩ => ⟨S2048x1024, .f32⟩
  | .hbm, ⟨18, _⟩ => ⟨S1024x1024, .f32⟩
  | .hbm, ⟨19, _⟩ => ⟨S8x2048x1024, .f32⟩
  | .hbm, ⟨20, _⟩ => ⟨S8x2048x512, .f32⟩
  | .hbm, ⟨21, _⟩ => ⟨S8x2048x512, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x4x256, .f32⟩
  | .hbm, ⟨44, _⟩ => ⟨S8x256x4x256, .f32⟩
  | .hbm, ⟨45, _⟩ => ⟨S8x256x4x256, .f32⟩
  | .hbm, ⟨46, _⟩ => ⟨S8x4x2048x256, .f32⟩
  | .hbm, ⟨47, _⟩ => ⟨S_, .f32⟩
  | .hbm, ⟨48, _⟩ => ⟨S8x4x2048x256, .f32⟩
  | .hbm, ⟨49, _⟩ => ⟨S8x4x2048x256, .f32⟩
  | .hbm, ⟨50, _⟩ => ⟨S_, .f32⟩
  | .hbm, ⟨51, _⟩ => ⟨S8x4x2048, .f32⟩
  | .hbm, ⟨52, _⟩ => ⟨S_, .f32⟩
  | .hbm, ⟨53, _⟩ => ⟨S8x4x2048, .f32⟩
  | .hbm, ⟨54, _⟩ => ⟨S8x4x2048, .f32⟩
  | .hbm, ⟨55, _⟩ => ⟨S8x4x2048x1, .f32⟩
  | .hbm, ⟨56, _⟩ => ⟨S8x4x2048x256, .f32⟩
  | .hbm, ⟨57, _⟩ => ⟨S8x4x2048x256, .f32⟩
  | .hbm, ⟨58, _⟩ => ⟨S8x4x2048x256, .f32⟩
  | .hbm, ⟨59, _⟩ => ⟨S_, .f32⟩
  | .hbm, ⟨60, _⟩ => ⟨S8x4x2048, .f32⟩
  | .hbm, ⟨61, _⟩ => ⟨S8x4x2048x1, .f32⟩
  | .hbm, ⟨62, _⟩ => ⟨S8x4x2048x256, .f32⟩
  | .hbm, ⟨63, _⟩ => ⟨S8x4x2048x256, .f32⟩
  | .hbm, ⟨64, _⟩ => ⟨S8x4x256x2048, .f32⟩
  | .hbm, ⟨65, _⟩ => ⟨S8x2048x4x256, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S1024, .f32⟩
  | .hbm, ⟨70, _⟩ => ⟨S8x2048x1024, .f32⟩
  | .hbm, ⟨71, _⟩ => ⟨S_, .f32⟩
  | .hbm, ⟨72, _⟩ => ⟨S8x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S8x2048x1, .f32⟩
  | .hbm, ⟨81, _⟩ => ⟨S8x2048x1024, .f32⟩
  | .hbm, ⟨82, _⟩ => ⟨S8x2048x1024, .f32⟩
  | .hbm, ⟨83, _⟩ => ⟨S1x1x1024, .f32⟩
  | .hbm, ⟨84, _⟩ => ⟨S8x2048x1024, .f32⟩
  | .hbm, ⟨85, _⟩ => ⟨S8x2048x1024, .f32⟩
  | .hbm, ⟨86, _⟩ => ⟨S16384x1024, .f32⟩
  | .hbm, ⟨87, _⟩ => ⟨S131072x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Experts.lean ====
abbrev S32 : Shape := ⟨1, ![32]⟩
abbrev S651264x128 : Shape := ⟨2, ![651264, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S159 : Shape := ⟨1, ![159]⟩
abbrev S1x32 : Shape := ⟨2, ![1, 32]⟩
abbrev S159x1 : Shape := ⟨2, ![159, 1]⟩
abbrev S159x32 : Shape := ⟨2, ![159, 32]⟩
abbrev S1 : Shape := ⟨1, ![1]⟩
abbrev S32x1x2048 : Shape := ⟨3, ![32, 1, 2048]⟩
abbrev S32x1x1024 : Shape := ⟨3, ![32, 1, 1024]⟩
abbrev S158 : Shape := ⟨1, ![158]⟩
abbrev S4096x128 : Shape := ⟨2, ![4096, 128]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2 : Shape := ⟨1, ![2]⟩
abbrev S1x1024x2048 : Shape := ⟨3, ![1, 1024, 2048]⟩
abbrev S1x1024x1024 : Shape := ⟨3, ![1, 1024, 1024]⟩
abbrev S2048x128 : Shape := ⟨2, ![2048, 128]⟩
abbrev S256x128 : Shape := ⟨2, ![256, 128]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 149
  | .vmem => 12
  | .smem => 5
  | _ => 0

abbrev hbmTy0_0 (i : Nat) : BufTy := match i % 128 with
  | 0 => ⟨S32, .i32⟩
  | 1 => ⟨S651264x128, .f32⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S159, .i32⟩
  | 37 => ⟨S_, .i32⟩
  | 38 => ⟨S159, .i32⟩
  | 39 => ⟨S159, .i32⟩
  | 40 => ⟨S1x32, .i32⟩
  | 41 => ⟨S159x1, .i32⟩
  | 42 => ⟨S159x32, .i32⟩
  | 43 => ⟨S159x32, .i32⟩
  | 44 => ⟨S159x32, .i1⟩
  | 45 => ⟨S159x32, .i32⟩
  | 46 => ⟨S_, .i32⟩
  | 47 => ⟨S159, .i32⟩
  | 48 => ⟨S_, .i32⟩
  | 49 => ⟨S159, .i32⟩
  | 50 => ⟨S32, .i32⟩
  | 51 => ⟨S32, .i32⟩
  | 52 => ⟨S_, .i32⟩
  | 53 => ⟨S159, .i32⟩
  | 54 => ⟨S159, .i1⟩
  | 55 => ⟨S_, .i32⟩
  | 56 => ⟨S159, .i32⟩
  | 57 => ⟨S159, .i32⟩
  | 58 => ⟨S159, .i32⟩
  | 59 => ⟨S159x1, .i32⟩
  | 60 => ⟨S159, .i32⟩
  | 61 => ⟨S159, .i32⟩
  | 62 => ⟨S_, .i32⟩
  | 63 => ⟨S_, .i32⟩
  | 64 => ⟨S_, .i32⟩
  | 65 => ⟨S159, .i32⟩
  | 66 => ⟨S159, .i32⟩
  | 67 => ⟨S_, .i32⟩
  | 68 => ⟨S159, .i32⟩
  | 69 => ⟨S159, .i32⟩
  | 70 => ⟨S1, .i32⟩
  | 71 => ⟨S_, .i32⟩
  | 72 => ⟨S159, .i32⟩
  | 73 => ⟨S159, .i1⟩
  | 74 => ⟨S_, .i32⟩
  | 75 => ⟨S159, .i32⟩
  | 76 => ⟨S159, .i32⟩
  | 77 => ⟨S_, .i32⟩
  | 78 => ⟨S159, .i32⟩
  | 79 => ⟨S159, .i32⟩
  | 80 => ⟨S_, .i32⟩
  | 81 => ⟨S_, .i32⟩
  | 82 => ⟨S159, .i32⟩
  | 83 => ⟨S159, .i32⟩
  | 84 => ⟨S159, .i32⟩
  | 85 => ⟨S_, .i32⟩
  | 86 => ⟨S159, .i32⟩
  | 87 => ⟨S159, .i1⟩
  | 88 => ⟨S159, .i32⟩
  | 89 => ⟨S159, .i32⟩
  | 90 => ⟨S_, .i32⟩
  | 91 => ⟨S159, .i32⟩
  | 92 => ⟨S159, .i1⟩
  | 93 => ⟨S159, .i1⟩
  | 94 => ⟨S_, .i32⟩
  | 95 => ⟨S159, .i32⟩
  | 96 => ⟨S159, .i32⟩
  | 97 => ⟨S159, .i32⟩
  | 98 => ⟨S_, .i32⟩
  | 99 => ⟨S_, .i32⟩
  | 100 => ⟨S159, .i32⟩
  | 101 => ⟨S32x1x2048, .f32⟩
  | 102 => ⟨S32x1x1024, .f32⟩
  | 103 => ⟨S159, .i32⟩
  | 104 => ⟨S_, .i1⟩
  | 105 => ⟨S1, .i1⟩
  | 106 => ⟨S158, .i32⟩
  | 107 => ⟨S158, .i32⟩
  | 108 => ⟨S158, .i1⟩
  | 109 => ⟨S159, .i1⟩
  | 110 => ⟨S_, .i32⟩
  | 111 => ⟨S_, .i32⟩
  | 112 => ⟨S159, .i32⟩
  | 113 => ⟨S159, .i32⟩
  | 114 => ⟨S158, .i32⟩
  | 115 => ⟨S_, .i32⟩
  | 116 => ⟨S1, .i32⟩
  | 117 => ⟨S159, .i32⟩
  | 118 => ⟨S_, .i32⟩
  | 119 => ⟨S_, .i32⟩
  | 120 => ⟨S159, .i32⟩
  | 121 => ⟨S_, .i32⟩
  | 122 => ⟨S159, .i32⟩
  | 123 => ⟨S159, .i1⟩
  | 124 => ⟨S_, .i32⟩
  | 125 => ⟨S159, .i32⟩
  | 126 => ⟨S159, .i32⟩
  | 127 => ⟨S_, .i32⟩
  | _ => ⟨S32, .i32⟩

abbrev hbmTy0_1 (i : Nat) : BufTy := match i % 128 with
  | 0 => ⟨S159, .i32⟩
  | 1 => ⟨S159, .i1⟩
  | 2 => ⟨S_, .i32⟩
  | 3 => ⟨S159, .i32⟩
  | 4 => ⟨S159, .i32⟩
  | 5 => ⟨S159, .i32⟩
  | 6 => ⟨S159x1, .i32⟩
  | 7 => ⟨S159, .i32⟩
  | 8 => ⟨S_, .i32⟩
  | 9 => ⟨S_, .i32⟩
  | 10 => ⟨S159, .i32⟩
  | 11 => ⟨S159, .i32⟩
  | 12 => ⟨S_, .i32⟩
  | 13 => ⟨S_, .i32⟩
  | 14 => ⟨S159, .i32⟩
  | 15 => ⟨S_, .i32⟩
  | 16 => ⟨S159, .i32⟩
  | 17 => ⟨S159, .i32⟩
  | 18 => ⟨S_, .i32⟩
  | 19 => ⟨S159, .i32⟩
  | 20 => ⟨S651264x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S4096x128, .f32⟩
  | .local _ .vmem, ⟨7, _⟩ => ⟨S4096x128, .f32⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S159, .i32⟩
  | .local _ .smem, ⟨1, _⟩ => ⟨S159, .i32⟩
  | .local _ .smem, ⟨2, _⟩ => ⟨S159, .i32⟩
  | .local _ .smem, ⟨3, _⟩ => ⟨S159, .i32⟩
  | .local _ .smem, ⟨4, _⟩ => ⟨S159, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_v21 : Ref sig .tc := ⟨.hbm, 51, rfl⟩
abbrev main_c_6 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_8 : Ref sig .tc := ⟨.hbm, 62, rfl⟩
abbrev main_c_9 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_10 : Ref sig .tc := ⟨.hbm, 74, rfl⟩
abbrev main_v35 : Ref sig .tc := ⟨.hbm, 75, rfl⟩
abbrev main_v36 : Ref sig .tc := ⟨.hbm, 76, rfl⟩
abbrev main_c_11 : Ref sig .tc := ⟨.hbm, 77, rfl⟩
abbrev main_v37 : Ref sig .tc := ⟨.hbm, 78, rfl⟩
abbrev main_v38 : Ref sig .tc := ⟨.hbm, 79, rfl⟩
abbrev main_c_12 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v39 : Ref sig .tc := ⟨.hbm, 97, rfl⟩
abbrev main_c_13 : Ref sig .tc := ⟨.hbm, 98, rfl⟩
abbrev main_call4_v0 : Ref sig .tc := ⟨.hbm, 99, rfl⟩
abbrev main_call4_v1 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_c_14 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_c_15 : Ref sig .tc := ⟨.hbm, 110, rfl⟩
abbrev main_call5_v0 : Ref sig .tc := ⟨.hbm, 111, rfl⟩
abbrev main_call5_v1 : Ref sig .tc := ⟨.hbm, 112, rfl⟩
abbrev main_v49 : Ref sig .tc := ⟨.hbm, 113, rfl⟩
abbrev main_v50 : Ref sig .tc := ⟨.hbm, 114, rfl⟩
abbrev main_c_16 : Ref sig .tc := ⟨.hbm, 115, rfl⟩
abbrev main_v51 : Ref sig .tc := ⟨.hbm, 116, rfl⟩
abbrev main_v52 : Ref sig .tc := ⟨.hbm, 117, rfl⟩
abbrev main_call6_c : Ref sig .tc := ⟨.hbm, 118, rfl⟩
abbrev main_call6_v0 : Ref sig .tc := ⟨.hbm, 119, rfl⟩
abbrev main_v53 : Ref sig .tc := ⟨.hbm, 120, rfl⟩
abbrev main_c_17 : Ref sig .tc := ⟨.hbm, 121, rfl⟩
abbrev main_v54 : Ref sig .tc := ⟨.hbm, 122, rfl⟩
abbrev main_v55 : Ref sig .tc := ⟨.hbm, 123, rfl⟩
abbrev main_c_18 : Ref sig .tc := ⟨.hbm, 124, rfl⟩
abbrev main_v56 : Ref sig .tc := ⟨.hbm, 125, rfl⟩
abbrev main_v57 : Ref sig .tc := ⟨.hbm, 126, rfl⟩
abbrev main_c_19 : Ref sig .tc := ⟨.hbm, 127, rfl⟩
abbrev main_v58 : Ref sig .tc := ⟨.hbm, 128, rfl⟩
abbrev main_v59 : Ref sig .tc := ⟨.hbm, 129, rfl⟩
abbrev main_c_20 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_c_21 : Ref sig .tc := ⟨.hbm, 136, rfl⟩
abbrev main_call7_v0 : Ref sig .tc := ⟨.hbm, 137, rfl⟩
abbrev main_call7_v1 : Ref sig .tc := ⟨.hbm, 138, rfl⟩
abbrev main_v66 : Ref sig .tc := ⟨.hbm, 139, rfl⟩
abbrev main_call8_call0_c : Ref sig .tc := ⟨.hbm, 140, rfl⟩
abbrev main_call8_call0_v0 : Ref sig .tc := ⟨.hbm, 141, rfl⟩
abbrev main_v67 : Ref sig .tc := ⟨.hbm, 142, rfl⟩
abbrev main_c_22 : Ref sig .tc := ⟨.hbm, 143, rfl⟩
abbrev main_v68 : Ref sig .tc := ⟨.hbm, 144, rfl⟩
abbrev main_v69 : Ref sig .tc := ⟨.hbm, 145, rfl⟩
abbrev main_c_23 : Ref sig .tc := ⟨.hbm, 146, rfl⟩
abbrev main_v70 : Ref sig .tc := ⟨.hbm, 147, rfl⟩
abbrev main_v73 : Ref sig .tc := ⟨.hbm, 148, rfl⟩
abbrev main_v19 : Ref sig .tc := ⟨.smem, 0, rfl⟩
abbrev main_v40 : Ref sig .tc := ⟨.smem, 1, rfl⟩
abbrev main_v72 : Ref sig .tc := ⟨.smem, 2, rfl⟩
abbrev main_v65 : Ref sig .tc := ⟨.smem, 3, rfl⟩
abbrev main_v71 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![159], ![false]⟩

abbrev pre0 : Pipeline.Prefetch sig := ⟨5, ![main_v19.idx, main_v40.idx, main_v72.idx, main_v65.idx, main_v71.idx], fun | 0 => main_v19.names | 1 => main_v40.names | 2 => main_v72.names | 3 => main_v65.names | 4 => main_v71.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off2 (v23 : BitVec 32) : Fin 3 → Nat :=
  let c0_i32_11 : BitVec 32 := 0#32
  let c0_i32_12 : BitVec 32 := 0#32
  ![v23.toNat, 0, 0]

def k0_off3 (v23 : BitVec 32) : Fin 3 → Nat :=
  let c0_i32_17 : BitVec 32 := 0#32
  let c0_i32_18 : BitVec 32 := 0#32
  ![v23.toNat, 0, 0]

def k0_chk1 (i : grid0.Coords) (v23 : BitVec 32) : Prop :=
  (∀ (k0_h1 : k0_cond1 i = 1#1), ∀ a, (k0_off2 v23) a + S1x1024x2048.size a ≤ S32x1024x2048.size a) ∧
  (∀ (k0_h1 : k0_cond1 i = 1#1), ∀ a, (k0_off3 v23) a + S1x1024x1024.size a ≤ S32x1024x1024.size a)
theorem k0_off2_inb : ∀ (i : grid0.Coords) (v23 : BitVec 32) (k0_hw1 : k0_chk1 i v23), ∀ (k0_h1 : k0_cond1 i = 1#1), ∀ a, (k0_off2 v23) a + S1x1024x2048.size a ≤ S32x1024x2048.size a := fun i v23 k0_hw1 k0_h1 => k0_hw1.1 k0_h1
theorem k0_off3_inb : ∀ (i : grid0.Coords) (v23 : BitVec 32) (k0_hw1 : k0_chk1 i v23), ∀ (k0_h1 : k0_cond1 i = 1#1), ∀ a, (k0_off3 v23) a + S1x1024x1024.size a ≤ S32x1024x1024.size a := fun i v23 k0_hw1 k0_h1 => k0_hw1.2 k0_h1

def k0_off4 (i : grid0.Coords) : Fin 1 → Nat :=
  let arg0 : BitVec 32 := BitVec.ofNat 32 (i 0).val
  let v23 : Index := Scalar.indexCast arg0
  ![v23.toNat]
def k0_off5 (v24 : BitVec 32) : Fin 1 → Nat :=
  ![v24.toNat]
def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def k0_off6 (v24 : BitVec 32) : Fin 3 → Nat :=
  let c0_i32_7 : BitVec 32 := 0#32
  let c0_i32_8 : BitVec 32 := 0#32
  ![v24.toNat, 0, 0]
def k0_off7 (v26 : BitVec 32) : Fin 3 → Nat :=
  let c0_i32_9 : BitVec 32 := 0#32
  let c0_i32_10 : BitVec 32 := 0#32
  ![v26.toNat, 0, 0]

def k0_off8 (v24 : BitVec 32) : Fin 1 → Nat :=
  ![v24.toNat]
def k0_off9 (v24 : BitVec 32) : Fin 3 → Nat :=
  let c0_i32_11 : BitVec 32 := 0#32
  let c0_i32_12 : BitVec 32 := 0#32
  ![v24.toNat, 0, 0]
def k0_off10 (v26 : BitVec 32) : Fin 3 → Nat :=
  let c0_i32_13 : BitVec 32 := 0#32
  let c0_i32_14 : BitVec 32 := 0#32
  ![v26.toNat, 0, 0]

def k0_chk3 (v4 : BitVec 32) (v26 : BitVec 32) : Prop :=
  (∀ (k0_h2 : k0_cond2 v4 = 1#1), ∀ a, (k0_off7 v26) a + S1x1024x2048.size a ≤ S32x1024x2048.size a) ∧
  (∀ (k0_h2 : k0_cond2 v4 = 1#1), ∀ a, (k0_off10 v26) a + S1x1024x1024.size a ≤ S32x1024x1024.size a)
theorem k0_off7_inb : ∀ (v4 : BitVec 32) (v26 : BitVec 32) (k0_hw3 : k0_chk3 v4 v26), ∀ (k0_h2 : k0_cond2 v4 = 1#1), ∀ a, (k0_off7 v26) a + S1x1024x2048.size a ≤ S32x1024x2048.size a := fun v4 v26 k0_hw3 k0_h2 => k0_hw3.1 k0_h2
theorem k0_off10_inb : ∀ (v4 : BitVec 32) (v26 : BitVec 32) (k0_hw3 : k0_chk3 v4 v26), ∀ (k0_h2 : k0_cond2 v4 = 1#1), ∀ a, (k0_off10 v26) a + S1x1024x1024.size a ≤ S32x1024x1024.size a := fun v4 v26 k0_hw3 k0_h2 => k0_hw3.2 k0_h2

def k0_off11 (i : grid0.Coords) : Fin 1 → Nat :=
  let arg0 : BitVec 32 := BitVec.ofNat 32 (i 0).val
  let v39 : Index := Scalar.indexCast arg0
  ![v39.toNat]
def k0_off12 (i : grid0.Coords) : Fin 1 → Nat :=
  let arg0 : BitVec 32 := BitVec.ofNat 32 (i 0).val
  let v58 : Index := Scalar.indexCast arg0
  ![v58.toNat]
def k0_off13 (v24 : BitVec 32) : Fin 1 → Nat :=
  let c1_i32_24 : BitVec 32 := 1#32
  let v60 : BitVec 32 := Scalar.subi c1_i32_24 v24
  ![v60.toNat]
def k0_cond3 (v40 : BitVec 32) : BitVec 1 :=
  let c0_i32_15 : BitVec 32 := 0#32
  let v41 : BitVec 1 := Scalar.cmpi .sge v40 c0_i32_15
  let v42 : BitVec 32 := Scalar.extui v41
  let c0_i32_16 : BitVec 32 := 0#32
  let v43 : BitVec 1 := Scalar.cmpi .ne v42 c0_i32_16
  v43

def k0_off14 (v24 : BitVec 32) : Fin 3 → Nat :=
  let c1_i32_24 : BitVec 32 := 1#32
  let v60 : BitVec 32 := Scalar.subi c1_i32_24 v24
  let c0_i32_25 : BitVec 32 := 0#32
  let c0_i32_26 : BitVec 32 := 0#32
  ![v60.toNat, 0, 0]
def k0_off15 (v59 : BitVec 32) : Fin 3 → Nat :=
  let c0_i32_27 : BitVec 32 := 0#32
  let c0_i32_28 : BitVec 32 := 0#32
  ![v59.toNat, 0, 0]

def k0_off16 (v24 : BitVec 32) : Fin 1 → Nat :=
  let c1_i32_24 : BitVec 32 := 1#32
  let v60 : BitVec 32 := Scalar.subi c1_i32_24 v24
  ![v60.toNat]
def k0_off17 (v24 : BitVec 32) : Fin 3 → Nat :=
  let c1_i32_24 : BitVec 32 := 1#32
  let v60 : BitVec 32 := Scalar.subi c1_i32_24 v24
  let c0_i32_29 : BitVec 32 := 0#32
  let c0_i32_30 : BitVec 32 := 0#32
  ![v60.toNat, 0, 0]

def k0_chk4 (v4 : BitVec 32) (v24 : BitVec 32) (v40 : BitVec 32) : Prop :=
  (∀ (k0_h2 : k0_cond2 v4 = 1#1), ∀ (k0_h3 : k0_cond3 v40 = 1#1), ∀ a, (k0_off13 v24) a + S1.size a ≤ S2.size a) ∧
  (∀ (k0_h2 : k0_cond2 v4 = 1#1), ∀ (k0_h3 : k0_cond3 v40 = 1#1), ∀ a, (k0_off14 v24) a + S1x1024x2048.size a ≤ S2x1024x2048.size a) ∧
  (∀ (k0_h2 : k0_cond2 v4 = 1#1), ∀ (k0_h3 : k0_cond3 v40 = 1#1), ∀ a, (k0_off16 v24) a + S1.size a ≤ S2.size a) ∧
  (∀ (k0_h2 : k0_cond2 v4 = 1#1), ∀ (k0_h3 : k0_cond3 v40 = 1#1), ∀ a, (k0_off17 v24) a + S1x1024x1024.size a ≤ S2x1024x1024.size a)
theorem k0_off13_inb : ∀ (v4 : BitVec 32) (v24 : BitVec 32) (v40 : BitVec 32) (k0_hw4 : k0_chk4 v4 v24 v40), ∀ (k0_h2 : k0_cond2 v4 = 1#1), ∀ (k0_h3 : k0_cond3 v40 = 1#1), ∀ a, (k0_off13 v24) a + S1.size a ≤ S2.size a := fun v4 v24 v40 k0_hw4 k0_h2 k0_h3 => k0_hw4.1 k0_h2 k0_h3
theorem k0_off14_inb : ∀ (v4 : BitVec 32) (v24 : BitVec 32) (v40 : BitVec 32) (k0_hw4 : k0_chk4 v4 v24 v40), ∀ (k0_h2 : k0_cond2 v4 = 1#1), ∀ (k0_h3 : k0_cond3 v40 = 1#1), ∀ a, (k0_off14 v24) a + S1x1024x2048.size a ≤ S2x1024x2048.size a := fun v4 v24 v40 k0_hw4 k0_h2 k0_h3 => k0_hw4.2.1 k0_h2 k0_h3
theorem k0_off16_inb : ∀ (v4 : BitVec 32) (v24 : BitVec 32) (v40 : BitVec 32) (k0_hw4 : k0_chk4 v4 v24 v40), ∀ (k0_h2 : k0_cond2 v4 = 1#1), ∀ (k0_h3 : k0_cond3 v40 = 1#1), ∀ a, (k0_off16 v24) a + S1.size a ≤ S2.size a := fun v4 v24 v40 k0_hw4 k0_h2 k0_h3 => k0_hw4.2.2.1 k0_h2 k0_h3
theorem k0_off17_inb : ∀ (v4 : BitVec 32) (v24 : BitVec 32) (v40 : BitVec 32) (k0_hw4 : k0_chk4 v4 v24 v40), ∀ (k0_h2 : k0_cond2 v4 = 1#1), ∀ (k0_h3 : k0_cond3 v40 = 1#1), ∀ a, (k0_off17 v24) a + S1x1024x1024.size a ≤ S2x1024x1024.size a := fun v4 v24 v40 k0_hw4 k0_h2 k0_h3 => k0_hw4.2.2.2 k0_h2 k0_h3

def k0_off18 (v59 : BitVec 32) : Fin 3 → Nat :=
  let c0_i32_31 : BitVec 32 := 0#32
  let c0_i32_32 : BitVec 32 := 0#32
  ![v59.toNat, 0, 0]

def k0_chk5 (v4 : BitVec 32) (v40 : BitVec 32) (v59 : BitVec 32) : Prop :=
  (∀ (k0_h2 : k0_cond2 v4 = 1#1), ∀ (k0_h3 : k0_cond3 v40 = 1#1), ∀ a, (k0_off15 v59) a + S1x1024x2048.size a ≤ S32x1024x2048.size a) ∧
  (∀ (k0_h2 : k0_cond2 v4 = 1#1), ∀ (k0_h3 : k0_cond3 v40 = 1#1), ∀ a, (k0_off18 v59) a + S1x1024x1024.size a ≤ S32x1024x1024.size a)
theorem k0_off15_inb : ∀ (v4 : BitVec 32) (v40 : BitVec 32) (v59 : BitVec 32) (k0_hw5 : k0_chk5 v4 v40 v59), ∀ (k0_h2 : k0_cond2 v4 = 1#1), ∀ (k0_h3 : k0_cond3 v40 = 1#1), ∀ a, (k0_off15 v59) a + S1x1024x2048.size a ≤ S32x1024x2048.size a := fun v4 v40 v59 k0_hw5 k0_h2 k0_h3 => k0_hw5.1 k0_h2 k0_h3
theorem k0_off18_inb : ∀ (v4 : BitVec 32) (v40 : BitVec 32) (v59 : BitVec 32) (k0_hw5 : k0_chk5 v4 v40 v59), ∀ (k0_h2 : k0_cond2 v4 = 1#1), ∀ (k0_h3 : k0_cond3 v40 = 1#1), ∀ a, (k0_off18 v59) a + S1x1024x1024.size a ≤ S32x1024x1024.size a := fun v4 v40 v59 k0_hw5 k0_h2 k0_h3 => k0_hw5.2 k0_h2 k0_h3

def k0_off19 (v24 : BitVec 32) : Fin 3 → Nat :=
  let v44 : Index := Scalar.indexCast v24
  let c0 : Index := 0#32
  let c0_17 : Index := 0#32
  ![v44.toNat, 0, 0]
def k0_off20 (v24 : BitVec 32) : Fin 3 → Nat :=
  let v51 : Index := Scalar.indexCast v24
  let c0_20 : Index := 0#32
  let c0_21 : Index := 0#32
  ![v51.toNat, 0, 0]

def k0_chk2 (v4 : BitVec 32) (v24 : BitVec 32) : Prop :=
  (∀ (k0_h2 : k0_cond2 v4 = 1#1), ∀ a, (k0_off5 v24) a + S1.size a ≤ S2.size a) ∧
  (∀ (k0_h2 : k0_cond2 v4 = 1#1), ∀ a, (k0_off6 v24) a + S1x1024x2048.size a ≤ S2x1024x2048.size a) ∧
  (∀ (k0_h2 : k0_cond2 v4 = 1#1), ∀ a, (k0_off8 v24) a + S1.size a ≤ S2.size a) ∧
  (∀ (k0_h2 : k0_cond2 v4 = 1#1), ∀ a, (k0_off9 v24) a + S1x1024x1024.size a ≤ S2x1024x1024.size a) ∧
  (∀ (k0_h2 : k0_cond2 v4 = 1#1), ∀ a, (k0_off19 v24) a + S1x1024x2048.size a ≤ S2x1024x2048.size a) ∧
  (∀ (k0_h2 : k0_cond2 v4 = 1#1), ∀ a, (k0_off20 v24) a + S1x1024x1024.size a ≤ S2x1024x1024.size a)
theorem k0_off5_inb : ∀ (v4 : BitVec 32) (v24 : BitVec 32) (k0_hw2 : k0_chk2 v4 v24), ∀ (k0_h2 : k0_cond2 v4 = 1#1), ∀ a, (k0_off5 v24) a + S1.size a ≤ S2.size a := fun v4 v24 k0_hw2 k0_h2 => k0_hw2.1 k0_h2
theorem k0_off6_inb : ∀ (v4 : BitVec 32) (v24 : BitVec 32) (k0_hw2 : k0_chk2 v4 v24), ∀ (k0_h2 : k0_cond2 v4 = 1#1), ∀ a, (k0_off6 v24) a + S1x1024x2048.size a ≤ S2x1024x2048.size a := fun v4 v24 k0_hw2 k0_h2 => k0_hw2.2.1 k0_h2
theorem k0_off8_inb : ∀ (v4 : BitVec 32) (v24 : BitVec 32) (k0_hw2 : k0_chk2 v4 v24), ∀ (k0_h2 : k0_cond2 v4 = 1#1), ∀ a, (k0_off8 v24) a + S1.size a ≤ S2.size a := fun v4 v24 k0_hw2 k0_h2 => k0_hw2.2.2.1 k0_h2
theorem k0_off9_inb : ∀ (v4 : BitVec 32) (v24 : BitVec 32) (k0_hw2 : k0_chk2 v4 v24), ∀ (k0_h2 : k0_cond2 v4 = 1#1), ∀ a, (k0_off9 v24) a + S1x1024x1024.size a ≤ S2x1024x1024.size a := fun v4 v24 k0_hw2 k0_h2 => k0_hw2.2.2.2.1 k0_h2
theorem k0_off19_inb : ∀ (v4 : BitVec 32) (v24 : BitVec 32) (k0_hw2 : k0_chk2 v4 v24), ∀ (k0_h2 : k0_cond2 v4 = 1#1), ∀ a, (k0_off19 v24) a + S1x1024x2048.size a ≤ S2x1024x2048.size a := fun v4 v24 k0_hw2 k0_h2 => k0_hw2.2.2.2.2.1 k0_h2
theorem k0_off20_inb : ∀ (v4 : BitVec 32) (v24 : BitVec 32) (k0_hw2 : k0_chk2 v4 v24), ∀ (k0_h2 : k0_cond2 v4 = 1#1), ∀ a, (k0_off20 v24) a + S1x1024x1024.size a ≤ S2x1024x1024.size a := fun v4 v24 k0_hw2 k0_h2 => k0_hw2.2.2.2.2.2 k0_h2

def k0_off21 (i : grid0.Coords) : Fin 1 → Nat :=
  let arg0 : BitVec 32 := BitVec.ofNat 32 (i 0).val
  let v8 : Index := Scalar.indexCast arg0
  ![v8.toNat]
def k0_off22 (i : grid0.Coords) : Fin 1 → Nat :=
  let arg0 : BitVec 32 := BitVec.ofNat 32 (i 0).val
  let v13 : Index := Scalar.indexCast arg0
  ![v13.toNat]
def k0_off23 (i : grid0.Coords) : Fin 1 → Nat :=
  let arg0 : BitVec 32 := BitVec.ofNat 32 (i 0).val
  let v18 : Index := Scalar.indexCast arg0
  ![v18.toNat]
def k0_cond4 (v9 : BitVec 32) : BitVec 1 :=
  let c0_i32_2 : BitVec 32 := 0#32
  let v10 : BitVec 1 := Scalar.cmpi .eq v9 c0_i32_2
  let v11 : BitVec 32 := Scalar.extui v10
  let c0_i32_3 : BitVec 32 := 0#32
  let v12 : BitVec 1 := Scalar.cmpi .ne v11 c0_i32_3
  v12

def k0_cond5 (v14 : BitVec 32) : BitVec 1 :=
  let c1_i32_4 : BitVec 32 := 1#32
  let v15 : BitVec 1 := Scalar.cmpi .eq v14 c1_i32_4
  let v16 : BitVec 32 := Scalar.extui v15
  let c0_i32_5 : BitVec 32 := 0#32
  let v17 : BitVec 1 := Scalar.cmpi .ne v16 c0_i32_5
  v17

def k0_cond6 (v19 : BitVec 32) : BitVec 1 :=
  let c2_i32 : BitVec 32 := 2#32
  let v20 : BitVec 1 := Scalar.cmpi .eq v19 c2_i32
  let v21 : BitVec 32 := Scalar.extui v20
  let c0_i32_6 : BitVec 32 := 0#32
  let v22 : BitVec 1 := Scalar.cmpi .ne v21 c0_i32_6
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S159.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S159.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S159) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S32 : Shape := ⟨1, ![32]⟩
abbrev S651264x128 : Shape := ⟨2, ![651264, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S159 : Shape := ⟨1, ![159]⟩
abbrev S1x32 : Shape := ⟨2, ![1, 32]⟩
abbrev S159x1 : Shape := ⟨2, ![159, 1]⟩
abbrev S159x32 : Shape := ⟨2, ![159, 32]⟩
abbrev S1 : Shape := ⟨1, ![1]⟩
abbrev S159x512x1024 : Shape := ⟨3, ![159, 512, 1024]⟩
abbrev S159x1024x2048 : Shape := ⟨3, ![159, 1024, 2048]⟩
abbrev S159x512x2048 : Shape := ⟨3, ![159, 512, 2048]⟩
abbrev S159x2048 : Shape := ⟨2, ![159, 2048]⟩
abbrev S159x1x2048 : Shape := ⟨3, ![159, 1, 2048]⟩
abbrev S159x1024x1024 : Shape := ⟨3, ![159, 1024, 1024]⟩
abbrev S159x1024 : Shape := ⟨2, ![159, 1024]⟩
abbrev S159x1x1024 : Shape := ⟨3, ![159, 1, 1024]⟩
abbrev S512 : Shape := ⟨1, ![512]⟩
abbrev S1x512 : Shape := ⟨2, ![1, 512]⟩
abbrev S159x512 : Shape := ⟨2, ![159, 512]⟩
abbrev S159x512x1 : Shape := ⟨3, ![159, 512, 1]⟩

abbrev nBuf : Space → Nat
  | .hbm => 190
  | .vmem => 0
  | .smem => 0
  | _ => 0

abbrev hbmTy0_0 (i : Nat) : BufTy := match i % 128 with
  | 0 => ⟨S32, .i32⟩
  | 1 => ⟨S651264x128, .f32⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S159, .i32⟩
  | 37 => ⟨S_, .i32⟩
  | 38 => ⟨S159, .i32⟩
  | 39 => ⟨S159, .i32⟩
  | 40 => ⟨S1x32, .i32⟩
  | 41 => ⟨S159x1, .i32⟩
  | 42 => ⟨S159x32, .i32⟩
  | 43 => ⟨S159x32, .i32⟩
  | 44 => ⟨S159x32, .i1⟩
  | 45 => ⟨S159x32, .i32⟩
  | 46 => ⟨S_, .i32⟩
  | 47 => ⟨S159, .i32⟩
  | 48 => ⟨S_, .i32⟩
  | 49 => ⟨S159, .i32⟩
  | 50 => ⟨S159, .i32⟩
  | 51 => ⟨S32, .i32⟩
  | 52 => ⟨S32, .i32⟩
  | 53 => ⟨S_, .i32⟩
  | 54 => ⟨S159, .i32⟩
  | 55 => ⟨S159, .i1⟩
  | 56 => ⟨S_, .i32⟩
  | 57 => ⟨S159, .i32⟩
  | 58 => ⟨S159, .i32⟩
  | 59 => ⟨S159, .i32⟩
  | 60 => ⟨S159x1, .i32⟩
  | 61 => ⟨S159, .i32⟩
  | 62 => ⟨S159, .i32⟩
  | 63 => ⟨S_, .i32⟩
  | 64 => ⟨S_, .i32⟩
  | 65 => ⟨S_, .i32⟩
  | 66 => ⟨S159, .i32⟩
  | 67 => ⟨S159, .i32⟩
  | 68 => ⟨S_, .i32⟩
  | 69 => ⟨S159, .i32⟩
  | 70 => ⟨S159, .i32⟩
  | 71 => ⟨S1, .i32⟩
  | 72 => ⟨S_, .i32⟩
  | 73 => ⟨S159, .i32⟩
  | 74 => ⟨S159, .i1⟩
  | 75 => ⟨S_, .i32⟩
  | 76 => ⟨S159, .i32⟩
  | 77 => ⟨S159, .i32⟩
  | 78 => ⟨S_, .i32⟩
  | 79 => ⟨S_, .i32⟩
  | 80 => ⟨S159, .i32⟩
  | 81 => ⟨S159, .i32⟩
  | 82 => ⟨S159, .i32⟩
  | 83 => ⟨S_, .i32⟩
  | 84 => ⟨S159, .i32⟩
  | 85 => ⟨S159, .i1⟩
  | 86 => ⟨S159, .i32⟩
  | 87 => ⟨S159, .i32⟩
  | 88 => ⟨S_, .i32⟩
  | 89 => ⟨S159, .i32⟩
  | 90 => ⟨S159, .i1⟩
  | 91 => ⟨S159, .i1⟩
  | 92 => ⟨S_, .i32⟩
  | 93 => ⟨S159, .i32⟩
  | 94 => ⟨S159, .i32⟩
  | 95 => ⟨S159, .i32⟩
  | 96 => ⟨S_, .i32⟩
  | 97 => ⟨S_, .i32⟩
  | 98 => ⟨S159, .i32⟩
  | 99 => ⟨S159, .i32⟩
  | 100 => ⟨S159x512x1024, .f32⟩
  | 101 => ⟨S_, .i32⟩
  | 102 => ⟨S159, .i32⟩
  | 103 => ⟨S159, .i1⟩
  | 104 => ⟨S_, .i32⟩
  | 105 => ⟨S159, .i32⟩
  | 106 => ⟨S159, .i32⟩
  | 107 => ⟨S159, .i32⟩
  | 108 => ⟨S159x1, .i32⟩
  | 109 => ⟨S159x1024x2048, .f32⟩
  | 110 => ⟨S159x512x2048, .f32⟩
  | 111 => ⟨S_, .i32⟩
  | 112 => ⟨S159, .i32⟩
  | 113 => ⟨S159, .i1⟩
  | 114 => ⟨S_, .i32⟩
  | 115 => ⟨S159, .i32⟩
  | 116 => ⟨S159, .i32⟩
  | 117 => ⟨S159, .i32⟩
  | 118 => ⟨S159x1, .i32⟩
  | 119 => ⟨S159x2048, .f32⟩
  | 120 => ⟨S159x1x2048, .f32⟩
  | 121 => ⟨S159x512x2048, .f32⟩
  | 122 => ⟨S159x512x2048, .f32⟩
  | 123 => ⟨S159x512x1024, .f32⟩
  | 124 => ⟨S_, .f32⟩
  | 125 => ⟨S159x512x1024, .f32⟩
  | 126 => ⟨S159x512x1024, .f32⟩
  | 127 => ⟨S159x512x1024, .f32⟩
  | _ => ⟨S32, .i32⟩

abbrev hbmTy0_1 (i : Nat) : BufTy := match i % 128 with
  | 0 => ⟨S_, .f32⟩
  | 1 => ⟨S_, .f32⟩
  | 2 => ⟨S_, .f32⟩
  | 3 => ⟨S159x512x1024, .f32⟩
  | 4 => ⟨S159x512x1024, .f32⟩
  | 5 => ⟨S_, .f32⟩
  | 6 => ⟨S159x512x1024, .f32⟩
  | 7 => ⟨S159x512x1024, .f32⟩
  | 8 => ⟨S_, .f32⟩
  | 9 => ⟨S159x512x1024, .f32⟩
  | 10 => ⟨S159x512x1024, .f32⟩
  | 11 => ⟨S159x512x1024, .f32⟩
  | 12 => ⟨S159x512x1024, .f32⟩
  | 13 => ⟨S_, .f32⟩
  | 14 => ⟨S159x512x1024, .f32⟩
  | 15 => ⟨S159x512x1024, .f32⟩
  | 16 => ⟨S_, .f32⟩
  | 17 => ⟨S159x512x1024, .f32⟩
  | 18 => ⟨S159x512x1024, .f32⟩
  | 19 => ⟨S159x512x1024, .f32⟩
  | 20 => ⟨S_, .f32⟩
  | 21 => ⟨S159x512x1024, .f32⟩
  | 22 => ⟨S159x512x1024, .f32⟩
  | 23 => ⟨S159x512x1024, .f32⟩
  | 24 => ⟨S_, .i32⟩
  | 25 => ⟨S159, .i32⟩
  | 26 => ⟨S159, .i1⟩
  | 27 => ⟨S_, .i32⟩
  | 28 => ⟨S159, .i32⟩
  | 29 => ⟨S159, .i32⟩
  | 30 => ⟨S159, .i32⟩
  | 31 => ⟨S159x1, .i32⟩
  | 32 => ⟨S159x1024x1024, .f32⟩
  | 33 => ⟨S159x512x1024, .f32⟩
  | 34 => ⟨S_, .i32⟩
  | 35 => ⟨S159, .i32⟩
  | 36 => ⟨S159, .i1⟩
  | 37 => ⟨S_, .i32⟩
  | 38 => ⟨S159, .i32⟩
  | 39 => ⟨S159, .i32⟩
  | 40 => ⟨S159, .i32⟩
  | 41 => ⟨S159x1, .i32⟩
  | 42 => ⟨S159x1024, .f32⟩
  | 43 => ⟨S159x1x1024, .f32⟩
  | 44 => ⟨S159x512x1024, .f32⟩
  | 45 => ⟨S159x512x1024, .f32⟩
  | 46 => ⟨S512, .i32⟩
  | 47 => ⟨S1x512, .i32⟩
  | 48 => ⟨S_, .i32⟩
  | 49 => ⟨S159, .i32⟩
  | 50 => ⟨S159, .i32⟩
  | 51 => ⟨S159x1, .i32⟩
  | 52 => ⟨S159x512, .i32⟩
  | 53 => ⟨S159x512, .i32⟩
  | 54 => ⟨S159x512, .i1⟩
  | 55 => ⟨S159x512x1, .i1⟩
  | 56 => ⟨S_, .f32⟩
  | 57 => ⟨S_, .f32⟩
  | 58 => ⟨S159x512x1024, .i1⟩
  | 59 => ⟨S159x512x1024, .f32⟩
  | 60 => ⟨S159x512x1024, .f32⟩
  | 61 => ⟨S651264x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_6 : Ref sig .tc := ⟨.hbm, 53, rfl⟩
abbrev main_v22 : Ref sig .tc := ⟨.hbm, 54, rfl⟩
abbrev main_v23 : Ref sig .tc := ⟨.hbm, 55, rfl⟩
abbrev main_c_7 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_8 : Ref sig .tc := ⟨.hbm, 63, rfl⟩
abbrev main_c_9 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_10 : Ref sig .tc := ⟨.hbm, 75, rfl⟩
abbrev main_v35 : Ref sig .tc := ⟨.hbm, 76, rfl⟩
abbrev main_v36 : Ref sig .tc := ⟨.hbm, 77, rfl⟩
abbrev main_c_11 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_c : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_0 : Ref sig .tc := ⟨.hbm, 92, rfl⟩
abbrev main_call3_v12 : Ref sig .tc := ⟨.hbm, 93, rfl⟩
abbrev main_call3_v13 : Ref sig .tc := ⟨.hbm, 94, rfl⟩
abbrev main_v37 : Ref sig .tc := ⟨.hbm, 95, rfl⟩
abbrev main_c_12 : Ref sig .tc := ⟨.hbm, 96, rfl⟩
abbrev main_call4_v0 : Ref sig .tc := ⟨.hbm, 97, rfl⟩
abbrev main_call4_v1 : Ref sig .tc := ⟨.hbm, 98, rfl⟩
abbrev main_v38 : Ref sig .tc := ⟨.hbm, 99, rfl⟩
abbrev main_v39 : Ref sig .tc := ⟨.hbm, 100, rfl⟩
abbrev main_c_13 : Ref sig .tc := ⟨.hbm, 101, rfl⟩
abbrev main_v40 : Ref sig .tc := ⟨.hbm, 102, rfl⟩
abbrev main_v41 : Ref sig .tc := ⟨.hbm, 103, rfl⟩
abbrev main_c_14 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_c_15 : Ref sig .tc := ⟨.hbm, 111, rfl⟩
abbrev main_v48 : Ref sig .tc := ⟨.hbm, 112, rfl⟩
abbrev main_v49 : Ref sig .tc := ⟨.hbm, 113, rfl⟩
abbrev main_c_16 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_cst : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_cst_17 : Ref sig .tc := ⟨.hbm, 128, rfl⟩
abbrev main_cst_18 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_v62 : Ref sig .tc := ⟨.hbm, 135, rfl⟩
abbrev main_cst_19 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_cst_20 : Ref sig .tc := ⟨.hbm, 141, rfl⟩
abbrev main_v67 : Ref sig .tc := ⟨.hbm, 142, rfl⟩
abbrev main_v68 : Ref sig .tc := ⟨.hbm, 143, rfl⟩
abbrev main_cst_21 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_cst_22 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_c_23 : Ref sig .tc := ⟨.hbm, 152, rfl⟩
abbrev main_v75 : Ref sig .tc := ⟨.hbm, 153, rfl⟩
abbrev main_v76 : Ref sig .tc := ⟨.hbm, 154, rfl⟩
abbrev main_c_24 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_c_25 : Ref sig .tc := ⟨.hbm, 162, rfl⟩
abbrev main_v83 : Ref sig .tc := ⟨.hbm, 163, rfl⟩
abbrev main_v84 : Ref sig .tc := ⟨.hbm, 164, rfl⟩
abbrev main_c_26 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_c_27 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_cst_28 : Ref sig .tc := ⟨.hbm, 184, rfl⟩
abbrev main_call6_v0 : Ref sig .tc := ⟨.hbm, 185, rfl⟩
abbrev main_call6_v1 : Ref sig .tc := ⟨.hbm, 186, rfl⟩
abbrev main_call6_v2 : Ref sig .tc := ⟨.hbm, 187, rfl⟩
abbrev main_v102 : Ref sig .tc := ⟨.hbm, 188, rfl⟩
abbrev main_v103 : Ref sig .tc := ⟨.hbm, 189, rfl⟩

abbrev nD : Nat := 1
abbrev τ : Topo := Topo.v7x

variable {F : FTy → Type} [FloatOps F]
-- ==== Inproj.lean ====
abbrev S16384x1024 : Shape := ⟨2, ![16384, 1024]⟩
abbrev S1x1024 : Shape := ⟨2, ![1, 1024]⟩
abbrev S1024x1536 : Shape := ⟨2, ![1024, 1536]⟩
abbrev S1024x1024 : Shape := ⟨2, ![1024, 1024]⟩
abbrev S1024x128 : Shape := ⟨2, ![1024, 128]⟩
abbrev S128x512 : Shape := ⟨2, ![128, 512]⟩
abbrev S1x512 : Shape := ⟨2, ![1, 512]⟩
abbrev S16384x256 : Shape := ⟨2, ![16384, 256]⟩
abbrev S16384x512 : Shape := ⟨2, ![16384, 512]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S256x128 : Shape := ⟨2, ![256, 128]⟩
abbrev S256x256 : Shape := ⟨2, ![256, 256]⟩
abbrev S256x512 : Shape := ⟨2, ![256, 512]⟩

abbrev nBuf : Space → Nat
  | .hbm => 13
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1536, .bf16⟩
  | .hbm, ⟨3, _⟩ => ⟨S1024x1024, .bf16⟩
  | .hbm, ⟨4, _⟩ => ⟨S1024x128, .bf16⟩
  | .hbm, ⟨5, _⟩ => ⟨S128x512, .bf16⟩
  | .hbm, ⟨6, _⟩ => ⟨S1x512, .f32⟩
  | .hbm, ⟨7, _⟩ => ⟨S16384x256, .bf16⟩
  | .hbm, ⟨8, _⟩ => ⟨S16384x256, .bf16⟩
  | .hbm, ⟨9, _⟩ => ⟨S16384x512, .bf16⟩
  | .hbm, ⟨10, _⟩ => ⟨S16384x512, .bf16⟩
  | .hbm, ⟨11, _⟩ => ⟨S16384x512, .f32⟩
  | .hbm, ⟨12, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1024, .bf16⟩
  | .local _ .vmem, ⟨5, _⟩ => ⟨S1024x128, .bf16⟩
  | .local _ .vmem, ⟨6, _⟩ => ⟨S128x512, .bf16⟩
  | .local _ .vmem, ⟨7, _⟩ => ⟨S1x512, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojReferenceIdeal.lean ====
abbrev S16384x1024 : Shape := ⟨2, ![16384, 1024]⟩
abbrev S1x1024 : Shape := ⟨2, ![1, 1024]⟩
abbrev S1024x1536 : Shape := ⟨2, ![1024, 1536]⟩
abbrev S1024x1024 : Shape := ⟨2, ![1024, 1024]⟩
abbrev S1024x128 : Shape := ⟨2, ![1024, 128]⟩
abbrev S128x512 : Shape := ⟨2, ![128, 512]⟩
abbrev S1x512 : Shape := ⟨2, ![1, 512]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x1536 : Shape := ⟨2, ![16384, 1536]⟩
abbrev S16384x256 : Shape := ⟨2, ![16384, 256]⟩
abbrev S16384x512 : Shape := ⟨2, ![16384, 512]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1536, .bf16⟩
  | .hbm, ⟨3, _⟩ => ⟨S1024x1024, .bf16⟩
  | .hbm, ⟨4, _⟩ => ⟨S1024x128, .bf16⟩
  | .hbm, ⟨5, _⟩ => ⟨S128x512, .bf16⟩
  | .hbm, ⟨6, _⟩ => ⟨S1x512, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1024x1536, .f32⟩
  | .hbm, ⟨25, _⟩ => ⟨S16384x1536, .f32⟩
  | .hbm, ⟨26, _⟩ => ⟨S16384x256, .f32⟩
  | .hbm, ⟨27, _⟩ => ⟨S16384x256, .f32⟩
  | .hbm, ⟨28, _⟩ => ⟨S16384x512, .f32⟩
  | .hbm, ⟨29, _⟩ => ⟨S16384x512, .f32⟩
  | .hbm, ⟨30, _⟩ => ⟨S1024x1024, .f32⟩
  | .hbm, ⟨31, _⟩ => ⟨S16384x1024, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x256, .f32⟩
  | .hbm, ⟨36, _⟩ => ⟨S16384x256, .f32⟩
  | .hbm, ⟨37, _⟩ => ⟨S16384x256, .bf16⟩
  | .hbm, ⟨38, _⟩ => ⟨S16384x256, .bf16⟩
  | .hbm, ⟨39, _⟩ => ⟨S16384x512, .bf16⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .bf16⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Memkv.lean ====
abbrev S2048x1024 : Shape := ⟨2, ![2048, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S2048x1024, .bf16⟩
  | .hbm, ⟨5, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemkvReferenceIdeal.lean ====
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S1024x1024, .f32⟩
  | .hbm, ⟨22, _⟩ => ⟨S2048x1024, .f32⟩
  | .hbm, ⟨23, _⟩ => ⟨S2048x1024, .bf16⟩
  | .hbm, ⟨24, _⟩ => ⟨S1024x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.BodyKernelIdeal.lean ====
/- The run of the kernel's body on its blocks: what each output window holds afterwards, the pipeline's proof data
   over it, and the run of the whole program with its frame. The rows of window 13 are stored eight strided planes
   to a half, so its cover is proved here by reducing a row modulo eight. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Mathlib.Tactic.IntervalCases

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev r0_0 : Rect S512x512 := Rect.unit (s := S512x512) ![0, 0] S256x512.size inb_S512x512_S256x512_0_0
abbrev r0_1 : Rect S512x1024 := Rect.unit (s := S512x1024) ![0, 0] S256x1024.size inb_S512x1024_S256x1024_0_0
abbrev r0_2 : Rect S1024x1024 := Rect.unit (s := S1024x1024) ![0, 0] S1024x1024.size inb_S1024x1024_S1024x1024_0_0
abbrev r0_3 : Rect S512x512 := Rect.unit (s := S512x512) ![256, 0] S256x512.size inb_S512x512_S256x512_256_0
abbrev r0_4 : Rect S512x1024 := Rect.unit (s := S512x1024) ![256, 0] S256x1024.size inb_S512x1024_S256x1024_256_0
abbrev r0_5 : Rect S1x1024 := Rect.unit (s := S1x1024) ![0, 0] S1x1024.size inb_S1x1024_S1x1024_0_0
abbrev r0_6 : Rect S256x1024 := Rect.unit (s := S256x1024) ![0, 0] S256x256.size inb_S256x1024_S256x256_0_0
abbrev r0_7 : Rect S256x1024 := Rect.unit (s := S256x1024) ![0, 256] S256x256.size inb_S256x1024_S256x256_0_256
abbrev r0_8 : Rect S256x1024 := Rect.unit (s := S256x1024) ![0, 512] S256x256.size inb_S256x1024_S256x256_0_512
abbrev r0_9 : Rect S256x1024 := Rect.unit (s := S256x1024) ![0, 768] S256x256.size inb_S256x1024_S256x256_0_768
abbrev r0_10 : Rect S1024x128 := Rect.unit (s := S1024x128) ![0, 0] S1024x128.size inb_S1024x128_S1024x128_0_0
abbrev r0_11 : Rect S1x128 := Rect.unit (s := S1x128) ![0, 0] S1x128.size inb_S1x128_S1x128_0_0
abbrev r0_12 : Rect S512x128 := Rect.unit (s := S512x128) ![0, 0] S256x128.size inb_S512x128_S256x128_0_0
abbrev r0_13 : Rect S512x128 := Rect.unit (s := S512x128) ![256, 0] S256x128.size inb_S512x128_S256x128_256_0
abbrev r0_14 : Rect S8x512 := Rect.unit (s := S8x512) ![0, 0] S8x256.size inb_S8x512_S8x256_0_0
abbrev r0_15 : Rect S8x512 := Rect.unit (s := S8x512) ![0, 256] S8x256.size inb_S8x512_S8x256_0_256
abbrev s0_0 : Rect S4096x128 := (Rect.unit (s := S4096x128) ![0, 0] S2048x128.size inb_S4096x128_S2048x128_0_0).within (⟨(⟨![0, 0], S256x128.size, ![8, 1], inb_S2048x128_S256x128_0_0_s_8_1⟩ : LoadRect S2048x128), spos_8_1⟩ : Rect S2048x128) (fun _ => rfl)
abbrev s0_1 : Rect S4096x128 := (Rect.unit (s := S4096x128) ![0, 0] S2048x128.size inb_S4096x128_S2048x128_0_0).within (⟨(⟨![1, 0], S256x128.size, ![8, 1], inb_S2048x128_S256x128_1_0_s_8_1⟩ : LoadRect S2048x128), spos_8_1⟩ : Rect S2048x128) (fun _ => rfl)
abbrev s0_2 : Rect S4096x128 := (Rect.unit (s := S4096x128) ![0, 0] S2048x128.size inb_S4096x128_S2048x128_0_0).within (⟨(⟨![2, 0], S256x128.size, ![8, 1], inb_S2048x128_S256x128_2_0_s_8_1⟩ : LoadRect S2048x128), spos_8_1⟩ : Rect S2048x128) (fun _ => rfl)
abbrev s0_3 : Rect S4096x128 := (Rect.unit (s := S4096x128) ![0, 0] S2048x128.size inb_S4096x128_S2048x128_0_0).within (⟨(⟨![3, 0], S256x128.size, ![8, 1], inb_S2048x128_S256x128_3_0_s_8_1⟩ : LoadRect S2048x128), spos_8_1⟩ : Rect S2048x128) (fun _ => rfl)
abbrev s0_4 : Rect S4096x128 := (Rect.unit (s := S4096x128) ![0, 0] S2048x128.size inb_S4096x128_S2048x128_0_0).within (⟨(⟨![4, 0], S256x128.size, ![8, 1], inb_S2048x128_S256x128_4_0_s_8_1⟩ : LoadRect S2048x128), spos_8_1⟩ : Rect S2048x128) (fun _ => rfl)
abbrev s0_5 : Rect S4096x128 := (Rect.unit (s := S4096x128) ![0, 0] S2048x128.size inb_S4096x128_S2048x128_0_0).within (⟨(⟨![5, 0], S256x128.size, ![8, 1], inb_S2048x128_S256x128_5_0_s_8_1⟩ : LoadRect S2048x128), spos_8_1⟩ : Rect S2048x128) (fun _ => rfl)
abbrev s0_6 : Rect S4096x128 := (Rect.unit (s := S4096x128) ![0, 0] S2048x128.size inb_S4096x128_S2048x128_0_0).within (⟨(⟨![6, 0], S256x128.size, ![8, 1], inb_S2048x128_S256x128_6_0_s_8_1⟩ : LoadRect S2048x128), spos_8_1⟩ : Rect S2048x128) (fun _ => rfl)
abbrev s0_7 : Rect S4096x128 := (Rect.unit (s := S4096x128) ![0, 0] S2048x128.size inb_S4096x128_S2048x128_0_0).within (⟨(⟨![7, 0], S256x128.size, ![8, 1], inb_S2048x128_S256x128_7_0_s_8_1⟩ : LoadRect S2048x128), spos_8_1⟩ : Rect S2048x128) (fun _ => rfl)
abbrev s0_8 : Rect S4096x128 := (Rect.unit (s := S4096x128) ![2048, 0] S2048x128.size inb_S4096x128_S2048x128_2048_0).within (⟨(⟨![0, 0], S256x128.size, ![8, 1], inb_S2048x128_S256x128_0_0_s_8_1⟩ : LoadRect S2048x128), spos_8_1⟩ : Rect S2048x128) (fun _ => rfl)
abbrev s0_9 : Rect S4096x128 := (Rect.unit (s := S4096x128) ![2048, 0] S2048x128.size inb_S4096x128_S2048x128_2048_0).within (⟨(⟨![1, 0], S256x128.size, ![8, 1], inb_S2048x128_S256x128_1_0_s_8_1⟩ : LoadRect S2048x128), spos_8_1⟩ : Rect S2048x128) (fun _ => rfl)
abbrev s0_10 : Rect S4096x128 := (Rect.unit (s := S4096x128) ![2048, 0] S2048x128.size inb_S4096x128_S2048x128_2048_0).within (⟨(⟨![2, 0], S256x128.size, ![8, 1], inb_S2048x128_S256x128_2_0_s_8_1⟩ : LoadRect S2048x128), spos_8_1⟩ : Rect S2048x128) (fun _ => rfl)
abbrev s0_11 : Rect S4096x128 := (Rect.unit (s := S4096x128) ![2048, 0] S2048x128.size inb_S4096x128_S2048x128_2048_0).within (⟨(⟨![3, 0], S256x128.size, ![8, 1], inb_S2048x128_S256x128_3_0_s_8_1⟩ : LoadRect S2048x128), spos_8_1⟩ : Rect S2048x128) (fun _ => rfl)
abbrev s0_12 : Rect S4096x128 := (Rect.unit (s := S4096x128) ![2048, 0] S2048x128.size inb_S4096x128_S2048x128_2048_0).within (⟨(⟨![4, 0], S256x128.size, ![8, 1], inb_S2048x128_S256x128_4_0_s_8_1⟩ : LoadRect S2048x128), spos_8_1⟩ : Rect S2048x128) (fun _ => rfl)
abbrev s0_13 : Rect S4096x128 := (Rect.unit (s := S4096x128) ![2048, 0] S2048x128.size inb_S4096x128_S2048x128_2048_0).within (⟨(⟨![5, 0], S256x128.size, ![8, 1], inb_S2048x128_S256x128_5_0_s_8_1⟩ : LoadRect S2048x128), spos_8_1⟩ : Rect S2048x128) (fun _ => rfl)
abbrev s0_14 : Rect S4096x128 := (Rect.unit (s := S4096x128) ![2048, 0] S2048x128.size inb_S4096x128_S2048x128_2048_0).within (⟨(⟨![6, 0], S256x128.size, ![8, 1], inb_S2048x128_S256x128_6_0_s_8_1⟩ : LoadRect S2048x128), spos_8_1⟩ : Rect S2048x128) (fun _ => rfl)
abbrev s0_15 : Rect S4096x128 := (Rect.unit (s := S4096x128) ![2048, 0] S2048x128.size inb_S4096x128_S2048x128_2048_0).within (⟨(⟨![7, 0], S256x128.size, ![8, 1], inb_S2048x128_S256x128_7_0_s_8_1⟩ : LoadRect S2048x128), spos_8_1⟩ : Rect S2048x128) (fun _ => rfl)
def b0_v6 (x0 : Vec F S512x1024 .f32) (x1 : Vec F S512x512 .bf16) (x2 : Vec F S512x512 .bf16) (x3 : Vec F S1024x1024 .bf16) : FVec F S256x1024 .f32 :=
  k0_pay3 (View.ld x1 r0_0) (View.ld x2 r0_0) (View.ld x0 r0_1) (View.ld x3 r0_2)
def b0_v13 (x0 : Vec F S512x1024 .f32) (x1 : Vec F S512x512 .bf16) (x2 : Vec F S512x512 .bf16) (x3 : Vec F S1024x1024 .bf16) : FVec F S256x1024 .f32 :=
  k0_pay4 (View.ld x1 r0_3) (View.ld x2 r0_3) (View.ld x0 r0_4) (View.ld x3 r0_2)
def b0_v29 (x0 : Vec F S512x1024 .f32) (x1 : Vec F S512x512 .bf16) (x2 : Vec F S512x512 .bf16) (x3 : Vec F S1024x1024 .bf16) (x4 : Vec F S1x1024 .f32) (x5 : Vec F S1024x1024 .bf16) : FVec F S256x1024 .f32 :=
  k0_pay5 (View.ld x1 r0_0) (View.ld x2 r0_0) (View.ld x0 r0_1) (View.ld x3 r0_2) (View.ld x4 r0_5) (View.ld x5 r0_2)
def b0_v45 (x0 : Vec F S512x1024 .f32) (x1 : Vec F S512x512 .bf16) (x2 : Vec F S512x512 .bf16) (x3 : Vec F S1024x1024 .bf16) (x4 : Vec F S1x1024 .f32) (x5 : Vec F S1024x1024 .bf16) : FVec F S256x1024 .f32 :=
  k0_pay6 (b0_v13 x0 x1 x2 x3) (View.ld x4 r0_5) (View.ld x5 r0_2)
def b0_v51 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256x256 .f32 :=
  k0_pay7 (b0_v29 x0 x1 x2 x3 x4 x5) (View.ld x6 r0_6)
def b0_v57 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256x256 .f32 :=
  k0_pay8 (b0_v29 x0 x1 x2 x3 x4 x5) (View.ld x6 r0_7)
def b0_v63 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256x256 .f32 :=
  k0_pay9 (b0_v29 x0 x1 x2 x3 x4 x5) (View.ld x6 r0_8)
def b0_v67 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256x256 .f32 :=
  k0_pay10 (b0_v29 x0 x1 x2 x3 x4 x5) (View.ld x6 r0_9)
def b0_v68 : FVec F S256x256 .f32 :=
  k0_pay11 (F := F)
def b0_v69 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256x256 .f32 :=
  k0_pay12 (b0_v67 x0 x1 x2 x3 x4 x5 x6) (b0_v68 (F := F))
def b0_v75 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256x256 .f32 :=
  k0_pay13 (b0_v45 x0 x1 x2 x3 x4 x5) (View.ld x6 r0_6)
def b0_v81 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256x256 .f32 :=
  k0_pay14 (b0_v45 x0 x1 x2 x3 x4 x5) (View.ld x6 r0_7)
def b0_v87 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256x256 .f32 :=
  k0_pay15 (b0_v45 x0 x1 x2 x3 x4 x5) (View.ld x6 r0_8)
def b0_v93 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256x256 .f32 :=
  k0_pay16 (b0_v45 x0 x1 x2 x3 x4 x5) (View.ld x6 r0_9)
def b0_v105 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) : FVec F S256x256 .f32 :=
  k0_pay17 (b0_v51 x0 x1 x2 x3 x4 x5 x6) (View.ld x7 r0_6)
def b0_v106 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256 .f32 :=
  k0_pay18 (b0_v57 x0 x1 x2 x3 x4 x5 x6)
def b0_v117 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) : FVec F S256x256 .f32 :=
  k0_pay19 (b0_v57 x0 x1 x2 x3 x4 x5 x6) (b0_v106 x0 x1 x2 x3 x4 x5 x6) (View.ld x7 r0_7)
def b0_v129 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) : FVec F S256x256 .f32 :=
  k0_pay20 (b0_v63 x0 x1 x2 x3 x4 x5 x6) (View.ld x7 r0_8)
def b0_v141 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) : FVec F S256x256 .f32 :=
  k0_pay21 (b0_v69 x0 x1 x2 x3 x4 x5 x6) (View.ld x7 r0_9)
def b0_v150 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) : FVec F S256x256 .f32 :=
  k0_pay22 (b0_v75 x0 x1 x2 x3 x4 x5 x6)
def b0_v153 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) : FVec F S256x256 .f32 :=
  k0_pay23 (b0_v150 x0 x1 x2 x3 x4 x5 x6) (View.ld x7 r0_6)
def b0_v165 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) : FVec F S256x256 .f32 :=
  k0_pay24 (b0_v81 x0 x1 x2 x3 x4 x5 x6) (View.ld x7 r0_7)
def b0_v177 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) : FVec F S256x256 .f32 :=
  k0_pay25 (b0_v87 x0 x1 x2 x3 x4 x5 x6) (View.ld x7 r0_8)
def b0_v189 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) : FVec F S256x256 .f32 :=
  k0_pay26 (b0_v93 x0 x1 x2 x3 x4 x5 x6) (View.ld x7 r0_9)
def b0_v191 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) : FVec F S256x1024 .bf16 :=
  k0_pay27 (b0_v105 x0 x1 x2 x3 x4 x5 x6 x7) (b0_v117 x0 x1 x2 x3 x4 x5 x6 x7) (b0_v129 x0 x1 x2 x3 x4 x5 x6 x7) (b0_v141 x0 x1 x2 x3 x4 x5 x6 x7)
def b0_v199 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) : FVec F S256x1024 .f32 :=
  k0_pay29 (b0_v13 x0 x1 x2 x3) (b0_v153 x0 x1 x2 x3 x4 x5 x6 x7) (b0_v165 x0 x1 x2 x3 x4 x5 x6 x7) (b0_v177 x0 x1 x2 x3 x4 x5 x6 x7) (b0_v189 x0 x1 x2 x3 x4 x5 x6 x7) (View.ld x8 r0_2)
def b0_v213 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) : FVec F S256x1024 .f32 :=
  k0_pay30 (b0_v6 x0 x1 x2 x3) (b0_v191 x0 x1 x2 x3 x4 x5 x6 x7) (View.ld x8 r0_2) (View.ld x9 r0_5)
def b0_v223 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) : FVec F S256x128 .f32 :=
  k0_pay34 (b0_v6 x0 x1 x2 x3) (b0_v191 x0 x1 x2 x3 x4 x5 x6 x7) (View.ld x8 r0_2) (View.ld x9 r0_5)
def b0_v238 : IVec S256x128 32 :=
  iota .tc S256x128 32 [1] iota_S256x128_d1_w32
def b0_v244 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x128 .f32 :=
  k0_pay39 (b0_v213 x0 x1 x2 x3 x4 x5 x6 x7 x8 x9) (View.ld x10 r0_10) (View.ld x11 r0_11)
def b0_v247 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) : FVec F S256x1024 .f32 :=
  k0_pay40 (b0_v199 x0 x1 x2 x3 x4 x5 x6 x7 x8)
def b0_v258 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) : FVec F S256x1024 .f32 :=
  k0_pay41 (b0_v199 x0 x1 x2 x3 x4 x5 x6 x7 x8) (View.ld x9 r0_5) (b0_v247 x0 x1 x2 x3 x4 x5 x6 x7 x8)
def b0_v274 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) : FVec F S256x128 .f32 :=
  k0_pay47 (b0_v199 x0 x1 x2 x3 x4 x5 x6 x7 x8) (View.ld x9 r0_5) (b0_v247 x0 x1 x2 x3 x4 x5 x6 x7 x8)
def b0_v283 : IVec S256x128 32 :=
  iota .tc S256x128 32 [1] iota_S256x128_d1_w32
def b0_v289 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x128 .f32 :=
  k0_pay50 (b0_v258 x0 x1 x2 x3 x4 x5 x6 x7 x8 x9) (View.ld x10 r0_10) (View.ld x11 r0_11)
def b0_v294 : FVec F S256x128 .f32 :=
  k0_pay52 (F := F) b0_v238
def b0_v296 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay53 b0_v238 (b0_v244 x0 x1 x2 x3 x4 x5 x6 x7 x8 x9 x10 x11)
def b0_v302 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay54 b0_v238 (b0_v244 x0 x1 x2 x3 x4 x5 x6 x7 x8 x9 x10 x11)
def b0_v306 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x128 .f32 :=
  k0_pay55 b0_v238 (b0_v244 x0 x1 x2 x3 x4 x5 x6 x7 x8 x9 x10 x11)
def b0_v308 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay56 b0_v238 (b0_v244 x0 x1 x2 x3 x4 x5 x6 x7 x8 x9 x10 x11)
def b0_v312 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x128 .f32 :=
  k0_pay57 b0_v238 (b0_v244 x0 x1 x2 x3 x4 x5 x6 x7 x8 x9 x10 x11)
def b0_v314 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay58 (b0_v312 x0 x1 x2 x3 x4 x5 x6 x7 x8 x9 x10 x11)
def b0_v326 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay61 (b0_v294 (F := F)) (b0_v306 x0 x1 x2 x3 x4 x5 x6 x7 x8 x9 x10 x11) (b0_v312 x0 x1 x2 x3 x4 x5 x6 x7 x8 x9 x10 x11)
def b0_v338 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay64 (b0_v294 (F := F)) (b0_v306 x0 x1 x2 x3 x4 x5 x6 x7 x8 x9 x10 x11) (b0_v312 x0 x1 x2 x3 x4 x5 x6 x7 x8 x9 x10 x11)
def b0_v342 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay66 (b0_v296 x0 x1 x2 x3 x4 x5 x6 x7 x8 x9 x10 x11) (b0_v308 x0 x1 x2 x3 x4 x5 x6 x7 x8 x9 x10 x11)
def b0_v344 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay67 (b0_v294 (F := F)) (b0_v296 x0 x1 x2 x3 x4 x5 x6 x7 x8 x9 x10 x11) (b0_v306 x0 x1 x2 x3 x4 x5 x6 x7 x8 x9 x10 x11) (b0_v312 x0 x1 x2 x3 x4 x5 x6 x7 x8 x9 x10 x11)
def b0_v346 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay68 (b0_v294 (F := F)) (b0_v296 x0 x1 x2 x3 x4 x5 x6 x7 x8 x9 x10 x11) (b0_v306 x0 x1 x2 x3 x4 x5 x6 x7 x8 x9 x10 x11) (b0_v312 x0 x1 x2 x3 x4 x5 x6 x7 x8 x9 x10 x11)
def b0_v349 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay69 (b0_v294 (F := F)) (b0_v296 x0 x1 x2 x3 x4 x5 x6 x7 x8 x9 x10 x11) (b0_v306 x0 x1 x2 x3 x4 x5 x6 x7 x8 x9 x10 x11) (b0_v308 x0 x1 x2 x3 x4 x5 x6 x7 x8 x9 x10 x11) (b0_v312 x0 x1 x2 x3 x4 x5 x6 x7 x8 x9 x10 x11)
def b0_v351 : FVec F S256x128 .f32 :=
  k0_pay70 (F := F)
def b0_v356 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x128 .f32 :=
  k0_pay71 b0_v238 (b0_v302 x0 x1 x2 x3 x4 x5 x6 x7 x8 x9 x10 x11)
def b0_v358 : IVec S256x128 1 :=
  k0_pay72 b0_v238
def b0_v359 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay73 (b0_v294 (F := F)) (b0_v296 x0 x1 x2 x3 x4 x5 x6 x7 x8 x9 x10 x11) (b0_v306 x0 x1 x2 x3 x4 x5 x6 x7 x8 x9 x10 x11) (b0_v308 x0 x1 x2 x3 x4 x5 x6 x7 x8 x9 x10 x11) (b0_v312 x0 x1 x2 x3 x4 x5 x6 x7 x8 x9 x10 x11)
def b0_v404 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x128 .f32 :=
  k0_pay76 b0_v283 (b0_v289 x0 x1 x2 x3 x4 x5 x6 x7 x8 x9 x10 x11)
def b0_v405 : FVec F S256x128 .f32 :=
  k0_pay77 (F := F) b0_v283
def b0_v407 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay78 (b0_v404 x0 x1 x2 x3 x4 x5 x6 x7 x8 x9 x10 x11)
def b0_v413 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay79 (b0_v404 x0 x1 x2 x3 x4 x5 x6 x7 x8 x9 x10 x11) (b0_v405 (F := F))
def b0_v419 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay81 (b0_v404 x0 x1 x2 x3 x4 x5 x6 x7 x8 x9 x10 x11) (b0_v405 (F := F))
def b0_v425 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay82 (b0_v404 x0 x1 x2 x3 x4 x5 x6 x7 x8 x9 x10 x11) (b0_v405 (F := F))
def b0_v431 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay84 (b0_v404 x0 x1 x2 x3 x4 x5 x6 x7 x8 x9 x10 x11) (b0_v405 (F := F))
def b0_v437 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay85 (b0_v404 x0 x1 x2 x3 x4 x5 x6 x7 x8 x9 x10 x11) (b0_v405 (F := F))
def b0_v443 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay87 (b0_v404 x0 x1 x2 x3 x4 x5 x6 x7 x8 x9 x10 x11) (b0_v405 (F := F))
def b0_v449 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay88 (b0_v404 x0 x1 x2 x3 x4 x5 x6 x7 x8 x9 x10 x11) (b0_v405 (F := F))
def b0_v450 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay89 (b0_v404 x0 x1 x2 x3 x4 x5 x6 x7 x8 x9 x10 x11)
def b0_v457 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay93 (b0_v407 x0 x1 x2 x3 x4 x5 x6 x7 x8 x9 x10 x11) (b0_v443 x0 x1 x2 x3 x4 x5 x6 x7 x8 x9 x10 x11)
def b0_v460 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x1 .f32 :=
  k0_pay94 (b0_v407 x0 x1 x2 x3 x4 x5 x6 x7 x8 x9 x10 x11) (b0_v419 x0 x1 x2 x3 x4 x5 x6 x7 x8 x9 x10 x11) (b0_v431 x0 x1 x2 x3 x4 x5 x6 x7 x8 x9 x10 x11) (b0_v443 x0 x1 x2 x3 x4 x5 x6 x7 x8 x9 x10 x11) (b0_v450 x0 x1 x2 x3 x4 x5 x6 x7 x8 x9 x10 x11)
def b0_v495 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x128 .f32 :=
  k0_pay95 b0_v283 (b0_v407 x0 x1 x2 x3 x4 x5 x6 x7 x8 x9 x10 x11) (b0_v419 x0 x1 x2 x3 x4 x5 x6 x7 x8 x9 x10 x11) (b0_v431 x0 x1 x2 x3 x4 x5 x6 x7 x8 x9 x10 x11) (b0_v443 x0 x1 x2 x3 x4 x5 x6 x7 x8 x9 x10 x11) (b0_v450 x0 x1 x2 x3 x4 x5 x6 x7 x8 x9 x10 x11)
def b0_v500 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : FVec F S256x128 .f32 :=
  k0_pay96 b0_v283 (b0_v413 x0 x1 x2 x3 x4 x5 x6 x7 x8 x9 x10 x11) (b0_v425 x0 x1 x2 x3 x4 x5 x6 x7 x8 x9 x10 x11) (b0_v437 x0 x1 x2 x3 x4 x5 x6 x7 x8 x9 x10 x11) (b0_v449 x0 x1 x2 x3 x4 x5 x6 x7 x8 x9 x10 x11)

/-- Window 12's buffer after the body, its stores as pieces, the last first. -/
def out0_12 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) : Vec F S512x1024 .f32 :=
  View.canon [⟨r0_4, (b0_v199 x0 x1 x2 x3 x4 x5 x6 x7 x8)⟩,
    ⟨r0_1, (k0_pay28 (b0_v6 x0 x1 x2 x3) (b0_v191 x0 x1 x2 x3 x4 x5 x6 x7) (View.ld x8 r0_2))⟩
  ]

theorem cover0_12 (p0 : Vec F S256x1024 .f32) (p1 : Vec F S256x1024 .f32) (y : S512x1024.Idx) :
    ∃ pc ∈ ([⟨r0_4, p0⟩, ⟨r0_1, p1⟩] : List (View.Piece (Elt F) S512x1024 .f32)), y ∈ pc.1.set :=
  View.cover_of_tiled [⟨r0_4, p0⟩, ⟨r0_1, p1⟩] S256x1024.size (by rfl) y

/-- Window 13's buffer after the body, its stores as pieces, the last first. -/
def out0_13 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) : Vec F S4096x128 .f32 :=
  View.canon [⟨s0_15, (k0_pay49 (b0_v258 x0 x1 x2 x3 x4 x5 x6 x7 x8 x9))⟩,
    ⟨s0_14, (k0_pay48 (b0_v258 x0 x1 x2 x3 x4 x5 x6 x7 x8 x9))⟩,
    ⟨s0_13, (b0_v274 x0 x1 x2 x3 x4 x5 x6 x7 x8 x9)⟩,
    ⟨s0_12, (k0_pay46 (b0_v199 x0 x1 x2 x3 x4 x5 x6 x7 x8) (View.ld x9 r0_5) (b0_v247 x0 x1 x2 x3 x4 x5 x6 x7 x8))⟩,
    ⟨s0_11, (k0_pay45 (b0_v199 x0 x1 x2 x3 x4 x5 x6 x7 x8) (View.ld x9 r0_5) (b0_v247 x0 x1 x2 x3 x4 x5 x6 x7 x8))⟩,
    ⟨s0_10, (k0_pay44 (b0_v199 x0 x1 x2 x3 x4 x5 x6 x7 x8) (View.ld x9 r0_5) (b0_v247 x0 x1 x2 x3 x4 x5 x6 x7 x8))⟩,
    ⟨s0_9, (k0_pay43 (b0_v199 x0 x1 x2 x3 x4 x5 x6 x7 x8) (View.ld x9 r0_5) (b0_v247 x0 x1 x2 x3 x4 x5 x6 x7 x8))⟩,
    ⟨s0_8, (k0_pay42 (b0_v199 x0 x1 x2 x3 x4 x5 x6 x7 x8) (View.ld x9 r0_5) (b0_v247 x0 x1 x2 x3 x4 x5 x6 x7 x8))⟩,
    ⟨s0_7, (k0_pay38 (b0_v213 x0 x1 x2 x3 x4 x5 x6 x7 x8 x9))⟩,
    ⟨s0_6, (k0_pay37 (b0_v213 x0 x1 x2 x3 x4 x5 x6 x7 x8 x9))⟩,
    ⟨s0_5, (k0_pay36 (b0_v213 x0 x1 x2 x3 x4 x5 x6 x7 x8 x9))⟩,
    ⟨s0_4, (k0_pay35 (b0_v213 x0 x1 x2 x3 x4 x5 x6 x7 x8 x9))⟩,
    ⟨s0_3, (b0_v223 x0 x1 x2 x3 x4 x5 x6 x7 x8 x9)⟩,
    ⟨s0_2, (k0_pay33 (b0_v6 x0 x1 x2 x3) (b0_v191 x0 x1 x2 x3 x4 x5 x6 x7) (View.ld x8 r0_2) (View.ld x9 r0_5))⟩,
    ⟨s0_1, (k0_pay32 (b0_v6 x0 x1 x2 x3) (b0_v191 x0 x1 x2 x3 x4 x5 x6 x7) (View.ld x8 r0_2) (View.ld x9 r0_5))⟩,
    ⟨s0_0, (k0_pay31 (b0_v6 x0 x1 x2 x3) (b0_v191 x0 x1 x2 x3 x4 x5 x6 x7) (View.ld x8 r0_2) (View.ld x9 r0_5))⟩
  ]

/-- Window 14's buffer after the body, its stores as pieces, the last first. -/
def out0_14 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : Vec F S512x128 .i32 :=
  View.canon [⟨r0_13, (k0_pay1 (b0_v500 x0 x1 x2 x3 x4 x5 x6 x7 x8 x9 x10 x11))⟩,
    ⟨r0_12, (k0_pay74 b0_v238 (b0_v314 x0 x1 x2 x3 x4 x5 x6 x7 x8 x9 x10 x11) (b0_v326 x0 x1 x2 x3 x4 x5 x6 x7 x8 x9 x10 x11) (b0_v338 x0 x1 x2 x3 x4 x5 x6 x7 x8 x9 x10 x11) (b0_v356 x0 x1 x2 x3 x4 x5 x6 x7 x8 x9 x10 x11))⟩
  ]

theorem cover0_14 (p0 : Vec F S256x128 .i32) (p1 : Vec F S256x128 .i32) (y : S512x128.Idx) :
    ∃ pc ∈ ([⟨r0_13, p0⟩, ⟨r0_12, p1⟩] : List (View.Piece (Elt F) S512x128 .i32)), y ∈ pc.1.set :=
  View.cover_of_tiled [⟨r0_13, p0⟩, ⟨r0_12, p1⟩] S256x128.size (by rfl) y

/-- Window 15's buffer after the body, its stores as pieces, the last first. -/
def out0_15 (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) : Vec F S8x512 .f32 :=
  View.canon [⟨r0_15, (k0_pay2 b0_v283 (b0_v457 x0 x1 x2 x3 x4 x5 x6 x7 x8 x9 x10 x11) (b0_v460 x0 x1 x2 x3 x4 x5 x6 x7 x8 x9 x10 x11) (b0_v495 x0 x1 x2 x3 x4 x5 x6 x7 x8 x9 x10 x11) 3#32)⟩,
    ⟨r0_14, (k0_pay75 b0_v238 (b0_v342 x0 x1 x2 x3 x4 x5 x6 x7 x8 x9 x10 x11) (b0_v344 x0 x1 x2 x3 x4 x5 x6 x7 x8 x9 x10 x11) (b0_v346 x0 x1 x2 x3 x4 x5 x6 x7 x8 x9 x10 x11) (b0_v349 x0 x1 x2 x3 x4 x5 x6 x7 x8 x9 x10 x11) (b0_v351 (F := F)) b0_v358 (b0_v359 x0 x1 x2 x3 x4 x5 x6 x7 x8 x9 x10 x11))⟩
  ]

theorem cover0_15 (p0 : Vec F S8x256 .f32) (p1 : Vec F S8x256 .f32) (y : S8x512.Idx) :
    ∃ pc ∈ ([⟨r0_15, p0⟩, ⟨r0_14, p1⟩] : List (View.Piece (Elt F) S8x512 .f32)), y ∈ pc.1.set :=
  View.cover_of_tiled [⟨r0_15, p0⟩, ⟨r0_14, p1⟩] S8x256.size (by rfl) y

/-- A row of one half that is `j` modulo eight is in the rectangle of that half and that sublane. -/
theorem mem_strided (r : Rect S4096x128) (o j : ℕ) (ho0 : r.off 0 = o + j) (ho1 : r.off 1 = 0)
    (hs0 : r.size 0 = 256) (hs1 : r.size 1 = 128) (ht0 : r.stride 0 = 8) (ht1 : r.stride 1 = 1) (y : S4096x128.Idx) (h1 : o ≤ (y 0).val) (h2 : (y 0).val < o + 2048)
    (h3 : ((y 0).val - o) % 8 = j) : y ∈ r.set := by
  have hy1 : (y 1).val < 128 := (y 1).isLt
  refine r.mem_set.2 fun a => ?_
  match a with
  | ⟨0, _⟩ =>
    refine ⟨((y 0).val - o) / 8, ?_, ?_⟩
    · show ((y 0).val - o) / 8 < r.size 0
      omega
    · show (y 0).val = r.off 0 + r.stride 0 * (((y 0).val - o) / 8)
      rw [ho0, ht0]; omega
  | ⟨1, _⟩ =>
    refine ⟨(y 1).val, ?_, ?_⟩
    · show (y 1).val < r.size 1
      omega
    · show (y 1).val = r.off 1 + r.stride 1 * (y 1).val
      rw [ho1, ht1]; omega

/-- The sixteen strided stores cover the window. -/
theorem cover0_13 (p0 : Vec F S256x128 .f32) (p1 : Vec F S256x128 .f32) (p2 : Vec F S256x128 .f32) (p3 : Vec F S256x128 .f32) (p4 : Vec F S256x128 .f32) (p5 : Vec F S256x128 .f32) (p6 : Vec F S256x128 .f32) (p7 : Vec F S256x128 .f32) (p8 : Vec F S256x128 .f32) (p9 : Vec F S256x128 .f32) (p10 : Vec F S256x128 .f32) (p11 : Vec F S256x128 .f32) (p12 : Vec F S256x128 .f32) (p13 : Vec F S256x128 .f32) (p14 : Vec F S256x128 .f32) (p15 : Vec F S256x128 .f32) (y : S4096x128.Idx) :
    ∃ pc ∈ ([⟨s0_15, p0⟩, ⟨s0_14, p1⟩, ⟨s0_13, p2⟩, ⟨s0_12, p3⟩, ⟨s0_11, p4⟩, ⟨s0_10, p5⟩, ⟨s0_9, p6⟩, ⟨s0_8, p7⟩, ⟨s0_7, p8⟩, ⟨s0_6, p9⟩, ⟨s0_5, p10⟩, ⟨s0_4, p11⟩, ⟨s0_3, p12⟩, ⟨s0_2, p13⟩, ⟨s0_1, p14⟩, ⟨s0_0, p15⟩] : List (View.Piece (Elt F) S4096x128 .f32)), y ∈ pc.1.set := by
  have hy0 : (y 0).val < 4096 := (y 0).isLt
  have hc : ∃ o j, (o = 0 ∨ o = 2048) ∧ o ≤ (y 0).val ∧ (y 0).val < o + 2048 ∧ j < 8 ∧ ((y 0).val - o) % 8 = j := by
    by_cases h : (y 0).val < 2048
    · exact ⟨0, _, .inl rfl, by omega, by omega, Nat.mod_lt _ (by omega), rfl⟩
    · exact ⟨2048, _, .inr rfl, by omega, by omega, Nat.mod_lt _ (by omega), rfl⟩
  obtain ⟨o, j, ho, h1, h2, hj, h3⟩ := hc
  rcases ho with rfl | rfl <;> interval_cases j
  · exact ⟨_, .tail _ (.tail _ (.tail _ (.tail _ (.tail _ (.tail _ (.tail _ (.tail _ (.tail _ (.tail _ (.tail _ (.tail _ (.tail _ (.tail _ (.tail _ (.head _))))))))))))))), mem_strided s0_0 0 0 rfl rfl rfl rfl rfl rfl y h1 h2 h3⟩
  · exact ⟨_, .tail _ (.tail _ (.tail _ (.tail _ (.tail _ (.tail _ (.tail _ (.tail _ (.tail _ (.tail _ (.tail _ (.tail _ (.tail _ (.tail _ (.head _)))))))))))))), mem_strided s0_1 0 1 rfl rfl rfl rfl rfl rfl y h1 h2 h3⟩
  · exact ⟨_, .tail _ (.tail _ (.tail _ (.tail _ (.tail _ (.tail _ (.tail _ (.tail _ (.tail _ (.tail _ (.tail _ (.tail _ (.tail _ (.head _))))))))))))), mem_strided s0_2 0 2 rfl rfl rfl rfl rfl rfl y h1 h2 h3⟩
  · exact ⟨_, .tail _ (.tail _ (.tail _ (.tail _ (.tail _ (.tail _ (.tail _ (.tail _ (.tail _ (.tail _ (.tail _ (.tail _ (.head _)))))))))))), mem_strided s0_3 0 3 rfl rfl rfl rfl rfl rfl y h1 h2 h3⟩
  · exact ⟨_, .tail _ (.tail _ (.tail _ (.tail _ (.tail _ (.tail _ (.tail _ (.tail _ (.tail _ (.tail _ (.tail _ (.head _))))))))))), mem_strided s0_4 0 4 rfl rfl rfl rfl rfl rfl y h1 h2 h3⟩
  · exact ⟨_, .tail _ (.tail _ (.tail _ (.tail _ (.tail _ (.tail _ (.tail _ (.tail _ (.tail _ (.tail _ (.head _)))))))))), mem_strided s0_5 0 5 rfl rfl rfl rfl rfl rfl y h1 h2 h3⟩
  · exact ⟨_, .tail _ (.tail _ (.tail _ (.tail _ (.tail _ (.tail _ (.tail _ (.tail _ (.tail _ (.head _))))))))), mem_strided s0_6 0 6 rfl rfl rfl rfl rfl rfl y h1 h2 h3⟩
  · exact ⟨_, .tail _ (.tail _ (.tail _ (.tail _ (.tail _ (.tail _ (.tail _ (.tail _ (.head _)))))))), mem_strided s0_7 0 7 rfl rfl rfl rfl rfl rfl y h1 h2 h3⟩
  · exact ⟨_, .tail _ (.tail _ (.tail _ (.tail _ (.tail _ (.tail _ (.tail _ (.head _))))))), mem_strided s0_8 2048 0 rfl rfl rfl rfl rfl rfl y h1 h2 h3⟩
  · exact ⟨_, .tail _ (.tail _ (.tail _ (.tail _ (.tail _ (.tail _ (.head _)))))), mem_strided s0_9 2048 1 rfl rfl rfl rfl rfl rfl y h1 h2 h3⟩
  · exact ⟨_, .tail _ (.tail _ (.tail _ (.tail _ (.tail _ (.head _))))), mem_strided s0_10 2048 2 rfl rfl rfl rfl rfl rfl y h1 h2 h3⟩
  · exact ⟨_, .tail _ (.tail _ (.tail _ (.tail _ (.head _)))), mem_strided s0_11 2048 3 rfl rfl rfl rfl rfl rfl y h1 h2 h3⟩
  · exact ⟨_, .tail _ (.tail _ (.tail _ (.head _))), mem_strided s0_12 2048 4 rfl rfl rfl rfl rfl rfl y h1 h2 h3⟩
  · exact ⟨_, .tail _ (.tail _ (.head _)), mem_strided s0_13 2048 5 rfl rfl rfl rfl rfl rfl y h1 h2 h3⟩
  · exact ⟨_, .tail _ (.head _), mem_strided s0_14 2048 6 rfl rfl rfl rfl rfl rfl y h1 h2 h3⟩
  · exact ⟨_, .head _, mem_strided s0_15 2048 7 rfl rfl rfl rfl rfl rfl y h1 h2 h3⟩

set_option maxHeartbeats 4000000 in
set_option sl_exec.squeezeSlice true in
/-- The body on whole staging memrefs runs to the inputs as they were and each output at `out0_W`. -/
theorem sound_kernel (c : Dev nD) (E : Set ℕ) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x1024 .f32) (harg13 : arg13.IsWhole) (arg14 : Memref sig .tc .vmem S4096x128 .f32) (harg14 : arg14.IsWhole) (arg15 : Memref sig .tc .vmem S512x128 .i32) (harg15 : arg15.IsWhole) (arg16 : Memref sig .tc .vmem S8x512 .f32) (harg16 : arg16.IsWhole)
     (x0 : Vec F S512x1024 .f32) (x1 : Vec F S512x512 .bf16) (x2 : Vec F S512x512 .bf16) (x3 : Vec F S1024x1024 .bf16) (x4 : Vec F S1x1024 .f32) (x5 : Vec F S1024x1024 .bf16) (x6 : Vec F S256x1024 .bf16) (x7 : Vec F S256x1024 .bf16) (x8 : Vec F S1024x1024 .bf16) (x9 : Vec F S1x1024 .f32) (x10 : Vec F S1024x128 .bf16) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8) ∗ owns (c : Thread nD τ) arg14 fullShare (out0_13 x0 x1 x2 x3 x4 x5 x6 x7 x8 x9) ∗ owns (c : Thread nD τ) arg15 fullShare (out0_14 x0 x1 x2 x3 x4 x5 x6 x7 x8 x9 x10 x11) ∗ owns (c : Thread nD τ) arg16 fullShare (out0_15 x0 x1 x2 x3 x4 x5 x6 x7 x8 x9 x10 x11)) -∗ K ⟨⟩))
      ⊢ wp frame (wpE (defs₀ (F := F)) Variants.none c none) E (cc0_mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mid_eq_skeleton]; unfold cc0_mid_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover0_12 _ _)).trans ?_
    rfl
  isplitl [H13]
  · iexists _; isplitr
    swap; · iexact H13
    ipureintro
    refine (View.read_writes_eq_canon _ _ _ (cover0_13 _ _ _ _ _ _ _ _ _ _ _ _ _ _ _ _)).trans ?_
    rfl
  isplitl [H14]
  · iexists _; isplitr
    swap; · iexact H14
    ipureintro
    refine (View.read_writes_eq_canon _ _ _ (cover0_14 _ _)).trans ?_
    rfl
  iexists _; isplitr
  swap; · iexact H15
  ipureintro
  refine (View.read_writes_eq_canon _ _ _ (cover0_15 _ _)).trans ?_
  rfl

/-- The pipeline's proof data on core `c`: each input's buffer at its block, each output's at `out0_W` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨k + 16, h⟩ => absurd (show k + 16 < 16 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, and every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Spec.lean ====
/- What the layer's middle stretch does to one row, over the extended reals: the projection of the two mixers' outputs
   with its residual, the scaled root-mean-square norm, the four heads' attention over the 256 memory slots, and the
   output projection. The kernel and the reference are both read against these functions. -/
module

public import Idealize.ShloMosaic.Lib.Pointwise

@[expose] public section

noncomputable section

namespace Cert.Mid

open Idealize.ShloMosaic

/-- A row times a matrix. -/
def mm {n k : ℕ} (a : Fin n → EReal) (w : Fin n → Fin k → EReal) (j : Fin k) : EReal := ∑ i, a i * w i j

/-- The residual row plus the projection of the two halves. -/
def x1 (x : Fin 1024 → EReal) (a b : Fin 512 → EReal) (w : Fin 1024 → Fin 1024 → EReal) (j : Fin 1024) : EReal :=
  x j + (∑ i : Fin 512, a i * w ⟨i, by omega⟩ j + ∑ i : Fin 512, b i * w ⟨512 + i, by omega⟩ j)

/-- The scaled root-mean-square norm of a row. -/
def rms (g x : Fin 1024 → EReal) (j : Fin 1024) : EReal :=
  x j * Ideal.rsqrt (Ideal.div (∑ i, x i * x i) (Ideal.ofBits .f32 0x44800000#32) + Ideal.ofBits .f32 0x358637BD#32) * g j

/-- Head `h`'s product of the query row with every memory key. -/
def sc (q : Fin 1024 → EReal) (km : Fin 256 → Fin 1024 → EReal) (h : Fin 4) (s : Fin 256) : EReal :=
  ∑ d : Fin 256, q ⟨h * 256 + d, by omega⟩ * km s ⟨h * 256 + d, by omega⟩

/-- Softmax in base two, of a row of scores already scaled. -/
def soft2 (s : Fin 256 → EReal) (j : Fin 256) : EReal :=
  Ideal.div (Ideal.exp2 (s j - Finset.univ.fold max (Ideal.ofBits .f32 0xFF800000#32) s))
    (∑ i, Ideal.exp2 (s i - Finset.univ.fold max (Ideal.ofBits .f32 0xFF800000#32) s))

/-- Softmax of a row of scores. -/
def soft (s : Fin 256 → EReal) (j : Fin 256) : EReal :=
  Ideal.div (Ideal.exp (s j - Finset.univ.fold max (Ideal.ofBits .f32 0xFF800000#32) s))
    (∑ i, Ideal.exp (s i - Finset.univ.fold max (Ideal.ofBits .f32 0xFF800000#32) s))

/-- The attended row: lane `j` belongs to head `j / 256`. -/
def att (p : Fin 4 → Fin 256 → EReal) (vm : Fin 256 → Fin 1024 → EReal) (j : Fin 1024) : EReal :=
  ∑ s : Fin 256, p ⟨j / 256, by omega⟩ s * vm s j

/-- The row leaving the attention: residual plus output projection. -/
def x2 (x o : Fin 1024 → EReal) (wo : Fin 1024 → Fin 1024 → EReal) (j : Fin 1024) : EReal := x j + mm o wo j

/-- The queries of a row. -/
def rowQ (x : Fin 1024 → EReal) (a b : Fin 512 → EReal) (w : Fin 1024 → Fin 1024 → EReal) (gx : Fin 1024 → EReal)
    (wq : Fin 1024 → Fin 1024 → EReal) : Fin 1024 → EReal :=
  mm (rms gx (x1 x a b w)) wq

/-- The row leaving the attention, from the row entering the stretch. -/
def rowX2 (x : Fin 1024 → EReal) (a b : Fin 512 → EReal) (w : Fin 1024 → Fin 1024 → EReal) (gx : Fin 1024 → EReal)
    (wq : Fin 1024 → Fin 1024 → EReal) (km vm : Fin 256 → Fin 1024 → EReal) (wo : Fin 1024 → Fin 1024 → EReal) :
    Fin 1024 → EReal :=
  x2 (x1 x a b w)
    (att (fun h => soft (fun s => sc (rowQ x a b w gx wq) km h s * Ideal.ofBits .f32 0x3D800000#32)) vm) wo

end Cert.Mid
-- ==== Proof.PayMid.lean ====
/- The kernel's computed values, one payload at a time, read at a row and a lane. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Pay

open Idealize.ShloMosaic Idealize.ShloMosaic.TcCoe Idealize.SL.Sem
open Cert.KernelIdeal Cert.KernelIdeal.Gen Cert.Mid

/-- The residual stream after the mixers' projection. -/
theorem p3 (v0 v1 : FVec Ideal S256x512 .bf16) (v3 : FVec Ideal S256x1024 .f32) (v4 : FVec Ideal S1024x1024 .bf16)
    (r : Fin 256) (k : Fin 1024) :
    k0_pay3 (F := Ideal) v0 v1 v3 v4 (ix2 r k) =
      x1 (fun j => v3 (ix2 r j)) (fun j => v0 (ix2 r j)) (fun j => v1 (ix2 r j)) (fun i j => v4 (ix2 i j)) k := by
  pointwise [k0_pay3, x1]

/-- The query row. -/
theorem p6 (v : FVec Ideal S256x1024 .f32) (g : FVec Ideal S1x1024 .f32) (w : FVec Ideal S1024x1024 .bf16)
    (r : Fin 256) (k : Fin 1024) :
    k0_pay6 (F := Ideal) v g w (ix2 r k) =
      mm (rms (fun j => g (ix2 0 j)) (fun j => v (ix2 r j))) (fun i j => w (ix2 i j)) k := by
  pointwise [k0_pay6, mm, rms]

theorem p5 (a b : FVec Ideal S256x512 .bf16) (c : FVec Ideal S256x1024 .f32) (d : FVec Ideal S1024x1024 .bf16)
    (g : FVec Ideal S1x1024 .f32) (w : FVec Ideal S1024x1024 .bf16) :
    k0_pay5 (F := Ideal) a b c d g w = k0_pay6 (k0_pay3 a b c d) g w := rfl

/-- The scale the kernel multiplies its scores by. -/
def scale : EReal := Named.named (F := Ideal) κ "log2e_16" (φ := .f32) 0x3DB8AA3B#32

/-- A head's scores. -/
theorem p13 (q : FVec Ideal S256x1024 .f32) (km : FVec Ideal S256x256 .bf16) (r s : Fin 256) :
    k0_pay13 (F := Ideal) q km (ix2 r s) = (∑ d : Fin 256, q (ix2 r ⟨d, by omega⟩) * km (ix2 s d)) * scale := by
  pointwise [k0_pay13, scale]
theorem p14 (q : FVec Ideal S256x1024 .f32) (km : FVec Ideal S256x256 .bf16) (r s : Fin 256) :
    k0_pay14 (F := Ideal) q km (ix2 r s) = (∑ d : Fin 256, q (ix2 r ⟨256 + d, by omega⟩) * km (ix2 s d)) * scale := by
  pointwise [k0_pay14, scale]
theorem p15 (q : FVec Ideal S256x1024 .f32) (km : FVec Ideal S256x256 .bf16) (r s : Fin 256) :
    k0_pay15 (F := Ideal) q km (ix2 r s) = (∑ d : Fin 256, q (ix2 r ⟨512 + d, by omega⟩) * km (ix2 s d)) * scale := by
  pointwise [k0_pay15, scale]
theorem p16 (q : FVec Ideal S256x1024 .f32) (km : FVec Ideal S256x256 .bf16) (r s : Fin 256) :
    k0_pay16 (F := Ideal) q km (ix2 r s) = (∑ d : Fin 256, q (ix2 r ⟨768 + d, by omega⟩) * km (ix2 s d)) * scale := by
  pointwise [k0_pay16, scale]
theorem p7 (q : FVec Ideal S256x1024 .f32) (km : FVec Ideal S256x256 .bf16) : k0_pay7 (F := Ideal) q km = k0_pay13 q km := rfl
theorem p8 (q : FVec Ideal S256x1024 .f32) (km : FVec Ideal S256x256 .bf16) : k0_pay8 (F := Ideal) q km = k0_pay14 q km := rfl
theorem p9 (q : FVec Ideal S256x1024 .f32) (km : FVec Ideal S256x256 .bf16) : k0_pay9 (F := Ideal) q km = k0_pay15 q km := rfl
theorem p12 (q : FVec Ideal S256x1024 .f32) (km : FVec Ideal S256x256 .bf16) :
    k0_pay12 (F := Ideal) (k0_pay10 q km) k0_pay11 = k0_pay16 q km := rfl

/-- A head's attended rows. -/
theorem p17 (s v : FVec Ideal S256x256 .f32) (vm : FVec Ideal S256x256 .bf16) (r d : Fin 256) :
    k0_pay17 (F := Ideal) s vm (ix2 r d) = ∑ j : Fin 256, soft2 (fun i => s (ix2 r i)) j * vm (ix2 j d) := by
  pointwise [k0_pay17, soft2]
  rfl
theorem p19 (s : FVec Ideal S256x256 .f32) (vm : FVec Ideal S256x256 .bf16) :
    k0_pay19 (F := Ideal) s (k0_pay18 s) vm = k0_pay17 s vm := rfl
theorem p20 (s : FVec Ideal S256x256 .f32) (vm : FVec Ideal S256x256 .bf16) : k0_pay20 (F := Ideal) s vm = k0_pay17 s vm := rfl
theorem p21 (s : FVec Ideal S256x256 .f32) (vm : FVec Ideal S256x256 .bf16) : k0_pay21 (F := Ideal) s vm = k0_pay17 s vm := rfl
theorem p23 (s : FVec Ideal S256x256 .f32) (vm : FVec Ideal S256x256 .bf16) :
    k0_pay23 (F := Ideal) (k0_pay22 s) vm = k0_pay17 s vm := rfl
theorem p24 (s : FVec Ideal S256x256 .f32) (vm : FVec Ideal S256x256 .bf16) : k0_pay24 (F := Ideal) s vm = k0_pay17 s vm := rfl
theorem p25 (s : FVec Ideal S256x256 .f32) (vm : FVec Ideal S256x256 .bf16) : k0_pay25 (F := Ideal) s vm = k0_pay17 s vm := rfl
theorem p26 (s : FVec Ideal S256x256 .f32) (vm : FVec Ideal S256x256 .bf16) : k0_pay26 (F := Ideal) s vm = k0_pay17 s vm := rfl

/-- Four heads side by side. -/
theorem p27 (a b c d : FVec Ideal S256x256 .f32) (r : Fin 256) (h : Fin 4) (j : Fin 256) :
    k0_pay27 (F := Ideal) a b c d (ix2 r ⟨h * 256 + j, by omega⟩) =
      (![a, b, c, d] h : FVec Ideal S256x256 .f32) (ix2 r j) := by
  pointwise [k0_pay27]
  fin_cases h <;> simp <;>
    (repeat' first | rw [dif_neg (by omega)] | rw [dif_pos (by omega)]) <;>
    first | rfl | exact congrArg _ (congrArg (ix2 r) (Fin.ext (by simp; try omega)))

theorem p28 (v : FVec Ideal S256x1024 .f32) (o : FVec Ideal S256x1024 .bf16) (w : FVec Ideal S1024x1024 .bf16)
    (r : Fin 256) (k : Fin 1024) :
    k0_pay28 (F := Ideal) v o w (ix2 r k) = x2 (fun j => v (ix2 r j)) (fun j => o (ix2 r j)) (fun i j => w (ix2 i j)) k := by
  pointwise [k0_pay28, x2, mm]
theorem p29 (v : FVec Ideal S256x1024 .f32) (a b c d : FVec Ideal S256x256 .f32) (w : FVec Ideal S1024x1024 .bf16) :
    k0_pay29 (F := Ideal) v a b c d w = k0_pay28 v (k0_pay27 a b c d) w := rfl
theorem p41 (v : FVec Ideal S256x1024 .f32) (g : FVec Ideal S1x1024 .f32) (r : Fin 256) (k : Fin 1024) :
    k0_pay41 (F := Ideal) v g (k0_pay40 v) (ix2 r k) = rms (fun j => g (ix2 0 j)) (fun j => v (ix2 r j)) k := by
  pointwise [k0_pay41, k0_pay40, rms]
theorem p30 (v : FVec Ideal S256x1024 .f32) (o : FVec Ideal S256x1024 .bf16) (w : FVec Ideal S1024x1024 .bf16)
    (g : FVec Ideal S1x1024 .f32) :
    k0_pay30 (F := Ideal) v o w g = k0_pay41 (k0_pay28 v o w) g (k0_pay40 (k0_pay28 v o w)) := rfl

end Cert.KernelIdeal.Pay
-- ==== Proof.Soft.lean ====
/- The base-two softmax of scores scaled by `log2 e / 16` is the softmax of scores scaled by `1 / 16`. -/
module

public import proofs.«01_k».proof.Proof.Spec
public import Idealize.ShloMosaic.Lib.IdealHost

@[expose] public section

noncomputable section

namespace Cert.Mid

open Idealize.ShloMosaic

/-- The logarithm of two, inverted. -/
def lg : ℝ := (Real.log 2)⁻¹

theorem lg_pos : 0 < lg := inv_pos.2 (Real.log_pos (by norm_num))

theorem exp2_mul_lg (y : EReal) : Ideal.exp2 (y * (lg : EReal)) = Ideal.exp y := by
  induction y with
  | bot => rw [EReal.bot_mul_coe_of_pos lg_pos]; rfl
  | top => rw [EReal.top_mul_coe_of_pos lg_pos]; rfl
  | coe r =>
    rw [← EReal.coe_mul, Ideal.exp2_coe, Ideal.exp_coe]
    congr 1
    show (2 : ℝ) ^ (r * lg) = _
    rw [Real.rpow_def_of_pos (by norm_num)]
    congr 1
    have : Real.log 2 ≠ 0 := (Real.log_pos (by norm_num)).ne'
    unfold lg; field_simp

theorem sub_mul_lg (x y : EReal) : x * (lg : EReal) - y * (lg : EReal) = (x - y) * (lg : EReal) := by
  rw [sub_eq_add_neg, sub_eq_add_neg,
    EReal.right_distrib_of_nonneg_of_ne_top (EReal.coe_nonneg.2 lg_pos.le) (EReal.coe_ne_top _), EReal.neg_mul]

theorem neg_inf : Ideal.ofBits .f32 0xFF800000#32 = ⊥ := by simp [Ideal.ofBits, Ideal.ieee]

theorem fold_max_mul_lg (f : Fin 256 → EReal) :
    Finset.univ.fold max (⊥ : EReal) (fun i => f i * (lg : EReal)) = Finset.univ.fold max ⊥ f * (lg : EReal) := by
  have h := Finset.fold_hom (op := max) (op' := max) (s := (Finset.univ : Finset (Fin 256))) (f := f) (b := (⊥ : EReal))
    (m := fun y => y * (lg : EReal)) (fun x y => by
      have hm : Monotone fun y : EReal => y * (lg : EReal) := fun a b hab =>
        mul_le_mul_of_nonneg_right hab (EReal.coe_nonneg.2 lg_pos.le)
      exact hm.map_max)
  simpa only [EReal.bot_mul_coe_of_pos lg_pos] using h

/-- Base two against base e, for one row. -/
theorem soft2_lg (f : Fin 256 → EReal) : soft2 (fun i => f i * (lg : EReal)) = soft f := by
  funext j
  unfold soft2 soft
  rw [neg_inf, fold_max_mul_lg]
  simp only [sub_mul_lg, exp2_mul_lg]

/-- The two scales. -/
theorem scale_eq : (((1 / 16) * (Real.log 2)⁻¹ : ℝ) : EReal) = Ideal.ofBits .f32 0x3D800000#32 * (lg : EReal) := by
  have h : Ideal.ofBits .f32 0x3D800000#32 = ((1 / 16 : ℝ) : EReal) := by
    simp [Ideal.ofBits, Ideal.ieee]; rw [← EReal.coe_mul]; norm_num
  rw [h, ← EReal.coe_mul]; rfl

/-- The reference takes the maximum with the same initial value once more. -/
theorem max_fold (b : EReal) (f : Fin 256 → EReal) :
    max b (Finset.univ.fold max b f) = Finset.univ.fold max b f :=
  max_eq_right (Finset.le_fold_max _ |>.2 (Or.inl le_rfl))

end Cert.Mid
-- ==== Proof.HalfMid.lean ====
/- One half of the kernel's tile, from its loaded blocks to its row of the residual stream and its norm. -/
module

public import proofs.«01_k».proof.Proof.PayMid
public import proofs.«01_k».proof.Proof.Soft

@[expose] public section

set_option maxRecDepth 16384

noncomputable section

namespace Cert.KernelIdeal.Pay

open Idealize.ShloMosaic Idealize.ShloMosaic.TcCoe Idealize.SL.Sem
open Cert.KernelIdeal Cert.KernelIdeal.Gen Cert.Mid

theorem scale_val : scale = Ideal.ofBits .f32 0x3D800000#32 * (lg : EReal) := scale_eq

/-- Scores in base two against scores in base e, for one head of one row. -/
theorem soft_row (f g : Fin 256 → EReal) (h : ∀ s, f s = g s * scale) :
    soft2 f = soft (fun s => g s * Ideal.ofBits .f32 0x3D800000#32) := by
  rw [← soft2_lg]
  congr 1
  funext s
  rw [h, scale_val, mul_assoc]

/-- The heads of one half. -/
def heads (q : FVec Ideal S256x1024 .f32) (k0 k1 k2 k3 v0 v1 v2 v3 : FVec Ideal S256x256 .bf16) :
    FVec Ideal S256x1024 .bf16 :=
  k0_pay27 (k0_pay17 (k0_pay13 q k0) v0) (k0_pay17 (k0_pay14 q k1) v1) (k0_pay17 (k0_pay15 q k2) v2)
    (k0_pay17 (k0_pay16 q k3) v3)

theorem heads_at (q : FVec Ideal S256x1024 .f32) (k0 k1 k2 k3 v0 v1 v2 v3 : FVec Ideal S256x256 .bf16)
    (K V : Fin 256 → Fin 1024 → EReal)
    (hk : ∀ (s d : Fin 256), k0 (ix2 s d) = K s ⟨d, by omega⟩ ∧ k1 (ix2 s d) = K s ⟨256 + d, by omega⟩
      ∧ k2 (ix2 s d) = K s ⟨512 + d, by omega⟩ ∧ k3 (ix2 s d) = K s ⟨768 + d, by omega⟩)
    (hv : ∀ (s d : Fin 256), v0 (ix2 s d) = V s ⟨d, by omega⟩ ∧ v1 (ix2 s d) = V s ⟨256 + d, by omega⟩
      ∧ v2 (ix2 s d) = V s ⟨512 + d, by omega⟩ ∧ v3 (ix2 s d) = V s ⟨768 + d, by omega⟩)
    (r : Fin 256) (h : Fin 4) (d : Fin 256) :
    heads q k0 k1 k2 k3 v0 v1 v2 v3 (ix2 r ⟨h * 256 + d, by omega⟩) =
      ∑ s : Fin 256, soft (fun s => sc (fun j => q (ix2 r j)) K h s * Ideal.ofBits .f32 0x3D800000#32) s
        * V s ⟨h * 256 + d, by omega⟩ := by
  unfold heads
  rw [p27]
  fin_cases h
  · refine (p17 _ k0 _ r d).trans (Finset.sum_congr rfl fun s _ => ?_)
    rw [soft_row _ (fun s => sc (fun j => q (ix2 r j)) K 0 s), (hv s d).1]
    · congr 2; simp
    · intro s
      rw [p13]
      refine congrArg (· * scale) (Finset.sum_congr rfl fun e _ => ?_)
      rw [(hk s e).1]; congr 3 <;> simp
  · refine (p17 _ k0 _ r d).trans (Finset.sum_congr rfl fun s _ => ?_)
    rw [soft_row _ (fun s => sc (fun j => q (ix2 r j)) K 1 s), (hv s d).2.1]
    · rfl
    · intro s
      rw [p14]
      refine congrArg (· * scale) (Finset.sum_congr rfl fun e _ => ?_)
      rw [(hk s e).2.1]; rfl
  · refine (p17 _ k0 _ r d).trans (Finset.sum_congr rfl fun s _ => ?_)
    rw [soft_row _ (fun s => sc (fun j => q (ix2 r j)) K 2 s), (hv s d).2.2.1]
    · rfl
    · intro s
      rw [p15]
      refine congrArg (· * scale) (Finset.sum_congr rfl fun e _ => ?_)
      rw [(hk s e).2.2.1]; rfl
  · refine (p17 _ k0 _ r d).trans (Finset.sum_congr rfl fun s _ => ?_)
    rw [soft_row _ (fun s => sc (fun j => q (ix2 r j)) K 3 s), (hv s d).2.2.2]
    · rfl
    · intro s
      rw [p16]
      refine congrArg (· * scale) (Finset.sum_congr rfl fun e _ => ?_)
      rw [(hk s e).2.2.2]; rfl

/-- One half's rows of the residual stream. -/
def half (x : FVec Ideal S256x1024 .f32) (a b : FVec Ideal S256x512 .bf16) (w : FVec Ideal S1024x1024 .bf16)
    (gx : FVec Ideal S1x1024 .f32) (wq : FVec Ideal S1024x1024 .bf16) (k0 k1 k2 k3 v0 v1 v2 v3 : FVec Ideal S256x256 .bf16)
    (wo : FVec Ideal S1024x1024 .bf16) : FVec Ideal S256x1024 .f32 :=
  k0_pay28 (k0_pay3 a b x w) (heads (k0_pay6 (k0_pay3 a b x w) gx wq) k0 k1 k2 k3 v0 v1 v2 v3) wo

theorem half_at (x : FVec Ideal S256x1024 .f32) (a b : FVec Ideal S256x512 .bf16) (w : FVec Ideal S1024x1024 .bf16)
    (gx : FVec Ideal S1x1024 .f32) (wq : FVec Ideal S1024x1024 .bf16) (k0 k1 k2 k3 v0 v1 v2 v3 : FVec Ideal S256x256 .bf16)
    (wo : FVec Ideal S1024x1024 .bf16) (K V : Fin 256 → Fin 1024 → EReal)
    (hk : ∀ (s d : Fin 256), k0 (ix2 s d) = K s ⟨d, by omega⟩ ∧ k1 (ix2 s d) = K s ⟨256 + d, by omega⟩
      ∧ k2 (ix2 s d) = K s ⟨512 + d, by omega⟩ ∧ k3 (ix2 s d) = K s ⟨768 + d, by omega⟩)
    (hv : ∀ (s d : Fin 256), v0 (ix2 s d) = V s ⟨d, by omega⟩ ∧ v1 (ix2 s d) = V s ⟨256 + d, by omega⟩
      ∧ v2 (ix2 s d) = V s ⟨512 + d, by omega⟩ ∧ v3 (ix2 s d) = V s ⟨768 + d, by omega⟩)
    (r : Fin 256) (k : Fin 1024) :
    half x a b w gx wq k0 k1 k2 k3 v0 v1 v2 v3 wo (ix2 r k) =
      rowX2 (fun j => x (ix2 r j)) (fun j => a (ix2 r j)) (fun j => b (ix2 r j)) (fun i j => w (ix2 i j))
        (fun j => gx (ix2 0 j)) (fun i j => wq (ix2 i j)) K V (fun i j => wo (ix2 i j)) k := by
  unfold half rowX2
  rw [p28]
  have hx : (fun j => k0_pay3 (F := Ideal) a b x w (ix2 r j)) = x1 (fun j => x (ix2 r j)) (fun j => a (ix2 r j))
      (fun j => b (ix2 r j)) (fun i j => w (ix2 i j)) := funext fun j => p3 a b x w r j
  have hq : (fun j => k0_pay6 (F := Ideal) (k0_pay3 a b x w) gx wq (ix2 r j)) = rowQ (fun j => x (ix2 r j))
      (fun j => a (ix2 r j)) (fun j => b (ix2 r j)) (fun i j => w (ix2 i j)) (fun j => gx (ix2 0 j))
      (fun i j => wq (ix2 i j)) := funext fun j => by rw [p6, hx]; rfl
  rw [hx]
  congr 1
  funext j
  have hj : (⟨(⟨j / 256, by omega⟩ : Fin 4) * 256 + (⟨j % 256, by omega⟩ : Fin 256), by dsimp only; omega⟩ : Fin 1024) = j :=
    Fin.ext (by dsimp only; omega)
  have := heads_at (k0_pay6 (k0_pay3 a b x w) gx wq) k0 k1 k2 k3 v0 v1 v2 v3 K V hk hv r ⟨j / 256, by omega⟩ ⟨j % 256, by omega⟩
  rw [hj, hq] at this
  exact this

end Cert.KernelIdeal.Pay
-- ==== Proof.OutMid.lean ====
/- What the kernel leaves in the windows of the attended residual stream and of its norm, as a function of the blocks. -/
module

public import proofs.«01_k».proof.Proof.BodyKernelIdeal
public import proofs.«01_k».proof.Proof.HalfMid
public import Idealize.ShloMosaic.Lib.Pipeline.ValueKit

@[expose] public section

set_option maxRecDepth 16384

noncomputable section

namespace Cert.KernelIdeal.Out

open Idealize.ShloMosaic Idealize.ShloMosaic.TcCoe Idealize.SL.Sem
open Cert.KernelIdeal Cert.KernelIdeal.Gen Cert.KernelIdeal.Body Cert.KernelIdeal.Pay Cert.Mid

/-- A part of a buffer in bfloat16. -/
abbrev ldb {s : Shape} (x : FVec Ideal s .bf16) (r : Rect s) := View.ld (Val := Elt Ideal) (e' := .bf16) x r

variable (x0 : FVec Ideal S512x1024 .f32) (x1 x2 : FVec Ideal S512x512 .bf16) (x3 : FVec Ideal S1024x1024 .bf16) (x4 : FVec Ideal S1x1024 .f32) (x5 : FVec Ideal S1024x1024 .bf16) (x6 x7 : FVec Ideal S256x1024 .bf16) (x8 : FVec Ideal S1024x1024 .bf16)

/-- Row `y` of a tile. -/
def rowBlk (y : Fin 512) :
    Fin 1024 → EReal :=
  rowX2 (fun j => x0 (ix2 y j)) (fun j => x1 (ix2 y j)) (fun j => x2 (ix2 y j)) (fun i j => x3 (ix2 i j))
    (fun j => x4 (ix2 0 j)) (fun i j => x5 (ix2 i j)) (fun i j => x6 (ix2 i j)) (fun i j => x7 (ix2 i j))
    (fun i j => x8 (ix2 i j))

theorem top_at
    (r : Fin 256) (k : Fin 1024) :
    k0_pay28 (F := Ideal) (b0_v6 x0 x1 x2 x3) (b0_v191 x0 x1 x2 x3 x4 x5 x6 x7) (ldb x8 r0_2) (ix2 r k) =
      rowBlk x0 x1 x2 x3 x4 x5 x6 x7 x8 ⟨r, by omega⟩ k := by
  refine Eq.trans (b := half (View.ld (Val := Elt Ideal) (e' := .f32) x0 r0_1) (ldb x1 r0_0) (ldb x2 r0_0) (ldb x3 r0_2) (View.ld (Val := Elt Ideal) (e' := .f32) x4 r0_5)
    (ldb x5 r0_2) (ldb x6 r0_6) (ldb x6 r0_7) (ldb x6 r0_8) (ldb x6 r0_9) (ldb x7 r0_6)
    (ldb x7 r0_7) (ldb x7 r0_8) (ldb x7 r0_9) (ldb x8 r0_2) (ix2 r k)) rfl ?_
  refine (half_at _ _ _ _ _ _ _ _ _ _ _ _ _ _ _ (fun i j => x6 (ix2 i j)) (fun i j => x7 (ix2 i j)) ?_ ?_ r k).trans ?_
  · intro s d; refine ⟨?_, ?_, ?_, ?_⟩ <;> pointwise [ldb]
  · intro s d; refine ⟨?_, ?_, ?_, ?_⟩ <;> pointwise [ldb]
  · unfold rowBlk
    pointwise [ldb]

theorem bot_at
    (r : Fin 256) (k : Fin 1024) :
    b0_v199 (F := Ideal) x0 x1 x2 x3 x4 x5 x6 x7 x8 (ix2 r k) = rowBlk x0 x1 x2 x3 x4 x5 x6 x7 x8 ⟨256 + r, by omega⟩ k := by
  refine Eq.trans (b := half (View.ld (Val := Elt Ideal) (e' := .f32) x0 r0_4) (ldb x1 r0_3) (ldb x2 r0_3) (ldb x3 r0_2) (View.ld (Val := Elt Ideal) (e' := .f32) x4 r0_5)
    (ldb x5 r0_2) (ldb x6 r0_6) (ldb x6 r0_7) (ldb x6 r0_8) (ldb x6 r0_9) (ldb x7 r0_6)
    (ldb x7 r0_7) (ldb x7 r0_8) (ldb x7 r0_9) (ldb x8 r0_2) (ix2 r k)) rfl ?_
  refine (half_at _ _ _ _ _ _ _ _ _ _ _ _ _ _ _ (fun i j => x6 (ix2 i j)) (fun i j => x7 (ix2 i j)) ?_ ?_ r k).trans ?_
  · intro s d; refine ⟨?_, ?_, ?_, ?_⟩ <;> pointwise [ldb]
  · intro s d; refine ⟨?_, ?_, ?_, ?_⟩ <;> pointwise [ldb]
  · unfold rowBlk
    pointwise [ldb]

/-- Window 12's tile. -/
theorem out12
    (y : S512x1024.Idx) : out0_12 (F := Ideal) x0 x1 x2 x3 x4 x5 x6 x7 x8 y = rowBlk x0 x1 x2 x3 x4 x5 x6 x7 x8 (y 0) (y 1) := by
  unfold out0_12
  refine View.canon_apply_of_pieces (Val := Elt Ideal) (e := .f32) (fun i => rowBlk x0 x1 x2 x3 x4 x5 x6 x7 x8 (i 0) (i 1)) _ ?_ y (cover0_12 _ _ y)
  intro p hp
  simp only [List.mem_cons, List.not_mem_nil, or_false] at hp
  rcases hp with rfl | rfl
  · intro x
    rw [eq_ix2 x]
    refine (bot_at _ _ _ _ _ _ _ _ _ (x 0) (x 1)).trans ?_
    refine congrArg₂ (rowBlk x0 x1 x2 x3 x4 x5 x6 x7 x8) (Fin.ext ?_) (Fin.ext ?_)
    · show 256 + (x 0).val = 256 + 1 * (x 0).val; omega
    · show (x 1).val = 0 + 1 * (x 1).val; omega
  · intro x
    rw [eq_ix2 x]
    refine (top_at _ _ _ _ _ _ _ _ _ (x 0) (x 1)).trans ?_
    refine congrArg₂ (rowBlk x0 x1 x2 x3 x4 x5 x6 x7 x8) (Fin.ext ?_) (Fin.ext ?_)
    · show (x 0).val = 0 + 1 * (x 0).val; omega
    · show (x 1).val = 0 + 1 * (x 1).val; omega

theorem ntop_at
    (x9 : FVec Ideal S1x1024 .f32) (r : Fin 256) (k : Fin 1024) :
    b0_v213 (F := Ideal) x0 x1 x2 x3 x4 x5 x6 x7 x8 x9 (ix2 r k) = rms (fun j => x9 (ix2 0 j)) (rowBlk x0 x1 x2 x3 x4 x5 x6 x7 x8 ⟨256 * (0 : Fin 2) + r, by simp; omega⟩) k := by
  unfold b0_v213
  rw [p30, p41]
  refine congrArg₂ (fun a b => rms a b k) (funext fun j => ?_) (funext fun j => ?_)
  · pointwise
  · exact (top_at _ _ _ _ _ _ _ _ _ r j).trans (congrFun (congrArg _ (Fin.ext (by simp))) j)

theorem nbot_at
    (x9 : FVec Ideal S1x1024 .f32) (r : Fin 256) (k : Fin 1024) :
    b0_v258 (F := Ideal) x0 x1 x2 x3 x4 x5 x6 x7 x8 x9 (ix2 r k) = rms (fun j => x9 (ix2 0 j)) (rowBlk x0 x1 x2 x3 x4 x5 x6 x7 x8 ⟨256 * (1 : Fin 2) + r, by simp; omega⟩) k := by
  unfold b0_v258 b0_v247
  rw [p41]
  refine congrArg₂ (fun a b => rms a b k) (funext fun j => ?_) (funext fun j => ?_)
  · pointwise
  · exact (bot_at _ _ _ _ _ _ _ _ _ r j).trans (congrFun (congrArg _ (Fin.ext (by simp))) j)

/-- One strided store: sublane `j` of half `h`. -/
theorem slice_at (N : FVec Ideal S256x1024 .f32) (p : FVec Ideal S256x128 .f32) (B : Fin 512 → Fin 1024 → EReal)
    (h : Fin 2) (j : Fin 8) (hN : ∀ (r : Fin 256) (k : Fin 1024), N (ix2 r k) = B ⟨256 * h + r, by omega⟩ k)
    (hp : ∀ (r : Fin 256) (l : Fin 128), p (ix2 r l) = N (ix2 r ⟨128 * j + l, by omega⟩))
    (x : S256x128.Idx) (y : S4096x128.Idx) (h0 : (y 0).val = 2048 * h + j + 8 * (x 0).val) (h1 : (y 1).val = (x 1).val) :
    p x = B ⟨(y 0).val / 8, by have : (y 0).val < 4096 := (y 0).isLt; omega⟩
      ⟨(y 0).val % 8 * 128 + (y 1).val, by have : (y 1).val < 128 := (y 1).isLt; omega⟩ := by
  refine (congrArg p (eq_ix2 x)).trans ((hp (x 0) (x 1)).trans ((hN _ _).trans ?_))
  refine congrArg₂ B (Fin.ext ?_) (Fin.ext ?_)
  · show 256 * h.val + (x 0).val = (y 0).val / 8; omega
  · show 128 * j.val + (x 1).val = (y 0).val % 8 * 128 + (y 1).val; omega

theorem line_eq (b j : ℕ) (n : Fin 256) : b + 1 * j + 1 * 8 * n.val = b + j + 8 * n.val := by omega
theorem lane_eq (x : S256x128.Idx) : 0 + 1 * 0 + 1 * 1 * (x 1).val = (x 1).val := by omega

section
variable (N : FVec Ideal S256x1024 .f32) (r : Fin 256) (l : Fin 128)

theorem pay49_at :
    k0_pay49 (F := Ideal) N (ix2 r l) = N (ix2 r ⟨128 * (7 : Fin 8) + l, by simp; omega⟩) := by
  pointwise [k0_pay49]
theorem pay48_at :
    k0_pay48 (F := Ideal) N (ix2 r l) = N (ix2 r ⟨128 * (6 : Fin 8) + l, by simp; omega⟩) := by
  pointwise [k0_pay48]
theorem pay38_at :
    k0_pay38 (F := Ideal) N (ix2 r l) = N (ix2 r ⟨128 * (7 : Fin 8) + l, by simp; omega⟩) := by
  pointwise [k0_pay38]
theorem pay37_at :
    k0_pay37 (F := Ideal) N (ix2 r l) = N (ix2 r ⟨128 * (6 : Fin 8) + l, by simp; omega⟩) := by
  pointwise [k0_pay37]
theorem pay36_at :
    k0_pay36 (F := Ideal) N (ix2 r l) = N (ix2 r ⟨128 * (5 : Fin 8) + l, by simp; omega⟩) := by
  pointwise [k0_pay36]
theorem pay35_at :
    k0_pay35 (F := Ideal) N (ix2 r l) = N (ix2 r ⟨128 * (4 : Fin 8) + l, by simp; omega⟩) := by
  pointwise [k0_pay35]

end

section
variable (v : FVec Ideal S256x1024 .f32) (g : FVec Ideal S1x1024 .f32) (w : FVec Ideal S256x1024 .f32) (r : Fin 256) (l : Fin 128)

theorem pay47_at :
    k0_pay47 (F := Ideal) v g w (ix2 r l) = k0_pay41 v g w (ix2 r ⟨128 * (5 : Fin 8) + l, by simp; omega⟩) := by
  pointwise [k0_pay47]
theorem pay46_at :
    k0_pay46 (F := Ideal) v g w (ix2 r l) = k0_pay41 v g w (ix2 r ⟨128 * (4 : Fin 8) + l, by simp; omega⟩) := by
  pointwise [k0_pay46]
theorem pay45_at :
    k0_pay45 (F := Ideal) v g w (ix2 r l) = k0_pay41 v g w (ix2 r ⟨128 * (3 : Fin 8) + l, by simp; omega⟩) := by
  pointwise [k0_pay45]
theorem pay44_at :
    k0_pay44 (F := Ideal) v g w (ix2 r l) = k0_pay41 v g w (ix2 r ⟨128 * (2 : Fin 8) + l, by simp; omega⟩) := by
  pointwise [k0_pay44]
theorem pay43_at :
    k0_pay43 (F := Ideal) v g w (ix2 r l) = k0_pay41 v g w (ix2 r ⟨128 * (1 : Fin 8) + l, by simp; omega⟩) := by
  pointwise [k0_pay43]
theorem pay42_at :
    k0_pay42 (F := Ideal) v g w (ix2 r l) = k0_pay41 v g w (ix2 r ⟨128 * (0 : Fin 8) + l, by simp; omega⟩) := by
  pointwise [k0_pay42]

end

section
variable (v : FVec Ideal S256x1024 .f32) (o : FVec Ideal S256x1024 .bf16) (w : FVec Ideal S1024x1024 .bf16) (g : FVec Ideal S1x1024 .f32) (r : Fin 256) (l : Fin 128)

theorem pay34_at :
    k0_pay34 (F := Ideal) v o w g (ix2 r l) = k0_pay30 v o w g (ix2 r ⟨128 * (3 : Fin 8) + l, by simp; omega⟩) := by
  pointwise [k0_pay34]
theorem pay33_at :
    k0_pay33 (F := Ideal) v o w g (ix2 r l) = k0_pay30 v o w g (ix2 r ⟨128 * (2 : Fin 8) + l, by simp; omega⟩) := by
  pointwise [k0_pay33]
theorem pay32_at :
    k0_pay32 (F := Ideal) v o w g (ix2 r l) = k0_pay30 v o w g (ix2 r ⟨128 * (1 : Fin 8) + l, by simp; omega⟩) := by
  pointwise [k0_pay32]
theorem pay31_at :
    k0_pay31 (F := Ideal) v o w g (ix2 r l) = k0_pay30 v o w g (ix2 r ⟨128 * (0 : Fin 8) + l, by simp; omega⟩) := by
  pointwise [k0_pay31]

end

/-- Window 13's tile. -/
theorem out13
    (x9 : FVec Ideal S1x1024 .f32) (y : S4096x128.Idx) : out0_13 (F := Ideal) x0 x1 x2 x3 x4 x5 x6 x7 x8 x9 y =
      rms (fun j => x9 (ix2 0 j)) (rowBlk x0 x1 x2 x3 x4 x5 x6 x7 x8 ⟨(y 0).val / 8, by have : (y 0).val < 4096 := (y 0).isLt; omega⟩)
        ⟨(y 0).val % 8 * 128 + (y 1).val, by have : (y 1).val < 128 := (y 1).isLt; omega⟩ := by
  unfold out0_13
  let B : Fin 512 → Fin 1024 → EReal := fun y => rms (fun j => x9 (ix2 0 j)) (rowBlk x0 x1 x2 x3 x4 x5 x6 x7 x8 y)
  refine View.canon_apply_of_pieces (Val := Elt Ideal) (e := .f32) (fun y => rms (fun j => x9 (ix2 0 j)) (rowBlk x0 x1 x2 x3 x4 x5 x6 x7 x8 ⟨(y 0).val / 8, by have : (y 0).val < 4096 := (y 0).isLt; omega⟩)
        ⟨(y 0).val % 8 * 128 + (y 1).val, by have : (y 1).val < 128 := (y 1).isLt; omega⟩) _ ?_ y (cover0_13 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · intro x
    refine slice_at (b0_v258 x0 x1 x2 x3 x4 x5 x6 x7 x8 x9) _ B 1 7
      (nbot_at _ _ _ _ _ _ _ _ _ _) (pay49_at _) x _ ?_ ?_
    · exact line_eq 2048 7 (x 0)
    · exact lane_eq x
  · intro x
    refine slice_at (b0_v258 x0 x1 x2 x3 x4 x5 x6 x7 x8 x9) _ B 1 6
      (nbot_at _ _ _ _ _ _ _ _ _ _) (pay48_at _) x _ ?_ ?_
    · exact line_eq 2048 6 (x 0)
    · exact lane_eq x
  · intro x
    refine slice_at (b0_v258 x0 x1 x2 x3 x4 x5 x6 x7 x8 x9) _ B 1 5
      (nbot_at _ _ _ _ _ _ _ _ _ _) (pay47_at _ _ _) x _ ?_ ?_
    · exact line_eq 2048 5 (x 0)
    · exact lane_eq x
  · intro x
    refine slice_at (b0_v258 x0 x1 x2 x3 x4 x5 x6 x7 x8 x9) _ B 1 4
      (nbot_at _ _ _ _ _ _ _ _ _ _) (pay46_at _ _ _) x _ ?_ ?_
    · exact line_eq 2048 4 (x 0)
    · exact lane_eq x
  · intro x
    refine slice_at (b0_v258 x0 x1 x2 x3 x4 x5 x6 x7 x8 x9) _ B 1 3
      (nbot_at _ _ _ _ _ _ _ _ _ _) (pay45_at _ _ _) x _ ?_ ?_
    · exact line_eq 2048 3 (x 0)
    · exact lane_eq x
  · intro x
    refine slice_at (b0_v258 x0 x1 x2 x3 x4 x5 x6 x7 x8 x9) _ B 1 2
      (nbot_at _ _ _ _ _ _ _ _ _ _) (pay44_at _ _ _) x _ ?_ ?_
    · exact line_eq 2048 2 (x 0)
    · exact lane_eq x
  · intro x
    refine slice_at (b0_v258 x0 x1 x2 x3 x4 x5 x6 x7 x8 x9) _ B 1 1
      (nbot_at _ _ _ _ _ _ _ _ _ _) (pay43_at _ _ _) x _ ?_ ?_
    · exact line_eq 2048 1 (x 0)
    · exact lane_eq x
  · intro x
    refine slice_at (b0_v258 x0 x1 x2 x3 x4 x5 x6 x7 x8 x9) _ B 1 0
      (nbot_at _ _ _ _ _ _ _ _ _ _) (pay42_at _ _ _) x _ ?_ ?_
    · exact line_eq 2048 0 (x 0)
    · exact lane_eq x
  · intro x
    refine slice_at (b0_v213 x0 x1 x2 x3 x4 x5 x6 x7 x8 x9) _ B 0 7
      (ntop_at _ _ _ _ _ _ _ _ _ _) (pay38_at _) x _ ?_ ?_
    · exact line_eq 0 7 (x 0)
    · exact lane_eq x
  · intro x
    refine slice_at (b0_v213 x0 x1 x2 x3 x4 x5 x6 x7 x8 x9) _ B 0 6
      (ntop_at _ _ _ _ _ _ _ _ _ _) (pay37_at _) x _ ?_ ?_
    · exact line_eq 0 6 (x 0)
    · exact lane_eq x
  · intro x
    refine slice_at (b0_v213 x0 x1 x2 x3 x4 x5 x6 x7 x8 x9) _ B 0 5
      (ntop_at _ _ _ _ _ _ _ _ _ _) (pay36_at _) x _ ?_ ?_
    · exact line_eq 0 5 (x 0)
    · exact lane_eq x
  · intro x
    refine slice_at (b0_v213 x0 x1 x2 x3 x4 x5 x6 x7 x8 x9) _ B 0 4
      (ntop_at _ _ _ _ _ _ _ _ _ _) (pay35_at _) x _ ?_ ?_
    · exact line_eq 0 4 (x 0)
    · exact lane_eq x
  · intro x
    refine slice_at (b0_v213 x0 x1 x2 x3 x4 x5 x6 x7 x8 x9) _ B 0 3
      (ntop_at _ _ _ _ _ _ _ _ _ _) (pay34_at _ _ _ _) x _ ?_ ?_
    · exact line_eq 0 3 (x 0)
    · exact lane_eq x
  · intro x
    refine slice_at (b0_v213 x0 x1 x2 x3 x4 x5 x6 x7 x8 x9) _ B 0 2
      (ntop_at _ _ _ _ _ _ _ _ _ _) (pay33_at _ _ _ _) x _ ?_ ?_
    · exact line_eq 0 2 (x 0)
    · exact lane_eq x
  · intro x
    refine slice_at (b0_v213 x0 x1 x2 x3 x4 x5 x6 x7 x8 x9) _ B 0 1
      (ntop_at _ _ _ _ _ _ _ _ _ _) (pay32_at _ _ _ _) x _ ?_ ?_
    · exact line_eq 0 1 (x 0)
    · exact lane_eq x
  · intro x
    refine slice_at (b0_v213 x0 x1 x2 x3 x4 x5 x6 x7 x8 x9) _ B 0 0
      (ntop_at _ _ _ _ _ _ _ _ _ _) (pay31_at _ _ _ _) x _ ?_ ?_
    · exact line_eq 0 0 (x 0)
    · exact lane_eq x

end Cert.KernelIdeal.Out
-- ==== Proof.Stage.lean ====
/- The reference's values, one stage at a time, read at a batch entry, a position and a lane. -/
module

public import proofs.«01_k».proof.Proof.Gen.ReferenceIdeal.Run
public import proofs.«01_k».proof.Proof.Soft
public import Idealize.ShloMosaic.Lib.Pointwise

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.Mid

/-- The residual stream after the mixers' projection. -/
def rX1 (A0 : FVec Ideal S16384x1024 .f32) (A1 A2 : FVec Ideal S16384x512 .bf16) (A3 : FVec Ideal S1024x1024 .bf16) :
    FVec Ideal S8x2048x1024 .f32 :=
  addf (shapeCast _ A0 shapeCasts_S16384x1024_S8x2048x1024) (Host.dotGeneral dot_S8x2048x1024_S1024x1024_S8x2048x1024_2_0_01_1_n_n none (concatenate S8x2048x1024 2 [⟨S8x2048x512, (shapeCast _ (extf .f32 A1 bitsLt_bf16_f32) shapeCasts_S16384x512_S8x2048x512)⟩, ⟨S8x2048x512, (shapeCast _ (extf .f32 A2 bitsLt_bf16_f32) shapeCasts_S16384x512_S8x2048x512)⟩] concatenates_S8x2048x512_S8x2048x512_S8x2048x1024_d2) (extf .f32 A3 bitsLt_bf16_f32))

/-- The norm. -/
def rNorm (A9 : FVec Ideal S1x1024 .f32) (X2 : FVec Ideal S8x2048x1024 .f32) : FVec Ideal S8x2048x1024 .f32 :=
  mulf (mulf X2 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X2 X2) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ A9 shapeCasts_S1x1024_S1024)))

/-- The queries. -/
def rQ (A4 : FVec Ideal S1x1024 .f32) (A5 : FVec Ideal S1024x1024 .bf16) (X1 : FVec Ideal S8x2048x1024 .f32) :
    FVec Ideal S8x2048x1024 .f32 :=
  Host.dotGeneral dot_S8x2048x1024_S1024x1024_S8x2048x1024_2_0_01_1_n_n none (rNorm A4 X1) (extf .f32 A5 bitsLt_bf16_f32)

/-- The scaled scores. -/
def rS (A6 : FVec Ideal S2048x1024 .bf16) (Q : FVec Ideal S8x2048x1024 .f32) : FVec Ideal S8x4x2048x256 .f32 :=
  mulf (Host.dotGeneral dot_S8x2048x4x256_S8x256x4x256_S8x4x2048x256_3_3_1_1_02_02 none (shapeCast _ Q shapeCasts_S8x2048x1024_S8x2048x4x256) (shapeCast _ (extf .f32 A6 bitsLt_bf16_f32) shapeCasts_S2048x1024_S8x256x4x256)) (broadcastInDim S8x4x2048x256 ![] bcast_S_S8x4x2048x256 (constant S_ .f32 0x3D800000#32))

/-- The rows' maxima, before the initial value is taken in once more. -/
def rR (S : FVec Ideal S8x4x2048x256 .f32) : FVec Ideal S8x4x2048 .f32 :=
  Host.reduce FloatOps.maximumf S (constant S_ .f32 0xFF800000#32) reducesTo_S8x4x2048x256_S8x4x2048_d3 h_S_

/-- The rows' maxima. -/
def rM (S : FVec Ideal S8x4x2048x256 .f32) : FVec Ideal S8x4x2048 .f32 :=
  maximumf (broadcastInDim S8x4x2048 ![] bcast_S_S8x4x2048 (constant S_ .f32 0xFF800000#32)) (rR S)

/-- The exponentials. -/
def rE (S : FVec Ideal S8x4x2048x256 .f32) : FVec Ideal S8x4x2048x256 .f32 :=
  Host.exp (subf S (broadcastInDim S8x4x2048x256 ![0, 1, 2, 3] bcast_S8x4x2048x1_S8x4x2048x256_0_1_2_3 (broadcastInDim S8x4x2048x1 ![0, 1, 2] bcast_S8x4x2048_S8x4x2048x1_0_1_2 (rM S))))

/-- The softmax. -/
def rP (S : FVec Ideal S8x4x2048x256 .f32) : FVec Ideal S8x4x2048x256 .f32 :=
  Host.divf (rE S) (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd (rE S) (constant S_ .f32 0x00000000#32) reducesTo_S8x4x2048x256_S8x4x2048_d3 h_S_)))

/-- The attended rows. -/
def rO (A7 : FVec Ideal S2048x1024 .bf16) (P : FVec Ideal S8x4x2048x256 .f32) : FVec Ideal S8x2048x1024 .f32 :=
  shapeCast _ (transpose S8x2048x4x256 [0, 3, 1, 2] (Host.dotGeneral dot_S8x256x4x256_S8x4x2048x256_S8x4x256x2048_1_3_3_2_02_01 none (shapeCast _ (extf .f32 A7 bitsLt_bf16_f32) shapeCasts_S2048x1024_S8x256x4x256) P) transposes_S8x4x256x2048_S8x2048x4x256_0_3_1_2) shapeCasts_S8x2048x4x256_S8x2048x1024

/-- The residual stream after the attention. -/
def rX2 (A8 : FVec Ideal S1024x1024 .bf16) (X1 O : FVec Ideal S8x2048x1024 .f32) : FVec Ideal S8x2048x1024 .f32 :=
  addf X1 (Host.dotGeneral dot_S8x2048x1024_S1024x1024_S8x2048x1024_2_0_01_1_n_n none O (extf .f32 A8 bitsLt_bf16_f32))

theorem x1_at (A0 : FVec Ideal S16384x1024 .f32) (A1 A2 : FVec Ideal S16384x512 .bf16) (A3 : FVec Ideal S1024x1024 .bf16)
    (b : Fin 8) (t : Fin 2048) (k : Fin 1024) :
    rX1 A0 A1 A2 A3 (ix3 b t k) = x1 (fun j => A0 (ix2 ⟨b * 2048 + t, by omega⟩ j))
      (fun j => A1 (ix2 ⟨b * 2048 + t, by omega⟩ j)) (fun j => A2 (ix2 ⟨b * 2048 + t, by omega⟩ j))
      (fun i j => A3 (ix2 i j)) k := by
  pointwise [rX1, x1]

theorem norm_at (A9 : FVec Ideal S1x1024 .f32) (X : FVec Ideal S8x2048x1024 .f32) (b : Fin 8) (t : Fin 2048) (k : Fin 1024) :
    rNorm A9 X (ix3 b t k) = rms (fun j => A9 (ix2 0 j)) (fun j => X (ix3 b t j)) k := by
  pointwise [rNorm, rms]

theorem q_at (A4 : FVec Ideal S1x1024 .f32) (A5 : FVec Ideal S1024x1024 .bf16) (X : FVec Ideal S8x2048x1024 .f32)
    (b : Fin 8) (t : Fin 2048) (k : Fin 1024) :
    rQ A4 A5 X (ix3 b t k) = mm (fun j => rNorm A4 X (ix3 b t j)) (fun i j => A5 (ix2 i j)) k := by
  pointwise [rQ, mm]

theorem s_at (A6 : FVec Ideal S2048x1024 .bf16) (Q : FVec Ideal S8x2048x1024 .f32)
    (b : Fin 8) (h : Fin 4) (t : Fin 2048) (s : Fin 256) :
    rS A6 Q (ix4 b h t s) = sc (fun j => Q (ix3 b t j)) (fun i j => A6 (ix2 ⟨b * 256 + i, by omega⟩ j)) h s
      * Ideal.ofBits .f32 0x3D800000#32 := by
  pointwise [rS, sc]

theorem r_at (S : FVec Ideal S8x4x2048x256 .f32) (b : Fin 8) (h : Fin 4) (t : Fin 2048) :
    rR S (ix3 b h t) = Finset.univ.fold max (Ideal.ofBits .f32 0xFF800000#32) (fun s => S (ix4 b h t s)) := by
  pointwise [rR]

theorem o_at (A7 : FVec Ideal S2048x1024 .bf16) (P : FVec Ideal S8x4x2048x256 .f32)
    (b : Fin 8) (t : Fin 2048) (k : Fin 1024) :
    rO A7 P (ix3 b t k) = att (fun h s => P (ix4 b h t s)) (fun i j => A7 (ix2 ⟨b * 256 + i, by omega⟩ j)) k := by
  pointwise [rO, att]
  exact Finset.sum_congr rfl fun _ _ => mul_comm _ _

theorem x2_at (A8 : FVec Ideal S1024x1024 .bf16) (X O : FVec Ideal S8x2048x1024 .f32)
    (b : Fin 8) (t : Fin 2048) (k : Fin 1024) :
    rX2 A8 X O (ix3 b t k) = x2 (fun j => X (ix3 b t j)) (fun j => O (ix3 b t j)) (fun i j => A8 (ix2 i j)) k := by
  pointwise [rX2, x2, mm]

end Cert.ReferenceIdeal.Stage
-- ==== Proof.Stage2.lean ====
/- The reference's values, one stage at a time, read at a batch entry, a position and a lane. -/
module

public import proofs.«01_k».proof.Proof.Gen.ReferenceIdeal.Run
public import proofs.«01_k».proof.Proof.Stage
public import proofs.«01_k».proof.Proof.Soft
public import Idealize.ShloMosaic.Lib.Pointwise

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.Mid

theorem m_at' (S : FVec Ideal S8x4x2048x256 .f32) (i : S8x4x2048.Idx) :
    rM S i = max (Ideal.ofBits .f32 0xFF800000#32) (rR S i) := by
  unfold rM
  rw [maximumf_apply]
  rfl

theorem m_at (S : FVec Ideal S8x4x2048x256 .f32) (b : Fin 8) (h : Fin 4) (t : Fin 2048) :
    rM S (ix3 b h t) = Finset.univ.fold max (Ideal.ofBits .f32 0xFF800000#32) (fun s => S (ix4 b h t s)) := by
  rw [m_at', r_at]
  exact max_fold _ _

theorem e_at (S : FVec Ideal S8x4x2048x256 .f32) (b : Fin 8) (h : Fin 4) (t : Fin 2048) (s : Fin 256) :
    rE S (ix4 b h t s) = Ideal.exp (S (ix4 b h t s) - rM S (ix3 b h t)) := by
  pointwise [rE]

theorem p_at (S : FVec Ideal S8x4x2048x256 .f32) (b : Fin 8) (h : Fin 4) (t : Fin 2048) (s : Fin 256) :
    rP S (ix4 b h t s) = soft (fun i => S (ix4 b h t i)) s := by
  have hp : rP S (ix4 b h t s) = Ideal.div (rE S (ix4 b h t s)) (∑ i, rE S (ix4 b h t i)) := by
    pointwise [rP]
  rw [hp]
  simp only [e_at, m_at]
  rfl

end Cert.ReferenceIdeal.Stage
-- ==== Proof.RefMid.lean ====
/- The reference's two results, as one function of a row's arguments. -/
module

public import proofs.«01_k».proof.Proof.Stage2

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.Mid

/-- Row `R` of the attended residual stream. -/
def rowAt (A0 : FVec Ideal S16384x1024 .f32) (A1 A2 : FVec Ideal S16384x512 .bf16) (A3 : FVec Ideal S1024x1024 .bf16)
    (A4 : FVec Ideal S1x1024 .f32) (A5 : FVec Ideal S1024x1024 .bf16) (A6 A7 : FVec Ideal S2048x1024 .bf16)
    (A8 : FVec Ideal S1024x1024 .bf16) (R : Fin 16384) : Fin 1024 → EReal :=
  rowX2 (fun j => A0 (ix2 R j)) (fun j => A1 (ix2 R j)) (fun j => A2 (ix2 R j)) (fun i j => A3 (ix2 i j))
    (fun j => A4 (ix2 0 j)) (fun i j => A5 (ix2 i j)) (fun i j => A6 (ix2 ⟨R / 2048 * 256 + i, by omega⟩ j))
    (fun i j => A7 (ix2 ⟨R / 2048 * 256 + i, by omega⟩ j)) (fun i j => A8 (ix2 i j))

/-- The reference's residual stream, whole. -/
def rAll (A0 : FVec Ideal S16384x1024 .f32) (A1 A2 : FVec Ideal S16384x512 .bf16) (A3 : FVec Ideal S1024x1024 .bf16)
    (A4 : FVec Ideal S1x1024 .f32) (A5 : FVec Ideal S1024x1024 .bf16) (A6 A7 : FVec Ideal S2048x1024 .bf16)
    (A8 : FVec Ideal S1024x1024 .bf16) : FVec Ideal S8x2048x1024 .f32 :=
  rX2 A8 (rX1 A0 A1 A2 A3) (rO A7 (rP (rS A6 (rQ A4 A5 (rX1 A0 A1 A2 A3)))))

theorem all_at (A0 : FVec Ideal S16384x1024 .f32) (A1 A2 : FVec Ideal S16384x512 .bf16) (A3 : FVec Ideal S1024x1024 .bf16)
    (A4 : FVec Ideal S1x1024 .f32) (A5 : FVec Ideal S1024x1024 .bf16) (A6 A7 : FVec Ideal S2048x1024 .bf16)
    (A8 : FVec Ideal S1024x1024 .bf16) (R : Fin 16384) (k : Fin 1024) :
    rAll A0 A1 A2 A3 A4 A5 A6 A7 A8 (ix3 ⟨R / 2048, by omega⟩ ⟨R % 2048, by omega⟩ k) =
      rowAt A0 A1 A2 A3 A4 A5 A6 A7 A8 R k := by
  have hR : (⟨R / 2048 * 2048 + R % 2048, by omega⟩ : Fin 16384) = R := Fin.ext (Nat.div_add_mod' _ _)
  unfold rAll
  rw [x2_at]
  simp only [x1_at, o_at, p_at, s_at, q_at, norm_at, hR]
  rfl

/-- The attended residual stream, as an array of rows. -/
def out0 (A0 : FVec Ideal S16384x1024 .f32) (A1 A2 : FVec Ideal S16384x512 .bf16) (A3 : FVec Ideal S1024x1024 .bf16)
    (A4 : FVec Ideal S1x1024 .f32) (A5 : FVec Ideal S1024x1024 .bf16) (A6 A7 : FVec Ideal S2048x1024 .bf16)
    (A8 : FVec Ideal S1024x1024 .bf16) : FVec Ideal S16384x1024 .f32 :=
  fun i => rowAt A0 A1 A2 A3 A4 A5 A6 A7 A8 (i 0) (i 1)

/-- Its norm, each row cut into eight rows of 128 lanes. -/
def out1 (A0 : FVec Ideal S16384x1024 .f32) (A1 A2 : FVec Ideal S16384x512 .bf16) (A3 : FVec Ideal S1024x1024 .bf16)
    (A4 : FVec Ideal S1x1024 .f32) (A5 : FVec Ideal S1024x1024 .bf16) (A6 A7 : FVec Ideal S2048x1024 .bf16)
    (A8 : FVec Ideal S1024x1024 .bf16) (A9 : FVec Ideal S1x1024 .f32) : FVec Ideal S131072x128 .f32 :=
  fun i => rms (fun j => A9 (ix2 0 j)) (rowAt A0 A1 A2 A3 A4 A5 A6 A7 A8 ⟨(i 0).val / 8, by have := (i 0).isLt; simp at this; omega⟩)
    ⟨(i 0).val % 8 * 128 + (i 1).val, by have := (i 1).isLt; simp at this; omega⟩

theorem cast0 (X : FVec Ideal S8x2048x1024 .f32) (R : Fin 16384) (k : Fin 1024) :
    (shapeCast S16384x1024 X shapeCasts_S8x2048x1024_S16384x1024 : FVec Ideal S16384x1024 .f32) (ix2 R k) =
      X (ix3 ⟨R / 2048, by omega⟩ ⟨R % 2048, by omega⟩ k) := by
  pointwise

theorem cast1 (X : FVec Ideal S8x2048x1024 .f32) (R : Fin 131072) (k : Fin 128) :
    (shapeCast S131072x128 X shapeCasts_S8x2048x1024_S131072x128 : FVec Ideal S131072x128 .f32) (ix2 R k) =
      X (ix3 ⟨R / 8 / 2048, by omega⟩ ⟨R / 8 % 2048, by omega⟩ ⟨R % 8 * 128 + k, by omega⟩) := by
  pointwise
  exact congrArg (fun q : Fin 8 => X (ix3 q _ _)) (Fin.ext (by show R.val / 16384 = R.val / 8 / 2048; omega))

variable (m : (ℓ : Loc nD τ sig) → Buf (Elt Ideal) ℓ) (c : Dev nD)

theorem res0 : Cert.ReferenceIdeal.Value.res_main_v64 m c =
    out0 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine Eq.trans (b := (shapeCast S16384x1024 (rAll (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)))
      shapeCasts_S8x2048x1024_S16384x1024 : FVec Ideal S16384x1024 .f32)) rfl ?_
  funext i
  rw [eq_ix2 i]
  exact (cast0 _ (i 0) (i 1)).trans (all_at _ _ _ _ _ _ _ _ _ (i 0) (i 1))

theorem res1 : Cert.ReferenceIdeal.Value.res_main_v65 m c =
    out1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  refine Eq.trans (b := (shapeCast S131072x128 (rNorm (m ((c : Thread nD τ).loc main_arg9)) (rAll (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))))
      shapeCasts_S8x2048x1024_S131072x128 : FVec Ideal S131072x128 .f32)) rfl ?_
  funext i
  rw [eq_ix2 i]
  refine (cast1 _ (i 0) (i 1)).trans ((norm_at _ _ _ _ _).trans ?_)
  refine congrArg (fun f => rms _ f _) (funext fun j => ?_)
  exact all_at _ _ _ _ _ _ _ _ _ ⟨(i 0).val / 8, by have := (i 0).isLt; simp at this; omega⟩ j

end Cert.ReferenceIdeal.Stage
-- ==== Proof.ValueMid.lean ====
/- The kernel's two result arrays are the reference's two terms over the kernel's arguments. -/
module

public import proofs.«01_k».proof.Proof.OutMid
public import proofs.«01_k».proof.Proof.RefMid

@[expose] public section

set_option maxRecDepth 16384

noncomputable section

namespace Cert.KernelIdeal.Out

open Idealize.ShloMosaic Idealize.ShloMosaic.TcCoe Idealize.SL.Sem
open Idealize.ShloMosaic.Pipeline (Dat)
open Cert.KernelIdeal Cert.KernelIdeal.Gen Cert.KernelIdeal.Body Cert.Mid

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val / 4, 0] ∧ win0_7.index t = ![t.val / 4, 0] ∧ win0_8.index t = ![0, 0]
    ∧ win0_9.index t = ![0, 0] ∧ win0_12.index t = ![t.val, 0] ∧ win0_13.index t = ![t.val, 0] :=
  (by decide +kernel : ∀ t : Fin grid0.N, _)

theorem row_eq (c : Dev nD) (t : Fin cfg0.N) (y : Fin 512) (R : Fin 16384) (hR : R.val = t.val * 512 + y.val) :
    rowBlk (iblk m c 0 t) (iblk m c 1 t) (iblk m c 2 t) (iblk m c 3 t) (iblk m c 4 t) (iblk m c 5 t) (iblk m c 6 t)
      (iblk m c 7 t) (iblk m c 8 t) y =
    Cert.ReferenceIdeal.Stage.rowAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) R := by
  unfold rowBlk Cert.ReferenceIdeal.Stage.rowAt
  congr 1
  · funext j; blk_ext [iblk, V, idx t]
  · funext j; blk_ext [iblk, V, idx t]
  · funext j; blk_ext [iblk, V, idx t]
  · funext i j; blk_ext [iblk, V, idx t]
  · funext j; blk_ext [iblk, V, idx t]
  · funext i j; blk_ext [iblk, V, idx t]
  · funext i j; blk_ext [iblk, V, idx t]
  · funext i j; blk_ext [iblk, V, idx t]
  · funext i j; blk_ext [iblk, V, idx t]

theorem final12 (c : Dev nD) : (dats m 0 c).arrAt 12 (cfgs 0).N =
    Cert.ReferenceIdeal.Stage.out0 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 12 _ (by decide +kernel) fun t _ y => ?_
  blk_simp
  rw [after0_12]
  refine (out12 _ _ _ _ _ _ _ _ _ y).trans ?_
  unfold Cert.ReferenceIdeal.Stage.out0
  refine (congrFun (row_eq m c t (y 0) (((cfg0.win 12).blk t).view.emb y 0) ?_) (y 1)).trans ?_
  · blk_simp [idx t]
  · refine congrArg _ (Fin.ext ?_)
    blk_simp [idx t]

theorem final13 (c : Dev nD) : (dats m 0 c).arrAt 13 (cfgs 0).N =
    Cert.ReferenceIdeal.Stage.out1 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  refine (dats m 0 c).arrAt_eq_of_covers 13 _ (by decide +kernel) fun t _ y => ?_
  blk_simp
  rw [after0_13]
  refine (out13 _ _ _ _ _ _ _ _ _ _ y).trans ?_
  unfold Cert.ReferenceIdeal.Stage.out1
  have e0 : (((cfg0.win 13).blk t).view.emb y 0 : ℕ) = t.val * 4096 + (y 0 : ℕ) := by blk_simp [idx t]
  have e1 : (((cfg0.win 13).blk t).view.emb y 1 : ℕ) = (y 1 : ℕ) := by blk_simp [idx t]
  have hy : (y 0).val < 4096 := (y 0).isLt
  refine Eq.trans (congrArg₂ (fun a b => rms a b _) (funext fun j => ?_) (row_eq m c t _ _ ?_)) (congrArg _ (Fin.ext ?_))
  · blk_ext [iblk, V, idx t]
  · show (((cfg0.win 13).blk t).view.emb y 0 : ℕ) / 8 = t.val * 512 + (y 0).val / 8
    rw [e0]; omega
  · show (y 0).val % 8 * 128 + (y 1).val = (((cfg0.win 13).blk t).view.emb y 0 : ℕ) % 8 * 128 + (((cfg0.win 13).blk t).view.emb y 1 : ℕ)
    rw [e0, e1]; omega

end Cert.KernelIdeal.Out
-- ==== Proof.ClaimMid.lean ====
/- The claims of the out-projection and cross-attention call: frames and the equality of both results. -/
module

public import proofs.«01_k».proof.Defs
public import proofs.«01_k».proof.Proof.BodyKernel
public import proofs.«01_k».proof.Proof.BodyKernelIdeal
public import proofs.«01_k».proof.Proof.ValueMid
public import Idealize.ShloMosaic.Lib.Claim

@[expose] public section

set_option maxRecDepth 16384

noncomputable section

namespace Cert.Mid

open Idealize.ShloMosaic Idealize.SL.Sem

theorem frameRef : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

theorem named : Cert.preserves_Kernel_KernelIdeal :=
  IdealRules.named_const.statement Cert.KernelIdeal.κ "log2e_16" .f32 0x3DB8AA3B#32
    (((1 / 16) * (Real.log 2)⁻¹ : ℝ) : EReal) rfl

set_option maxHeartbeats 4000000 in
theorem algebraic : Cert.algebraic_KernelIdeal_ReferenceIdeal := by
  pair_intro
  · run_from Cert.KernelIdeal.Body.run_main m g
  · refine (θ_run Cert.ReferenceIdeal.defs _ _).mono
      (fun r h c => ⟨(h c).1.trans ?_, (h c).2.1.trans ?_, (h c).2.2⟩) (Cert.ReferenceIdeal.Value.run m' g')
    · obtain ⟨h0, h1, h2, h3, h4, h5, h6, h7, h8, _⟩ := hagree c
      refine Eq.trans ?_ (Cert.KernelIdeal.Out.final12 m c).symm
      rw [Cert.ReferenceIdeal.Stage.res0, h0, h1, h2, h3, h4, h5, h6, h7, h8]
    · obtain ⟨h0, h1, h2, h3, h4, h5, h6, h7, h8, h9, _⟩ := hagree c
      refine Eq.trans ?_ (Cert.KernelIdeal.Out.final13 m c).symm
      rw [Cert.ReferenceIdeal.Stage.res1, h0, h1, h2, h3, h4, h5, h6, h7, h8, h9]

end Cert.Mid

end
-- ==== Proof.WordsExperts.lean ====
/- The integer tables of the experts' call as functions of the experts' row counts, at literal shapes, and what they say point by point. -/
module

public import Idealize.ShloMosaic.Lib.Routing.Ops
public import Idealize.ShloMosaic.Lib.Routing.OpsOne
public import Idealize.ShloMosaic.Lib.SortNet.Extract
public import Idealize.ShloMosaic.Lib.IndicatorCount
public import Idealize.ShloMosaic.Lib.WordCmp
public import Idealize.ShloMosaic.Lib.Pointwise

@[expose] public section

set_option maxRecDepth 16384

noncomputable section

namespace Cert.Words

open Idealize.ShloMosaic hiding ix0 ix1 ix2 eq_ix1
open Idealize.ShloMosaic.ValueIdx (ix0 ix1 ix2 eq_ix1 eq_ix0)
open Idealize.ShloMosaic.Routing (shape0 shape1 shape2 symm1 numel1 cumsum1 ofFin_eq_ix1)

/-! ## The tables -/

/-- One word for each expert, the same. -/
def all32 (k : BitVec 32) : IVec (shape1 32) 32 := broadcastInDim (shape1 32) ![] (by decide) (constantI shape0 32 k)
/-- One word for each block, the same. -/
def all159 (k : BitVec 32) : IVec (shape1 159) 32 := broadcastInDim (shape1 159) ![] (by decide) (constantI shape0 32 k)

/-- Division by a word, rounded down, expert by expert. -/
def floor32 (x : IVec (shape1 32) 32) (k : BitVec 32) : IVec (shape1 32) 32 :=
  select (andi (cmpi .ne (signi x) (broadcastInDim (shape1 32) ![] (by decide) (signi (constantI shape0 32 k))))
      (cmpi .ne (Host.remsi x (all32 k)) (all32 0#32)))
    (subi (Host.divsi x (all32 k)) (all32 1#32)) (Host.divsi x (all32 k))

/-- Division by a word, rounded down, block by block. -/
def floor159 (x : IVec (shape1 159) 32) (k : BitVec 32) : IVec (shape1 159) 32 :=
  select (andi (cmpi .ne (signi x) (broadcastInDim (shape1 159) ![] (by decide) (signi (constantI shape0 32 k))))
      (cmpi .ne (Host.remsi x (all159 k)) (all159 0#32)))
    (subi (Host.divsi x (all159 k)) (all159 1#32)) (Host.divsi x (all159 k))

/-- Each expert's row count rounded up to whole blocks. -/
def padded (n : IVec (shape1 32) 32) : IVec (shape1 32) 32 :=
  muli (floor32 (subi (addi n (all32 512#32)) (all32 1#32)) 512#32) (all32 512#32)

/-- Where each expert's blocks end. -/
def ends (n : IVec (shape1 32) 32) : IVec (shape1 32) 32 :=
  Host.reduceWindow IntOp.addi ![32] ![1] ![31] ![0] (padded n) (broadcastInDim shape0 ![] (by decide) (constantI shape0 32 0#32)) (by decide) (by decide)

/-- Where each block starts. -/
def starts : IVec (shape1 159) 32 := muli (iotaInDim (shape1 159) 32 0) (all159 512#32)

/-- Whether an expert's blocks end at or before a block's start. -/
def passed (n : IVec (shape1 32) 32) : IVec (shape2 159 32) 1 :=
  cmpi .sle (broadcastInDim (shape2 159 32) ![0, 1] (by decide) (broadcastInDim (shape2 1 32) ![1] (by decide) (ends n)))
    (broadcastInDim (shape2 159 32) ![0, 1] (by decide) (broadcastInDim (shape2 159 1) ![0] (by decide) starts))

theorem reduces_passed : (shape2 159 32).ReducesTo [1] (shape1 159) := by decide
theorem reduces_passed' : (shape2 159 32).Reduces [1] (shape1 159) := by decide

/-- Each block's expert. -/
def expert (n : IVec (shape1 32) 32) : IVec (shape1 159) 32 :=
  minsi (Host.reduce IntOp.addi (extui 32 (passed n) (by decide)) (constantI shape0 32 0#32) reduces_passed (by decide)) (all159 31#32)

/-- Reading one of 32 words for each block. -/
def take32 : GatherDims (shape1 32) (shape2 159 1) (shape1 159) where
  offsetDims := []
  collapsedSliceDims := [0]
  operandBatchingDims := []
  startIndicesBatchingDims := []
  startIndexMap := [0]
  indexVectorDim := 1
  sliceSizes := ![1]
  wf := by decide

/-- Reading one of 159 words for each block. -/
def take159 : GatherDims (shape1 159) (shape2 159 1) (shape1 159) where
  offsetDims := []
  collapsedSliceDims := [0]
  operandBatchingDims := []
  startIndicesBatchingDims := []
  startIndexMap := [0]
  indexVectorDim := 1
  sliceSizes := ![1]
  wf := by decide

/-- An index word, a negative one counted from the end, as a column. -/
def column (e : IVec (shape1 159) 32) (k : BitVec 32) : IVec (shape2 159 1) 32 :=
  broadcastInDim (shape2 159 1) ![0] (by decide) (select (cmpi .slt e (all159 0#32)) (addi e (all159 k)) e)

/-- How many of a block's rows are real. -/
def filled (n : IVec (shape1 32) 32) : IVec (shape1 159) 32 :=
  minsi (all159 512#32) (maxsi (all159 0#32)
    (subi (Host.gather take32 (addi (subi (ends n) (padded n)) n) (column (expert n) 32#32)) starts))

/-- Whether a block starts before the last expert's blocks end. -/
def before (n : IVec (shape1 32) 32) : IVec (shape1 159) 1 :=
  cmpi .slt starts (broadcastInDim (shape1 159) ![] (by decide)
    (shapeCast shape0 (extractStridedSlice (shape1 1) ![31] (ends n) (by decide)) (by decide)))

/-- How many halves of a block are computed. -/
def halves (n : IVec (shape1 32) 32) : IVec (shape1 159) 32 :=
  select (before n) (floor159 (subi (addi (filled n) (all159 256#32)) (all159 1#32)) 256#32) (all159 0#32)

theorem joins_opens : Shape.Concatenates [shape1 1, shape1 158] (shape1 159) 0 := by decide
theorem joins_ahead : Shape.Concatenates [shape1 158, shape1 1] (shape1 159) 0 := by decide

/-- Whether a block is the first of its expert's run. -/
def opens (e : IVec (shape1 159) 32) : IVec (shape1 159) 1 :=
  concatenate (shape1 159) 0
    [⟨shape1 1, broadcastInDim (shape1 1) ![] (by decide) (constantI shape0 1 1#1)⟩,
     ⟨shape1 158, cmpi .ne (extractStridedSlice (shape1 158) ![1] e (by decide)) (extractStridedSlice (shape1 158) ![0] e (by decide))⟩]
    joins_opens

/-- A first block's own number, and 159 for the others. -/
def marks (e : IVec (shape1 159) 32) : IVec (shape1 159) 32 := select (opens e) (iotaInDim (shape1 159) 32 0) (all159 159#32)

/-- The marks one block further on. -/
def ahead (e : IVec (shape1 159) 32) : IVec (shape1 159) 32 :=
  concatenate (shape1 159) 0
    [⟨shape1 158, extractStridedSlice (shape1 158) ![1] (marks e) (by decide)⟩,
     ⟨shape1 1, broadcastInDim (shape1 1) ![] (by decide) (constantI shape0 32 159#32)⟩]
    joins_ahead

/-- The next first block, 159 when there is none. -/
def nextOpen (e : IVec (shape1 159) 32) : IVec (shape1 159) 32 :=
  Host.reduceWindow IntOp.minsi ![159] ![1] ![0] ![158] (ahead e) (broadcastInDim shape0 ![] (by decide) (constantI shape0 32 2147483647#32)) (by decide) (by decide)

/-- The next run's expert, −1 when there is none. -/
def nextExpert (e : IVec (shape1 159) 32) : IVec (shape1 159) 32 :=
  select (cmpi .slt (nextOpen e) (all159 159#32)) (Host.gather take159 e (column (minsi (nextOpen e) (all159 158#32)) 159#32)) (all159 4294967295#32)

/-- A first block's mark as a word. -/
def firsts (e : IVec (shape1 159) 32) : IVec (shape1 159) 32 := extui 32 (opens e) (by decide)

/-- How many runs have started. -/
def runs (e : IVec (shape1 159) 32) : IVec (shape1 159) 32 :=
  Host.reduceWindow IntOp.addi ![159] ![1] ![158] ![0] (firsts e) (broadcastInDim shape0 ![] (by decide) (constantI shape0 32 0#32)) (by decide) (by decide)

/-- The slot a run's weights are in. -/
def slots (e : IVec (shape1 159) 32) : IVec (shape1 159) 32 := andi (subi (runs e) (all159 1#32)) (all159 1#32)

/-! ## What they say -/

theorem toNat_lt_of_toInt {x : BitVec 32} {k : Nat} (h0 : 0 ≤ x.toInt) (h : x.toInt < k) : x.toNat < k := by
  have h1 := (WordCmp.toInt_nonneg_iff_lt_half x).1 h0
  rw [WordCmp.toInt_eq_toNat_of_lt_half h1] at h
  omega

theorem expert_lt (n : IVec (shape1 32) 32) (t : Fin 159) : (expert n (ix1 t)).toNat < 32 := by
  have e : expert n (ix1 t) = IntOp.minsi (Host.reduce IntOp.addi (extui 32 (passed n) (by decide)) (constantI shape0 32 0#32) reduces_passed (by decide) (ix1 t)) 31#32 := rfl
  rw [e, Host.reduce_eq_fold_single IntOp.addi _ _ reduces_passed reduces_passed']
  have e2 := IndicatorCount.fold_addi_setWidth_eq_card (w := 32) (fun k => passed n (reduces_passed'.lift (ix1 t) k)) Finset.univ
  refine toNat_lt_of_toInt ?_ ?_
  all_goals
    rw [SortNet.toInt_minsi]
  · refine le_min ?_ (by decide)
    refine le_of_le_of_eq ?_ (congrArg BitVec.toInt e2).symm
    rw [WordCmp.toInt_ofNat_of_lt]
    · exact Int.natCast_nonneg _
    · refine lt_of_le_of_lt (Finset.card_le_univ _) ?_
      rw [Fintype.card_fin]
      decide
  · exact lt_of_le_of_lt (min_le_right _ _) (by decide)

/-- A word's sign. -/
def sgn (x : BitVec 32) : BitVec 32 := if x = 0 then 0 else if x.msb then -1 else 1

/-- How many halves a number of rows takes. -/
def half (f : BitVec 32) : BitVec 32 :=
  let x := IntOp.subi (IntOp.addi f 256#32) 1#32
  Scalar.select (IntOp.andi (IntOp.cmpi .ne (sgn x) (sgn 256#32)) (IntOp.cmpi .ne (IntOp.remsi .host x 256#32) 0#32))
    (IntOp.subi (IntOp.divsi .host x 256#32) 1#32) (IntOp.divsi .host x 256#32)

theorem half_mem : ∀ k : Fin 513, half (BitVec.ofNat 32 k.val) = 0#32 ∨ half (BitVec.ofNat 32 k.val) = 1#32 ∨ half (BitVec.ofNat 32 k.val) = 2#32 := by
  decide +kernel

theorem halves_eq (n : IVec (shape1 32) 32) (t : Fin 159) : halves n (ix1 t) = Scalar.select (before n (ix1 t)) (half (filled n (ix1 t))) 0#32 := rfl

theorem filled_le (n : IVec (shape1 32) 32) (t : Fin 159) : (filled n (ix1 t)).toNat < 513 := by
  have e : ∃ x, filled n (ix1 t) = IntOp.minsi 512#32 (IntOp.maxsi 0#32 x) := ⟨_, rfl⟩
  obtain ⟨x, e⟩ := e
  rw [e]
  refine toNat_lt_of_toInt ?_ ?_
  · rw [SortNet.toInt_minsi, SortNet.toInt_maxsi]
    exact le_min (by decide) (le_max_left _ _)
  · rw [SortNet.toInt_minsi]
    exact lt_of_le_of_lt (min_le_left _ _) (by decide)

theorem halves_mem (n : IVec (shape1 32) 32) (t : Fin 159) : halves n (ix1 t) = 0#32 ∨ halves n (ix1 t) = 1#32 ∨ halves n (ix1 t) = 2#32 := by
  rw [halves_eq]
  have h := half_mem ⟨_, filled_le n t⟩
  rw [show BitVec.ofNat 32 (filled n (ix1 t)).toNat = filled n (ix1 t) from by rw [BitVec.ofNat_toNat, BitVec.setWidth_eq]] at h
  unfold Scalar.select
  split
  · exact h
  · exact Or.inl rfl

variable (e : IVec (shape1 159) 32)

theorem opens_zero : opens e (ix1 (0 : Fin 159)) = 1#1 :=
  concatenate_pair_apply_left (s₁ := shape1 1) (s₂ := shape1 158) (t := shape1 159) 0 _ _ joins_opens (ix1 (0 : Fin 159)) rfl (ix1 (0 : Fin 1)) fun b => by
    match b with | ⟨0, _⟩ => rfl

theorem opens_succ (i j : Fin 159) (h : j.val = i.val + 1) : opens e (ix1 j) = IntOp.cmpi .ne (e (ix1 j)) (e (ix1 i)) := by
  have hi : i.val < 158 := by omega
  refine (concatenate_pair_apply_right (s₁ := shape1 1) (s₂ := shape1 158) (t := shape1 159) 0 _ _ joins_opens (ix1 j) rfl rfl (ix1 (⟨i.val, hi⟩ : Fin 158)) (fun b hb => ?_) ?_).trans ?_
  · match b with | ⟨0, _⟩ => exact absurd rfl hb
  · exact h.symm
  · show IntOp.cmpi .ne (e _) (e _) = _
    refine congrArg₂ (IntOp.cmpi .ne) (congrArg e ?_) (congrArg e ?_)
    · funext a
      match a with | ⟨0, _⟩ => exact Fin.ext (by show 1 + i.val = j.val; omega)
    · funext a
      match a with | ⟨0, _⟩ => exact Fin.ext (by show 0 + i.val = i.val; omega)

theorem marks_of_open (t : Fin 159) (h : opens e (ix1 t) = 1#1) : marks e (ix1 t) = BitVec.ofNat 32 t.val :=
  (show marks e (ix1 t) = Scalar.select (opens e (ix1 t)) (BitVec.ofNat 32 t.val) 159#32 from rfl).trans (by rw [h]; rfl)

theorem marks_of_not (t : Fin 159) (h : opens e (ix1 t) ≠ 1#1) : marks e (ix1 t) = 159#32 :=
  (show marks e (ix1 t) = Scalar.select (opens e (ix1 t)) (BitVec.ofNat 32 t.val) 159#32 from rfl).trans (if_neg h)

theorem ahead_last (t : Fin 159) (h : t.val = 158) : ahead e (ix1 t) = 159#32 :=
  concatenate_pair_apply_right (s₁ := shape1 158) (s₂ := shape1 1) (t := shape1 159) 0 _ _ joins_ahead (ix1 t) rfl rfl (ix1 (0 : Fin 1))
    (fun b hb => by match b with | ⟨0, _⟩ => exact absurd rfl hb) (by show 0 + 158 = t.val; omega)

theorem ahead_succ (i j : Fin 159) (h : j.val = i.val + 1) : ahead e (ix1 i) = marks e (ix1 j) := by
  have hi : i.val < 158 := by omega
  refine (concatenate_pair_apply_left (s₁ := shape1 158) (s₂ := shape1 1) (t := shape1 159) 0 _ _ joins_ahead (ix1 i) rfl (ix1 (⟨i.val, hi⟩ : Fin 158)) fun b => ?_).trans ?_
  · match b with | ⟨0, _⟩ => rfl
  · show marks e _ = _
    refine congrArg (marks e) (funext fun a => ?_)
    match a with | ⟨0, _⟩ => exact Fin.ext (by show 1 + i.val = j.val; omega)

/-! ## The next first block -/

theorem foldl_min {ι : Type} (g : ι → BitVec 32) (l : List ι) (v : BitVec 32) :
    ((l.foldl (fun r k => IntOp.minsi r (g k)) v).toInt ≤ v.toInt) ∧ (∀ k ∈ l, (l.foldl (fun r k => IntOp.minsi r (g k)) v).toInt ≤ (g k).toInt) ∧
      (l.foldl (fun r k => IntOp.minsi r (g k)) v = v ∨ ∃ k ∈ l, l.foldl (fun r k => IntOp.minsi r (g k)) v = g k) := by
  induction l generalizing v with
  | nil => exact ⟨le_refl _, by simp, Or.inl rfl⟩
  | cons a l ih =>
    obtain ⟨h1, h2, h3⟩ := ih (IntOp.minsi v (g a))
    rw [SortNet.toInt_minsi] at h1
    rw [List.foldl_cons]
    refine ⟨h1.trans (min_le_left _ _), ?_, ?_⟩
    · intro k hk
      rcases List.mem_cons.1 hk with rfl | hk
      · exact h1.trans (min_le_right _ _)
      · exact h2 k hk
    · rcases h3 with h3 | ⟨k, hk, h3⟩
      · rw [h3]
        unfold IntOp.minsi
        split
        · exact Or.inl rfl
        · exact Or.inr ⟨a, List.mem_cons_self, rfl⟩
      · exact Or.inr ⟨k, List.mem_cons_of_mem _ hk, h3⟩

/-- The word a step of the window reads. -/
def stepWord (t : Fin 159) (n : Fin (shape1 159).numel) : BitVec 32 :=
  if h : t.val + n.val < 159 then ahead e (ix1 ⟨t.val + n.val, h⟩) else 2147483647#32

theorem nextOpen_fold (t : Fin 159) : nextOpen e (ix1 t) = (List.finRange (shape1 159).numel).foldl (fun r n => IntOp.minsi r (stepWord e t n)) 2147483647#32 := by
  unfold nextOpen Host.reduceWindow
  refine congrArg (fun f => List.foldl f 2147483647#32 (List.finRange (shape1 159).numel)) (funext fun r => funext fun n => congrArg (IntOp.minsi r) ?_)
  have hw : ((shape1 159).rowMajor.symm n 0).val = n.val := by rw [symm1]; rfl
  unfold stepWord
  dsimp only
  split
  · next hin =>
    have h0 := hin 0
    change 0 ≤ t.val * 1 + ((shape1 159).rowMajor.symm n 0).val ∧ t.val * 1 + ((shape1 159).rowMajor.symm n 0).val - 0 < 159 at h0
    rw [hw] at h0
    rw [dif_pos (show t.val + n.val < 159 by omega)]
    refine congrArg (ahead e) (funext fun a => ?_)
    match a with
    | ⟨0, _⟩ =>
      refine Fin.ext ?_
      show t.val * 1 + ((shape1 159).rowMajor.symm n 0).val - 0 = t.val + n.val
      rw [hw]
      omega
  · next hin =>
    rw [dif_neg fun hlt => hin fun a => by
      match a with
      | ⟨0, _⟩ =>
        show 0 ≤ t.val * 1 + ((shape1 159).rowMajor.symm n 0).val ∧ t.val * 1 + ((shape1 159).rowMajor.symm n 0).val - 0 < 159
        rw [hw]
        omega]
    rfl

theorem numel159 : (shape1 159).numel = 159 := numel1 159

/-- The next first block is at most every mark at or ahead of the block. -/
theorem nextOpen_le (t s : Fin 159) (h : t.val ≤ s.val) : (nextOpen e (ix1 t)).toInt ≤ (ahead e (ix1 s)).toInt := by
  rw [nextOpen_fold]
  have h2 := (foldl_min (stepWord e t) (List.finRange (shape1 159).numel) 2147483647#32).2.1 ⟨s.val - t.val, by rw [numel159]; omega⟩ (List.mem_finRange _)
  refine h2.trans (le_of_eq (congrArg BitVec.toInt ?_))
  unfold stepWord
  rw [dif_pos (show t.val + (s.val - t.val) < 159 by omega)]
  exact congrArg (fun k => ahead e (ix1 k)) (Fin.ext (show t.val + (s.val - t.val) = s.val by omega))

/-- The next first block is one of the marks at or ahead of the block. -/
theorem nextOpen_mem (t : Fin 159) : ∃ s : Fin 159, t.val ≤ s.val ∧ nextOpen e (ix1 t) = ahead e (ix1 s) := by
  rcases (foldl_min (stepWord e t) (List.finRange (shape1 159).numel) 2147483647#32).2.2 with h3 | ⟨k, -, h3⟩
  · exfalso
    have h1 := nextOpen_le e t ⟨158, by decide⟩ (by show t.val ≤ 158; omega)
    rw [ahead_last e _ rfl, nextOpen_fold, h3] at h1
    exact absurd h1 (by decide)
  · rw [nextOpen_fold, h3]
    unfold stepWord
    split
    · next h => exact ⟨⟨_, h⟩, Nat.le_add_right _ _, rfl⟩
    · next h =>
      exfalso
      have h1 := nextOpen_le e t ⟨158, by decide⟩ (by show t.val ≤ 158; omega)
      rw [ahead_last e _ rfl, nextOpen_fold, h3] at h1
      unfold stepWord at h1
      rw [dif_neg h] at h1
      exact absurd h1 (by decide)

theorem toInt_small (k : Nat) (h : k < 160) : (BitVec.ofNat 32 k).toInt = k := WordCmp.toInt_ofNat_of_lt (lt_trans h (by decide))

/-- What is ahead of a block is 159 or the number of a later block. -/
theorem ahead_gt (s : Fin 159) : (s.val : Int) + 1 ≤ (ahead e (ix1 s)).toInt ∧ (ahead e (ix1 s)).toInt ≤ 159 := by
  by_cases hs : s.val = 158
  · rw [ahead_last e s hs, hs]
    decide
  · have hlt : s.val + 1 < 159 := by omega
    rw [ahead_succ e s ⟨s.val + 1, hlt⟩ rfl]
    by_cases ho : opens e (ix1 ⟨s.val + 1, hlt⟩) = 1#1
    · rw [marks_of_open e _ ho, toInt_small _ (by show s.val + 1 < 160; omega)]
      show (s.val : Int) + 1 ≤ ((s.val + 1 : Nat) : Int) ∧ ((s.val + 1 : Nat) : Int) ≤ 159
      omega
    · rw [marks_of_not e _ ho]
      have : (159#32 : BitVec 32).toInt = 159 := by decide
      omega

theorem nextOpen_gt (t : Fin 159) : (t.val : Int) + 1 ≤ (nextOpen e (ix1 t)).toInt ∧ (nextOpen e (ix1 t)).toInt ≤ 159 := by
  obtain ⟨s, hs, h⟩ := nextOpen_mem e t
  have := ahead_gt e s
  rw [h]
  omega

theorem nextOpen_last (t : Fin 159) (h : t.val = 158) : nextOpen e (ix1 t) = 159#32 := by
  obtain ⟨s, hs, h2⟩ := nextOpen_mem e t
  rw [h2, ahead_last e s (by omega)]

theorem nextOpen_open (i j : Fin 159) (h : j.val = i.val + 1) (ho : opens e (ix1 j) = 1#1) : nextOpen e (ix1 i) = BitVec.ofNat 32 j.val := by
  have h1 := nextOpen_le e i i (le_refl _)
  rw [ahead_succ e i j h, marks_of_open e j ho, toInt_small _ (by omega)] at h1
  have h2 := (nextOpen_gt e i).1
  refine BitVec.toInt_inj.1 ?_
  rw [toInt_small _ (by omega)]
  omega

theorem nextOpen_stay (i j : Fin 159) (h : j.val = i.val + 1) (ho : opens e (ix1 j) ≠ 1#1) : nextOpen e (ix1 j) = nextOpen e (ix1 i) := by
  refine BitVec.toInt_inj.1 (le_antisymm ?_ ?_)
  · obtain ⟨s, hs, h2⟩ := nextOpen_mem e i
    rw [h2]
    rcases Nat.lt_or_ge s.val j.val with hlt | hge
    · rw [show s = i from Fin.ext (by omega), ahead_succ e i j h, marks_of_not e j ho]
      exact (nextOpen_gt e j).2.trans (by decide)
    · exact nextOpen_le e j s hge
  · obtain ⟨s, hs, h2⟩ := nextOpen_mem e j
    rw [h2]
    exact nextOpen_le e i s (by omega)

/-! ## The next expert -/

/-- The place a next first block's expert is read at. -/
def placeOf (w : BitVec 32) : BitVec 32 :=
  Scalar.select (IntOp.cmpi .slt (IntOp.minsi w 158#32) 0#32) (IntOp.addi (IntOp.minsi w 158#32) 159#32) (IntOp.minsi w 158#32)

/-- The expert a next first block leads to. -/
def leads (w : BitVec 32) : BitVec 32 :=
  Scalar.select (IntOp.cmpi .slt w 159#32) (e (ix1 ⟨min (placeOf w).toInt.toNat 158, by omega⟩)) 4294967295#32

theorem column_apply (x : IVec (shape1 159) 32) (h : (shape1 159).BroadcastsInDim (shape2 159 1) ![0]) (t : Fin 159) :
    broadcastInDim (shape2 159 1) ![0] h x (StableHlo.Predicate.ixP t) = x (ix1 t) :=
  congrArg x (funext fun a => by match a with | ⟨0, _⟩ => rfl)

theorem column_at (x : IVec (shape1 159) 32) (k : BitVec 32) (t : Fin 159) :
    column x k (StableHlo.Predicate.ixP t) = Scalar.select (IntOp.cmpi .slt (x (ix1 t)) 0#32) (IntOp.addi (x (ix1 t)) k) (x (ix1 t)) :=
  column_apply (select (cmpi .slt x (all159 0#32)) (addi x (all159 k)) x) (by decide) t

/-- The next expert from the next first block. -/
def leadsAll (w : IVec (shape1 159) 32) : IVec (shape1 159) 32 :=
  select (cmpi .slt w (all159 159#32)) (Host.gather take159 e (column (minsi w (all159 158#32)) 159#32)) (all159 4294967295#32)

theorem leadsAll_at (w : IVec (shape1 159) 32) (t : Fin 159) : leadsAll e w (ix1 t) = leads e (w (ix1 t)) := by
  have h := StableHlo.Predicate.gather_take take159 rfl rfl rfl rfl e (column (minsi w (all159 158#32)) 159#32) t (by decide)
  rw [ofFin_eq_ix1, ofFin_eq_ix1] at h
  have h3 : column (minsi w (all159 158#32)) 159#32 (StableHlo.Predicate.ixP t) = placeOf (w (ix1 t)) := column_at _ _ t
  have h5 : ∀ (r s : BitVec 32) (hrs : r = s), e (ix1 (⟨min r.toInt.toNat (159 - 1), by omega⟩ : Fin 159)) = e (ix1 ⟨min s.toInt.toNat 158, by omega⟩) := by
    intro r s hrs
    subst hrs
    rfl
  exact congrArg (fun y => Scalar.select (IntOp.cmpi .slt (w (ix1 t)) 159#32) y 4294967295#32) (h.trans (h5 _ _ h3))

theorem nextExpert_eq (t : Fin 159) : nextExpert e (ix1 t) = leads e (nextOpen e (ix1 t)) := leadsAll_at e (nextOpen e) t

theorem nextExpert_mem (t : Fin 159) : nextExpert e (ix1 t) = 4294967295#32 ∨ ∃ s : Fin 159, nextExpert e (ix1 t) = e (ix1 s) := by
  rw [nextExpert_eq]
  unfold leads Scalar.select
  split
  · exact Or.inr ⟨_, rfl⟩
  · exact Or.inl rfl

theorem placeOf_of (k : Fin 159) : placeOf (BitVec.ofNat 32 k.val) = BitVec.ofNat 32 k.val := by
  have hk := k.isLt
  have q : IntOp.minsi (BitVec.ofNat 32 k.val) 158#32 = BitVec.ofNat 32 k.val := BitVec.toInt_inj.1 (by
    rw [SortNet.toInt_minsi, toInt_small _ (by omega)]
    have : (158#32 : BitVec 32).toInt = 158 := by decide
    omega)
  have h1 : IntOp.cmpi .slt (BitVec.ofNat 32 k.val) 0#32 ≠ 1#1 := by
    rw [WordCmp.cmpi_slt_eq, toInt_small _ (by omega), decide_eq_false (by
      have : (0#32 : BitVec 32).toInt = 0 := by decide
      omega)]
    decide
  unfold placeOf
  rw [q]
  exact if_neg h1

theorem leads_of (k : Fin 159) : leads e (BitVec.ofNat 32 k.val) = e (ix1 k) := by
  have hk := k.isLt
  have h2 : IntOp.cmpi .slt (BitVec.ofNat 32 k.val) 159#32 = 1#1 := by
    rw [WordCmp.cmpi_slt_eq, toInt_small _ (by omega), decide_eq_true (by
      have : (159#32 : BitVec 32).toInt = 159 := by decide
      omega)]
    rfl
  refine (if_pos h2).trans (congrArg (fun s => e (ix1 s)) (Fin.ext ?_))
  show min (placeOf (BitVec.ofNat 32 k.val)).toInt.toNat 158 = k.val
  rw [placeOf_of, toInt_small _ (by omega)]
  omega

theorem leads_last : leads e 159#32 = 4294967295#32 := by
  exact if_neg (t := e (ix1 ⟨min (placeOf 159#32).toInt.toNat 158, by omega⟩)) (show ¬ IntOp.cmpi .slt 159#32 159#32 = 1#1 by decide)

/-! ## The slots -/

theorem runs_fold (j : Fin 159) : runs e (ix1 j) = BitVec.ofNat 32 ((List.range (j.val + 1)).map fun i => if h : i < 159 then (firsts e (ix1 ⟨i, h⟩)).toNat else 0).sum :=
  cumsum1 (N := 159) (Nm1 := 158) rfl (firsts e) (fun i => if h : i < 159 then (firsts e (ix1 ⟨i, h⟩)).toNat else 0) (fun i => by
    show _ = BitVec.ofNat 32 (if h : i.val < 159 then (firsts e (ix1 ⟨i.val, h⟩)).toNat else 0)
    rw [dif_pos i.isLt, BitVec.ofNat_toNat, BitVec.setWidth_eq]) _ rfl _ _ j

theorem runs_succ (i j : Fin 159) (h : j.val = i.val + 1) : runs e (ix1 j) = runs e (ix1 i) + firsts e (ix1 j) := by
  rw [runs_fold, runs_fold, h, List.range_succ (n := i.val + 1), List.map_append, List.sum_append, BitVec.ofNat_add]
  refine congrArg (BitVec.ofNat 32 _ + ·) ?_
  have hlt : i.val + 1 < 159 := by omega
  rw [List.map_singleton, List.sum_singleton, dif_pos hlt, BitVec.ofNat_toNat, BitVec.setWidth_eq]
  exact congrArg (fun k => firsts e (ix1 k)) (Fin.ext h.symm)

theorem firsts_eq (t : Fin 159) : firsts e (ix1 t) = (opens e (ix1 t)).setWidth 32 := rfl

theorem runs_zero : runs e (ix1 (0 : Fin 159)) = 1#32 := by
  rw [runs_fold]
  show BitVec.ofNat 32 ((List.range 1).map fun i => if h : i < 159 then (firsts e (ix1 ⟨i, h⟩)).toNat else 0).sum = 1#32
  have h1 : firsts e (ix1 (0 : Fin 159)) = 1#32 := by rw [firsts_eq, opens_zero]; rfl
  have h2 : ((List.range 1).map fun i => if h : i < 159 then (firsts e (ix1 ⟨i, h⟩)).toNat else 0) = [(firsts e (ix1 (0 : Fin 159))).toNat] := rfl
  rw [h2, h1]
  rfl

theorem slots_eq (t : Fin 159) : slots e (ix1 t) = IntOp.andi (IntOp.subi (runs e (ix1 t)) 1#32) 1#32 := rfl

theorem odd_word (x : BitVec 32) : (IntOp.andi x 1#32).toNat = x.toNat % 2 := by
  show (x &&& 1#32).toNat = _
  rw [BitVec.toNat_and]
  exact Nat.and_one_is_mod _

theorem slots_lt (t : Fin 159) : (slots e (ix1 t)).toNat < 2 := by
  rw [slots_eq, odd_word]
  exact Nat.mod_lt _ (by decide)

theorem slots_stay (i j : Fin 159) (h : j.val = i.val + 1) (ho : opens e (ix1 j) ≠ 1#1) : slots e (ix1 j) = slots e (ix1 i) := by
  have h0 : opens e (ix1 j) = 0#1 := by
    rcases BitVec.eq_zero_or_eq_one (opens e (ix1 j)) with h | h
    · exact h
    · exact absurd h ho
  rw [slots_eq, slots_eq, runs_succ e i j h, firsts_eq, h0]
  exact congrArg (fun x => IntOp.andi (IntOp.subi x 1#32) 1#32) (BitVec.add_zero _)

theorem slots_move (i j : Fin 159) (h : j.val = i.val + 1) (ho : opens e (ix1 j) = 1#1) : slots e (ix1 j) = Scalar.subi 1#32 (slots e (ix1 i)) := by
  rw [slots_eq, slots_eq, runs_succ e i j h, firsts_eq, ho]
  generalize runs e (ix1 i) = r
  refine BitVec.eq_of_toNat_eq ?_
  rw [odd_word]
  show (r + 1#32 - 1#32).toNat % 2 = (1#32 - IntOp.andi (r - 1#32) 1#32).toNat
  have h1 := odd_word (r - 1#32)
  rw [BitVec.toNat_sub (1#32), h1, BitVec.toNat_sub, BitVec.toNat_sub, BitVec.toNat_add]
  have : (1#32 : BitVec 32).toNat = 1 := rfl
  rw [this]
  have := r.isLt
  omega

theorem slots_zero : slots e (ix1 (0 : Fin 159)) = 0#32 := by
  rw [slots_eq, runs_zero]
  rfl

end Cert.Words

end
-- ==== Proof.LaunchExpertsIdeal.lean ====
/- The experts' call: the buffers at its entry and what the host line leaves in the tables. -/
module

public import proofs.«01_k».proof.Proof.Gen.ExpertsIdeal.Launch
public import Idealize.ShloMosaic.Lib.Pipeline.FrameBody
public import Idealize.ShloMosaic.Lib.Claim

@[expose] public section

set_option maxRecDepth 16384

noncomputable section

namespace Cert.ExpertsIdeal.Hand

open Cert.ExpertsIdeal Cert.ExpertsIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-- The host operations before the call, stretch by stretch. -/
abbrev stretches : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18]

/-- The buffers' contents at the call's entry. -/
abbrev V (c : Dev nD) (b : Ref sig .tc) : Buf (Elt F) ((c : Thread nD τ).loc b) :=
  StableHlo.after (stretches (F := F)).flatten (fun b => m (c, b)) b

theorem hmain (𝒱₀ : Variants) :
    Pipeline.HMainP (Ix := Unit) (Name := ℕ) (U := Pipeline.UD sig nD τ) (Lvl := ℕ) (pcfgs (F := F)) 0 defs₀ 𝒱₀ m (main (F := F)) (V m) :=
  Pipeline.hmainP_prefixes (pcfgs (F := F)) 0 defs₀ 𝒱₀ m main stretches
    ⟨hostOps0_sub, hostOps0_1_sub, hostOps0_2_sub, hostOps0_3_sub, hostOps0_4_sub, hostOps0_5_sub, hostOps0_6_sub, hostOps0_7_sub,
     hostOps0_8_sub, hostOps0_9_sub, hostOps0_10_sub, hostOps0_11_sub, hostOps0_12_sub, hostOps0_13_sub, hostOps0_14_sub,
     hostOps0_15_sub, hostOps0_16_sub, hostOps0_17_sub, hostOps0_18_sub⟩
    (by repeat' constructor)
    (fun c => (main_chain c).trans rfl)

end Cert.ExpertsIdeal.Hand

end
-- ==== Proof.SwitchExpertsIdeal.lean ====
/- The experts' run switch: the two copies of an expert's matrices, and what one switch does with them. -/
module

public import proofs.«01_k».proof.Proof.LaunchExpertsIdeal
public import proofs.«01_k».proof.Proof.Gen.ExpertsIdeal.Skeleton
public import Idealize.ShloMosaic.Lib.MixedBatch
public import Idealize.ShloMosaic.Lib.Tactic
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The operands -/

abbrev tBe : Memref sig .tc .smem S159 .i32 := Memref.whole main_v19
abbrev tLive : Memref sig .tc .smem S159 .i32 := Memref.whole main_v40
abbrev tFirst : Memref sig .tc .smem S159 .i32 := Memref.whole main_v72
abbrev tNext : Memref sig .tc .smem S159 .i32 := Memref.whole main_v65
abbrev tSlot : Memref sig .tc .smem S159 .i32 := Memref.whole main_v71
abbrev mU : Memref sig .tc .hbm S32x1024x2048 .f32 := Memref.whole main_arg2
abbrev mD : Memref sig .tc .hbm S32x1024x1024 .f32 := Memref.whole main_arg4
abbrev scU : Memref sig .tc .vmem S2x1024x2048 .f32 := Memref.whole cc0_scratch0
abbrev scD : Memref sig .tc .vmem S2x1024x1024 .f32 := Memref.whole cc0_scratch1
abbrev bfU : Memref sig .tc .vmem S1024x2048 .bf16 := Memref.whole cc0_scratch2
abbrev bfD : Memref sig .tc .vmem S1024x1024 .bf16 := Memref.whole cc0_scratch3

/-- One matrix of a stack of either size, at a word of the leading coordinate: the source of a copy, and its slot. -/
abbrev srcU (w : BitVec 32) (h : ∀ a, (![w.toNat, 0, 0] : Fin 3 → Nat) a + S1x1024x2048.size a ≤ S32x1024x2048.size a) : Memref sig .tc .hbm S1024x2048 .f32 :=
  (mU.slice (Rect.unit (s := S32x1024x2048) ![w.toNat, 0, 0] S1x1024x2048.size h) (fun _ => rfl)).squeeze S1024x2048 squeezes_S1x1024x2048_S1024x2048
abbrev srcD (w : BitVec 32) (h : ∀ a, (![w.toNat, 0, 0] : Fin 3 → Nat) a + S1x1024x1024.size a ≤ S32x1024x1024.size a) : Memref sig .tc .hbm S1024x1024 .f32 :=
  (mD.slice (Rect.unit (s := S32x1024x1024) ![w.toNat, 0, 0] S1x1024x1024.size h) (fun _ => rfl)).squeeze S1024x1024 squeezes_S1x1024x1024_S1024x1024
abbrev dstU (w : BitVec 32) (h : ∀ a, (![w.toNat, 0, 0] : Fin 3 → Nat) a + S1x1024x2048.size a ≤ S2x1024x2048.size a) : Memref sig .tc .vmem S1024x2048 .f32 :=
  (scU.slice (Rect.unit (s := S2x1024x2048) ![w.toNat, 0, 0] S1x1024x2048.size h) (fun _ => rfl)).squeeze S1024x2048 squeezes_S1x1024x2048_S1024x2048
abbrev dstD (w : BitVec 32) (h : ∀ a, (![w.toNat, 0, 0] : Fin 3 → Nat) a + S1x1024x1024.size a ≤ S2x1024x1024.size a) : Memref sig .tc .vmem S1024x1024 .f32 :=
  (scD.slice (Rect.unit (s := S2x1024x1024) ![w.toNat, 0, 0] S1x1024x1024.size h) (fun _ => rfl)).squeeze S1024x1024 squeezes_S1x1024x1024_S1024x1024
abbrev cell (w : BitVec 32) (h : ∀ a, (![w.toNat] : Fin 1 → Nat) a + S1.size a ≤ S2.size a) : DmaSem sig :=
  ((cc0_scratch4.slice (Rect.unit (s := S2) ![w.toNat] S1.size h)).squeeze S_ squeezes_S1_S_).sem

theorem inb3 (n a b k : ℕ) (w : BitVec 32) (h : w.toNat < n) :
    ∀ x, (![w.toNat, 0, 0] : Fin 3 → Nat) x + (![1, a, b] : Fin 3 → ℕ) x ≤ (![n, a, b] : Fin 3 → ℕ) x := by
  intro x
  fin_cases x <;> simp <;> omega

theorem inbU32 {w : BitVec 32} (h : w.toNat < 32) : ∀ a, (![w.toNat, 0, 0] : Fin 3 → Nat) a + S1x1024x2048.size a ≤ S32x1024x2048.size a := inb3 32 1024 2048 0 w h
theorem inbD32 {w : BitVec 32} (h : w.toNat < 32) : ∀ a, (![w.toNat, 0, 0] : Fin 3 → Nat) a + S1x1024x1024.size a ≤ S32x1024x1024.size a := inb3 32 1024 1024 0 w h
theorem inbU2 {w : BitVec 32} (h : w.toNat < 2) : ∀ a, (![w.toNat, 0, 0] : Fin 3 → Nat) a + S1x1024x2048.size a ≤ S2x1024x2048.size a := inb3 2 1024 2048 0 w h
theorem inbD2 {w : BitVec 32} (h : w.toNat < 2) : ∀ a, (![w.toNat, 0, 0] : Fin 3 → Nat) a + S1x1024x1024.size a ≤ S2x1024x1024.size a := inb3 2 1024 1024 0 w h
theorem inbC {w : BitVec 32} (h : w.toNat < 2) : ∀ a, (![w.toNat] : Fin 1 → Nat) a + S1.size a ≤ S2.size a := by
  intro x
  fin_cases x; show w.toNat + 1 ≤ 2; omega

/-- The other slot. -/
abbrev oth (w : BitVec 32) : BitVec 32 := Scalar.subi 1#32 w
theorem oth_lt {w : BitVec 32} (h : w.toNat < 2) : (oth w).toNat < 2 := by
  have : w = 0#32 ∨ w = 1#32 := by
    rcases Nat.lt_or_ge w.toNat 1 with h1 | h1
    · left; apply BitVec.eq_of_toNat_eq; simp; omega
    · right; apply BitVec.eq_of_toNat_eq; simp; omega
  rcases this with rfl | rfl <;> decide

/-! ## The two copies in flight -/

variable (c : Dev nD)

abbrev BufAt (c : Dev nD) {sp : Space} {S : Shape} {e : EltTy} (M : Memref sig .tc sp S e) : Type := Buf (Elt F) (M.view.loc (c : Thread nD τ))

/-- What the two copies of expert `e` into slot `s` deliver: the landed slots and the sources back. -/
def deliv (gU : BufAt (F := F) c mU) (gD : BufAt (F := F) c mD) (e s : BitVec 32) (he : e.toNat < 32) (hs : s.toNat < 2)
    (XU : Finset (Idx (scU.view.loc (c : Thread nD τ)))) (XD : Finset (Idx (scD.view.loc (c : Thread nD τ))))
    (fU : BufAt (F := F) c scU) (fD : BufAt (F := F) c scD) : Fin 2 → sProp 𝕄
  | 0 => iprop((scU.view.loc (c : Thread nD τ) ↦[XU]{fullShare} (dstU s (inbU2 hs)).view.write (Elt F) fU (ReadAs.same.apply ((srcU e (inbU32 he)).view.read (Elt F) gU)) Finset.univ)
      ∗ (mU.view.loc (c : Thread nD τ) ↦[(srcU e (inbU32 he)).view.set]{fullShare} gU))
  | 1 => iprop((scD.view.loc (c : Thread nD τ) ↦[XD]{fullShare} (dstD s (inbD2 hs)).view.write (Elt F) fD (ReadAs.same.apply ((srcD e (inbD32 he)).view.read (Elt F) gD)) Finset.univ)
      ∗ (mD.view.loc (c : Thread nD τ) ↦[(srcD e (inbD32 he)).view.set]{fullShare} gD))

instance deliv_storable (gU : BufAt (F := F) c mU) (gD : BufAt (F := F) c mD) (e s : BitVec 32) (he : e.toNat < 32) (hs : s.toNat < 2)
    (XU : Finset (Idx (scU.view.loc (c : Thread nD τ)))) (XD : Finset (Idx (scD.view.loc (c : Thread nD τ))))
    (fU : BufAt (F := F) c scU) (fD : BufAt (F := F) c scD) (t : Fin 2) : Storable (upEmb : UEmb _ 𝕄) (deliv c gU gD e s he hs XU XD fU fD t) := by
  fin_cases t <;> simp only [deliv] <;> infer_instance

theorem deliv_both (gU : BufAt (F := F) c mU) (gD : BufAt (F := F) c mD) (e s : BitVec 32) (he : e.toNat < 32) (hs : s.toNat < 2)
    (XU : Finset (Idx (scU.view.loc (c : Thread nD τ)))) (XD : Finset (Idx (scD.view.loc (c : Thread nD τ))))
    (fU : BufAt (F := F) c scU) (fD : BufAt (F := F) c scD) : bigSep Finset.univ (deliv c gU gD e s he hs XU XD fU fD) ⊢
      iprop(((scU.view.loc (c : Thread nD τ) ↦[XU]{fullShare} (dstU s (inbU2 hs)).view.write (Elt F) fU (ReadAs.same.apply ((srcU e (inbU32 he)).view.read (Elt F) gU)) Finset.univ)
      ∗ (mU.view.loc (c : Thread nD τ) ↦[(srcU e (inbU32 he)).view.set]{fullShare} gU))
      ∗ ((scD.view.loc (c : Thread nD τ) ↦[XD]{fullShare} (dstD s (inbD2 hs)).view.write (Elt F) fD (ReadAs.same.apply ((srcD e (inbD32 he)).view.read (Elt F) gD)) Finset.univ)
      ∗ (mD.view.loc (c : Thread nD τ) ↦[(srcD e (inbD32 he)).view.set]{fullShare} gD)) : sProp 𝕄) := by
  rw [BI.bigSep_eq_bigSepL_of_eq [(0 : Fin 2), 1] (by decide) (by decide)]
  exact .rfl

/-- The counters' algebra. -/
abbrev EC : UEmb Counters 𝕄 := countersEmb (U := Pipeline.UD sig nD τ)
abbrev crU : ℕ := (dstU 0#32 (inbU2 (by decide))).view.dmaCredit
abbrev crD : ℕ := (dstD 0#32 (inbD2 (by decide))).view.dmaCredit
abbrev amts : Fin 2 → ℕ := ![crU, crD]

/-- The two copies of expert `e` into slot `s` in flight, and what stays home meanwhile. -/
def Flight (gU : BufAt (F := F) c mU) (gD : BufAt (F := F) c mD) (e s : BitVec 32) (he : e.toNat < 32) (hs : s.toNat < 2) : sProp 𝕄 :=
  iprop(∃ (XU : Finset (Idx (scU.view.loc (c : Thread nD τ)))) (XD : Finset (Idx (scD.view.loc (c : Thread nD τ))))
      (fU : BufAt (F := F) c scU) (fD : BufAt (F := F) c scD) (rU : BufAt (F := F) c scU) (rD : BufAt (F := F) c scD),
    ⌜(dstU s (inbU2 hs)).view.set ⊆ XU ∧ (dstD s (inbD2 hs)).view.set ⊆ XD⌝
    ∗ Transfers.MixedBatch EC (c : Thread nD τ) (.dma (cell s (inbC hs))) () amts (deliv c gU gD e s he hs XU XD fU fD) 2 0
    ∗ semVal ((c : Thread nD τ), SemLoc.dma (cell (oth s) (inbC (oth_lt hs)))) 0
    ∗ (scU.view.loc (c : Thread nD τ) ↦[Finset.univ \ XU]{fullShare} rU) ∗ (scD.view.loc (c : Thread nD τ) ↦[Finset.univ \ XD]{fullShare} rD)
    ∗ (mU.view.loc (c : Thread nD τ) ↦[Finset.univ \ (srcU e (inbU32 he)).view.set]{fullShare} gU)
    ∗ (mD.view.loc (c : Thread nD τ) ↦[Finset.univ \ (srcD e (inbD32 he)).view.set]{fullShare} gD))

/-- Nothing in flight: both cells at zero, everything home. -/
def Home (gU : BufAt (F := F) c mU) (gD : BufAt (F := F) c mD) : sProp 𝕄 :=
  iprop(semVal ((c : Thread nD τ), SemLoc.dma (cell 0#32 (inbC (by decide)))) 0
    ∗ semVal ((c : Thread nD τ), SemLoc.dma (cell 1#32 (inbC (by decide)))) 0
    ∗ (∃ f, scU.view.loc (c : Thread nD τ) ↦{fullShare} f) ∗ (∃ f, scD.view.loc (c : Thread nD τ) ↦{fullShare} f)
    ∗ (mU.view.loc (c : Thread nD τ) ↦{fullShare} gU) ∗ (mD.view.loc (c : Thread nD τ) ↦{fullShare} gD))

/-- Expert `e`'s two matrices, as the kernel holds them after the cast. -/
def bfOfU (gU : BufAt (F := F) c mU) (e : BitVec 32) (he : e.toNat < 32) : Vec F S1024x2048 .bf16 :=
  k0_pay9 (fun i : S1x1024x2048.Idx => mU.view.readAt (Elt F) (Rect.unit (s := S32x1024x2048) ![e.toNat, 0, 0] S1x1024x2048.size (inbU32 he)).toLoadRect gU i)
def bfOfD (gD : BufAt (F := F) c mD) (e : BitVec 32) (he : e.toNat < 32) : Vec F S1024x1024 .bf16 :=
  k0_pay10 (fun i : S1x1024x1024.Idx => mD.view.readAt (Elt F) (Rect.unit (s := S32x1024x1024) ![e.toNat, 0, 0] S1x1024x1024.size (inbD32 he)).toLoadRect gD i)

/-! ## The slots' sets and what a landed slot reads -/

theorem setU {s : BitVec 32} (hs : s.toNat < 2) : (dstU s (inbU2 hs)).view.set = (Rect.unit (s := S2x1024x2048) ![s.toNat, 0, 0] S1x1024x2048.size (inbU2 hs)).set :=
  (View.set_reshape _ _).trans (View.set_slice_whole _ _)
theorem setD {s : BitVec 32} (hs : s.toNat < 2) : (dstD s (inbD2 hs)).view.set = (Rect.unit (s := S2x1024x1024) ![s.toNat, 0, 0] S1x1024x1024.size (inbD2 hs)).set :=
  (View.set_reshape _ _).trans (View.set_slice_whole _ _)
theorem oth_val {w : BitVec 32} (h : w.toNat < 2) : (oth w).toNat = 1 - w.toNat := by
  have : w = 0#32 ∨ w = 1#32 := by
    rcases Nat.lt_or_ge w.toNat 1 with h1 | h1
    · left; apply BitVec.eq_of_toNat_eq; simp; omega
    · right; apply BitVec.eq_of_toNat_eq; simp; omega
  rcases this with rfl | rfl <;> decide
theorem sepU {s : BitVec 32} (hs : s.toNat < 2) :
    (dstU (oth s) (inbU2 (oth_lt hs))).view.set ⊆ Finset.univ \ (dstU s (inbU2 hs)).view.set := by
  intro x hx
  refine Finset.mem_sdiff.mpr ⟨Finset.mem_univ _, fun hx' => ?_⟩
  refine Finset.disjoint_left.mp (Rect.unit_disjoint 0 ?_) ((Finset.ext_iff.mp (setU (oth_lt hs)) x).mp hx) ((Finset.ext_iff.mp (setU hs) x).mp hx')
  show (oth s).toNat + 1 ≤ s.toNat ∨ s.toNat + 1 ≤ (oth s).toNat
  have := oth_val hs; omega
theorem sepD {s : BitVec 32} (hs : s.toNat < 2) :
    (dstD (oth s) (inbD2 (oth_lt hs))).view.set ⊆ Finset.univ \ (dstD s (inbD2 hs)).view.set := by
  intro x hx
  refine Finset.mem_sdiff.mpr ⟨Finset.mem_univ _, fun hx' => ?_⟩
  refine Finset.disjoint_left.mp (Rect.unit_disjoint 0 ?_) ((Finset.ext_iff.mp (setD (oth_lt hs)) x).mp hx) ((Finset.ext_iff.mp (setD hs) x).mp hx')
  show (oth s).toNat + 1 ≤ s.toNat ∨ s.toNat + 1 ≤ (oth s).toNat
  have := oth_val hs; omega
theorem accU {s : BitVec 32} (hs : s.toNat < 2) :
    scU.view.setOn (Rect.unit (s := S2x1024x2048) ![s.toNat, 0, 0] S1x1024x2048.size (inbU2 hs)).toLoadRect.set ⊆ (dstU s (inbU2 hs)).view.set := by
  intro x hx
  obtain ⟨y, hy, rfl⟩ := Finset.mem_map.mp hx
  exact (Finset.ext_iff.mp (setU hs) _).mpr hy
theorem accD {s : BitVec 32} (hs : s.toNat < 2) :
    scD.view.setOn (Rect.unit (s := S2x1024x1024) ![s.toNat, 0, 0] S1x1024x1024.size (inbD2 hs)).toLoadRect.set ⊆ (dstD s (inbD2 hs)).view.set := by
  intro x hx
  obtain ⟨y, hy, rfl⟩ := Finset.mem_map.mp hx
  exact (Finset.ext_iff.mp (setD hs) _).mpr hy

theorem readU (gU : BufAt (F := F) c mU) (e s : BitVec 32) (he : e.toNat < 32) (hs : s.toNat < 2) (f : BufAt (F := F) c scU)
    (h : (dstU s (inbU2 hs)).view.read (Elt F) f = (srcU e (inbU32 he)).view.read (Elt F) gU) :
    scU.view.readAt (Elt F) (Rect.unit (s := S2x1024x2048) ![s.toNat, 0, 0] S1x1024x2048.size (inbU2 hs)).toLoadRect f
      = fun i : S1x1024x2048.Idx => mU.view.readAt (Elt F) (Rect.unit (s := S32x1024x2048) ![e.toNat, 0, 0] S1x1024x2048.size (inbU32 he)).toLoadRect gU i := by
  funext i
  obtain ⟨j, rfl⟩ := (Shape.reshapeEquiv (Shape.Squeezes.numel_eq squeezes_S1x1024x2048_S1024x2048)).surjective i
  exact congrFun h j
theorem readD (gD : BufAt (F := F) c mD) (e s : BitVec 32) (he : e.toNat < 32) (hs : s.toNat < 2) (f : BufAt (F := F) c scD)
    (h : (dstD s (inbD2 hs)).view.read (Elt F) f = (srcD e (inbD32 he)).view.read (Elt F) gD) :
    scD.view.readAt (Elt F) (Rect.unit (s := S2x1024x1024) ![s.toNat, 0, 0] S1x1024x1024.size (inbD2 hs)).toLoadRect f
      = fun i : S1x1024x1024.Idx => mD.view.readAt (Elt F) (Rect.unit (s := S32x1024x1024) ![e.toNat, 0, 0] S1x1024x1024.size (inbD32 he)).toLoadRect gD i := by
  funext i
  obtain ⟨j, rfl⟩ := (Shape.reshapeEquiv (Shape.Squeezes.numel_eq squeezes_S1x1024x1024_S1024x1024)).surjective i
  exact congrFun h j

theorem wroteU (f : BufAt (F := F) c bfU) (w : Vec F S1024x2048 .bf16) :
    bfU.view.read (Elt F) ((bfU.access (Rect.unit (s := S1024x2048) ![0, 0] S1024x2048.size inb_S1024x2048_S1024x2048_0_0)).write (Elt F) f w Finset.univ) = w := by
  funext y
  have he : (bfU.access (Rect.unit (s := S1024x2048) ![0, 0] S1024x2048.size inb_S1024x2048_S1024x2048_0_0)).emb y = y :=
    by
    funext a
    apply Fin.ext
    fin_cases a
    · show 0 + 1 * (y 0).val = (y 0).val; omega
    · show 0 + 1 * (y 1).val = (y 1).val; omega
  have := View.write_emb_of_mem (Val := Elt F) (v := bfU.access (Rect.unit (s := S1024x2048) ![0, 0] S1024x2048.size inb_S1024x2048_S1024x2048_0_0)) f w (Finset.mem_univ y)
  rw [he] at this
  exact this
theorem wroteD (f : BufAt (F := F) c bfD) (w : Vec F S1024x1024 .bf16) :
    bfD.view.read (Elt F) ((bfD.access (Rect.unit (s := S1024x1024) ![0, 0] S1024x1024.size inb_S1024x1024_S1024x1024_0_0)).write (Elt F) f w Finset.univ) = w := by
  funext y
  have he : (bfD.access (Rect.unit (s := S1024x1024) ![0, 0] S1024x1024.size inb_S1024x1024_S1024x1024_0_0)).emb y = y :=
    by
    funext a
    apply Fin.ext
    fin_cases a
    · show 0 + 1 * (y 0).val = (y 0).val; omega
    · show 0 + 1 * (y 1).val = (y 1).val; omega
  have := View.write_emb_of_mem (Val := Elt F) (v := bfD.access (Rect.unit (s := S1024x1024) ![0, 0] S1024x1024.size inb_S1024x1024_S1024x1024_0_0)) f w (Finset.mem_univ y)
  rw [he] at this
  exact this

/-! ## The tables' words -/

/-- The word of table `M` at point `i`. -/
abbrev word (M : Memref sig .tc .smem S159 .i32) (w : BufAt (F := F) c M) (i : grid0.Coords) : BitVec 32 :=
  (M.access (Rect.unit (s := S159) (k0_off1 i) S1.size (k0_off1_inb i))).read (Elt F) w (Shape.Idx.first (numel1_S1.symm ▸ Nat.one_pos))

/-- The five tables as the body holds them. -/
def Tabs (w0 : BufAt (F := F) c tBe) (w1 : BufAt (F := F) c tLive) (w2 : BufAt (F := F) c tFirst) (w3 : BufAt (F := F) c tNext) (w4 : BufAt (F := F) c tSlot) : sProp 𝕄 :=
  iprop((tBe.view.loc (c : Thread nD τ) ↦{fullShare.right} w0) ∗ (tLive.view.loc (c : Thread nD τ) ↦{fullShare.right} w1)
    ∗ (tFirst.view.loc (c : Thread nD τ) ↦{fullShare.right} w2) ∗ (tNext.view.loc (c : Thread nD τ) ↦{fullShare.right} w3)
    ∗ (tSlot.view.loc (c : Thread nD τ) ↦{fullShare.right} w4))

theorem sum_amts : Transfers.sumTo amts 2 = crU + crD := by
  unfold Transfers.sumTo
  rfl
theorem sum_one : Transfers.sumTo amts 1 = crU := by
  unfold Transfers.sumTo
  rfl
theorem amts_pos (t : Fin 2) : 0 < amts t := by
  fin_cases t
  · exact View.dmaCredit_pos _ (by decide)
  · exact View.dmaCredit_pos _ (by decide)
theorem oth_oth {s : BitVec 32} (hs : s.toNat < 2) : oth (oth s) = s := by
  apply BitVec.eq_of_toNat_eq
  rw [oth_val (oth_lt hs), oth_val hs]; omega

/-- The copies of expert `e` into slot `s` go out, from everything home but one half of each slot buffer. -/
theorem send_wp {α : Type} (𝒱 : Variants) (bd : Option 𝒱.V) (gU : BufAt (F := F) c mU) (gD : BufAt (F := F) c mD) (e s : BitVec 32) (he : e.toNat < 32) (hs : s.toNat < 2)
    (XU : Finset (Idx (scU.view.loc (c : Thread nD τ)))) (XD : Finset (Idx (scD.view.loc (c : Thread nD τ))))
    (fU rU : BufAt (F := F) c scU) (fD rD : BufAt (F := F) c scD) (hXU : (dstU s (inbU2 hs)).view.set ⊆ XU) (hXD : (dstD s (inbD2 hs)).view.set ⊆ XD)
    (hw1 hw2 hw3 hw4 hp1 hp2) (k : PUnit → Prog (TpuEff nD τ sig (Elt F) Λ₀ .tc) α) (Q : α → sProp 𝕄) :
    iprop(semVal ((c : Thread nD τ), SemLoc.dma (cell s (inbC hs))) 0
      ∗ (scU.view.loc (c : Thread nD τ) ↦[XU]{fullShare} fU) ∗ (scD.view.loc (c : Thread nD τ) ↦[XD]{fullShare} fD)
      ∗ (mU.view.loc (c : Thread nD τ) ↦{fullShare} gU) ∗ (mD.view.loc (c : Thread nD τ) ↦{fullShare} gD))
    ⊢ iprop(((Transfers.MixedBatch EC (c : Thread nD τ) (.dma (cell s (inbC hs))) () amts (deliv c gU gD e s he hs XU XD fU fD) 2 0
        ∗ (mU.view.loc (c : Thread nD τ) ↦[Finset.univ \ (srcU e (inbU32 he)).view.set]{fullShare} gU)
        ∗ (mD.view.loc (c : Thread nD τ) ↦[Finset.univ \ (srcD e (inbD32 he)).view.set]{fullShare} gD))
        -∗ wp frame (wpE (defs₀ (F := F)) 𝒱 (c : Thread nD τ) bd) Set.univ (k ⟨⟩) Q)
      -∗ wp frame (wpE (defs₀ (F := F)) 𝒱 (c : Thread nD τ) bd) Set.univ
        (Prog.op (TpuEff.enqueueDma (srcU e (inbU32 he)) (.here (dstU s (inbU2 hs))) (SemLoc.dma (cell s (inbC hs))) hw1 hw2 hp1) fun _ =>
          Prog.op (TpuEff.enqueueDma (srcD e (inbD32 he)) (.here (dstD s (inbD2 hs))) (SemLoc.dma (cell s (inbC hs))) hw3 hw4 hp2) k) Q) := by
  iintro ⟨Hv, HU, HD, MU, MD⟩ Hk
  imod (Transfers.mixedBatch_alloc' (Lvl := ℕ) EC (c : Thread nD τ) () amts (deliv c gU gD e s he hs XU XD fU fD) (sm := SemLoc.dma (cell s (inbC hs))) (E := Set.univ)) $$ Hv with HB
  ihave MU := (pointsTo_split_subset (Finset.subset_univ (srcU e (inbU32 he)).view.set)).1 $$ MU
  icases MU with ⟨MU1, MU2⟩
  ihave MD := (pointsTo_split_subset (Finset.subset_univ (srcD e (inbD32 he)).view.set)).1 $$ MD
  icases MD with ⟨MD1, MD2⟩
  iapply (Transfers.wp_dmaMixedBatch EC 𝒱 (c : Thread nD τ) bd (D := deliv c gU gD e s he hs XU XD fU fD) () amts hXU (j := 0) (u := 0) (by decide) rfl (Nat.zero_le _) (Entails.of_eq rfl)) $$ [MU1 HU HB]
  · isplitl [MU1]; · iexact MU1
    isplitl [HU]; · iexact HU
    iexact HB
  iintro HB
  iapply (Transfers.wp_dmaMixedBatch EC 𝒱 (c : Thread nD τ) bd (D := deliv c gU gD e s he hs XU XD fU fD) () amts hXD (j := 1) (u := 0) (by decide) rfl (Nat.zero_le _) (Entails.of_eq rfl)) $$ [MD1 HD HB]
  · isplitl [MD1]; · iexact MD1
    isplitl [HD]; · iexact HD
    iexact HB
  iintro HB
  iapply Hk
  isplitl [HB]; · iexact HB
  isplitl [MU2]; · iexact MU2
  iexact MD2

/-- A landed half and the rest, joined: the slot reads what landed. -/
theorem joinU {s : BitVec 32} (hs : s.toNat < 2) {X : Finset (Idx (scU.view.loc (c : Thread nD τ)))} (hX : (dstU s (inbU2 hs)).view.set ⊆ X)
    (f r : BufAt (F := F) c scU) (w : Vec F S1024x2048 .f32) :
    iprop((scU.view.loc (c : Thread nD τ) ↦[X]{fullShare} (dstU s (inbU2 hs)).view.write (Elt F) f w Finset.univ)
      ∗ (scU.view.loc (c : Thread nD τ) ↦[Finset.univ \ X]{fullShare} r))
    ⊢ (iprop(∃ g : BufAt (F := F) c scU, ⌜(dstU s (inbU2 hs)).view.read (Elt F) g = w⌝ ∗ (scU.view.loc (c : Thread nD τ) ↦{fullShare} g)) : sProp 𝕄) := by
  refine (pointsTo_join_subset (Finset.subset_univ X)).trans ?_
  iintro H
  iexists _
  isplitr
  rotate_left
  · iexact H
  · ipureintro
    refine (View.read_congr (fun x hx => ?_)).trans (View.read_write_univ (v := (dstU s (inbU2 hs)).view) f w)
    exact Finset.piecewise_eq_of_mem _ _ _ (hX hx)

/-- A landed half and the rest, joined: the slot reads what landed. -/
theorem joinD {s : BitVec 32} (hs : s.toNat < 2) {X : Finset (Idx (scD.view.loc (c : Thread nD τ)))} (hX : (dstD s (inbD2 hs)).view.set ⊆ X)
    (f r : BufAt (F := F) c scD) (w : Vec F S1024x1024 .f32) :
    iprop((scD.view.loc (c : Thread nD τ) ↦[X]{fullShare} (dstD s (inbD2 hs)).view.write (Elt F) f w Finset.univ)
      ∗ (scD.view.loc (c : Thread nD τ) ↦[Finset.univ \ X]{fullShare} r))
    ⊢ (iprop(∃ g : BufAt (F := F) c scD, ⌜(dstD s (inbD2 hs)).view.read (Elt F) g = w⌝ ∗ (scD.view.loc (c : Thread nD τ) ↦{fullShare} g)) : sProp 𝕄) := by
  refine (pointsTo_join_subset (Finset.subset_univ X)).trans ?_
  iintro H
  iexists _
  isplitr
  rotate_left
  · iexact H
  · ipureintro
    refine (View.read_congr (fun x hx => ?_)).trans (View.read_write_univ (v := (dstD s (inbD2 hs)).view) f w)
    exact Finset.piecewise_eq_of_mem _ _ _ (hX hx)

/-- Both waits of slot `s`: the slots landed, the sources back, the cell at zero. -/
theorem recv_wp {α : Type} (𝒱 : Variants) (bd : Option 𝒱.V) (gU : BufAt (F := F) c mU) (gD : BufAt (F := F) c mD) (e s : BitVec 32) (he : e.toNat < 32) (hs : s.toNat < 2)
    (hw1 hw2 hw3 hw4) (k : PUnit → Prog (TpuEff nD τ sig (Elt F) Λ₀ .tc) α) (Q : α → sProp 𝕄) :
    iprop(Flight c gU gD e s he hs ∗ (∃ W, owes (c : Thread nD τ) 0 W))
    ⊢ iprop(((∃ (fU : BufAt (F := F) c scU) (fD : BufAt (F := F) c scD),
          ⌜(dstU s (inbU2 hs)).view.read (Elt F) fU = (srcU e (inbU32 he)).view.read (Elt F) gU ∧ (dstD s (inbD2 hs)).view.read (Elt F) fD = (srcD e (inbD32 he)).view.read (Elt F) gD⌝
          ∗ (scU.view.loc (c : Thread nD τ) ↦{fullShare} fU) ∗ (scD.view.loc (c : Thread nD τ) ↦{fullShare} fD)
          ∗ (mU.view.loc (c : Thread nD τ) ↦{fullShare} gU) ∗ (mD.view.loc (c : Thread nD τ) ↦{fullShare} gD)
          ∗ semVal ((c : Thread nD τ), SemLoc.dma (cell s (inbC hs))) 0 ∗ semVal ((c : Thread nD τ), SemLoc.dma (cell (oth s) (inbC (oth_lt hs)))) 0
          ∗ (∃ W, owes (c : Thread nD τ) 0 W))
        -∗ wp frame (wpE (defs₀ (F := F)) 𝒱 (c : Thread nD τ) bd) Set.univ (k ⟨⟩) Q)
      -∗ wp frame (wpE (defs₀ (F := F)) 𝒱 (c : Thread nD τ) bd) Set.univ
        (Prog.op (TpuEff.waitDma2 (cell s (inbC hs)) (srcU e (inbU32 he)) (dstU s (inbU2 hs)) hw1 hw2) fun _ =>
          Prog.op (TpuEff.waitDma2 (cell s (inbC hs)) (srcD e (inbD32 he)) (dstD s (inbD2 hs)) hw3 hw4) k) Q) := by
  unfold Flight
  iintro ⟨⟨%XU, %XD, %fU, %fD, %rU, %rD, %hX, HB, Hv, HrU, HrD, HmU, HmD⟩, ⟨%W, HO⟩⟩ Hk
  iapply (Transfers.wp_waitMixedBatch EC 𝒱 (c : Thread nD τ) bd (srcw := srcU e (inbU32 he)) (dstw := dstU s (inbU2 hs)) (hsrc := hw1) (hdst := hw2) (D := deliv c gU gD e s he hs XU XD fU fD) () (A := amts) (j := 2) (u := 0) (J := crU) rfl
    (by rw [sum_amts]; omega)) $$ [HB HO]
  · isplitl [HB]; · iexact HB
    iexact HO
  iintro ⟨HB, HO⟩
  iapply (Transfers.wp_waitMixedBatchAll EC 𝒱 (c : Thread nD τ) bd (srcw := srcD e (inbD32 he)) (dstw := dstD s (inbD2 hs)) (hsrc := hw3) (hdst := hw4) (D := deliv c gU gD e s he hs XU XD fU fD) () (A := amts) (u := 0 + crU) (J := crD) rfl amts_pos
    (by rw [sum_amts]; omega)) $$ [HB HO]
  · isplitl [HB]; · iexact HB
    iexact HO
  iintro ⟨HD, Hs, HO⟩
  ihave HD := (deliv_both c gU gD e s he hs XU XD fU fD) $$ HD
  icases HD with ⟨⟨LU, SU⟩, ⟨LD, SD⟩⟩
  iapply Hk
  ihave LU := (joinU c hs hX.1 fU rU _) $$ [LU HrU]
  · isplitl [LU]; · iexact LU
    iexact HrU
  icases LU with ⟨%lU, %hlU, LU⟩
  ihave LD := (joinD c hs hX.2 fD rD _) $$ [LD HrD]
  · isplitl [LD]; · iexact LD
    iexact HrD
  icases LD with ⟨%lD, %hlD, LD⟩
  ihave MU := (pointsTo_split_subset (ℓ := mU.view.loc (c : Thread nD τ)) (S := Finset.univ) (f := gU) (q := fullShare) (Finset.subset_univ (srcU e (inbU32 he)).view.set)).2 $$ [SU HmU]
  · isplitl [SU]; · iexact SU
    iexact HmU
  ihave MD := (pointsTo_split_subset (ℓ := mD.view.loc (c : Thread nD τ)) (S := Finset.univ) (f := gD) (q := fullShare) (Finset.subset_univ (srcD e (inbD32 he)).view.set)).2 $$ [SD HmD]
  · isplitl [SD]; · iexact SD
    iexact HmD
  iexists lU, lD
  isplitr
  · ipureintro; exact ⟨hlU, hlD⟩
  isplitl [LU]; · iexact LU
  isplitl [LD]; · iexact LD
  isplitl [MU]; · iexact MU
  isplitl [MD]; · iexact MD
  isplitl [Hs]; · iexact Hs
  isplitl [Hv]; · iexact Hv
  iexists _; iexact HO

/-- Both cells at zero, whichever slot was the last. -/
theorem home_of (gU : BufAt (F := F) c mU) (gD : BufAt (F := F) c mD) (s : BitVec 32) (hs : s.toNat < 2) :
    iprop(semVal ((c : Thread nD τ), SemLoc.dma (cell s (inbC hs))) 0 ∗ semVal ((c : Thread nD τ), SemLoc.dma (cell (oth s) (inbC (oth_lt hs)))) 0
      ∗ (∃ f, scU.view.loc (c : Thread nD τ) ↦{fullShare} f) ∗ (∃ f, scD.view.loc (c : Thread nD τ) ↦{fullShare} f)
      ∗ (mU.view.loc (c : Thread nD τ) ↦{fullShare} gU) ∗ (mD.view.loc (c : Thread nD τ) ↦{fullShare} gD)) ⊢ (Home c gU gD : sProp 𝕄) := by
  have h01 : s = 0#32 ∨ s = 1#32 := by
    rcases Nat.lt_or_ge s.toNat 1 with h1 | h1
    · left; apply BitVec.eq_of_toNat_eq; simp; omega
    · right; apply BitVec.eq_of_toNat_eq; simp; omega
  unfold Home
  rcases h01 with rfl | rfl
  · exact .rfl
  · iintro ⟨H1, H0, HR⟩
    isplitl [H0]; · iexact H0
    isplitl [H1]; · iexact H1
    iexact HR

section Switch

variable (𝒱 : Variants) (bd : Option 𝒱.V)

theorem tail_wp (s : BitVec 32) (hs : s.toNat < 2) (SU : Finset (Idx (scU.view.loc (c : Thread nD τ)))) (SD : Finset (Idx (scD.view.loc (c : Thread nD τ))))
    (fU : BufAt (F := F) c scU) (fD : BufAt (F := F) c scD) (hU : (dstU s (inbU2 hs)).view.set ⊆ SU) (hD : (dstD s (inbD2 hs)).view.set ⊆ SD)
    (f14 : BufAt (F := F) c bfU) (f15 : BufAt (F := F) c bfD) (hl1 hl2 hl3 hl4 hs1 hm1 hs2 hm2) (Q : PUnit → sProp 𝕄) :
    iprop((scU.view.loc (c : Thread nD τ) ↦[SU]{fullShare} fU) ∗ (scD.view.loc (c : Thread nD τ) ↦[SD]{fullShare} fD)
      ∗ (bfU.view.loc (c : Thread nD τ) ↦{fullShare} f14) ∗ (bfD.view.loc (c : Thread nD τ) ↦{fullShare} f15))
    ⊢ iprop(((scU.view.loc (c : Thread nD τ) ↦[SU]{fullShare} fU) ∗ (scD.view.loc (c : Thread nD τ) ↦[SD]{fullShare} fD)
        ∗ owns (c : Thread nD τ) bfU fullShare (k0_pay9 (scU.view.readAt (Elt F) (Rect.unit (s := S2x1024x2048) ![s.toNat, 0, 0] S1x1024x2048.size (inbU2 hs)).toLoadRect fU))
        ∗ owns (c : Thread nD τ) bfD fullShare (k0_pay10 (scD.view.readAt (Elt F) (Rect.unit (s := S2x1024x1024) ![s.toNat, 0, 0] S1x1024x1024.size (inbD2 hs)).toLoadRect fD))
        -∗ wp frame (wpE (defs₀ (F := F)) 𝒱 (c : Thread nD τ) bd) Set.univ (Prog.ret ⟨⟩) Q)
      -∗ wp frame (wpE (defs₀ (F := F)) 𝒱 (c : Thread nD τ) bd) Set.univ
        (Prog.op (TpuEff.load scU (Rect.unit (s := S2x1024x2048) ![s.toNat, 0, 0] S1x1024x2048.size (inbU2 hs)).toLoadRect hl1) fun v45 =>
          Prog.op (TpuEff.load bfU (Rect.unit (s := S1024x2048) ![0, 0] S1024x2048.size inb_S1024x2048_S1024x2048_0_0).toLoadRect hl2) fun v48 =>
          Prog.op (TpuEff.store bfU (Rect.unit (s := S1024x2048) ![0, 0] S1024x2048.size inb_S1024x2048_S1024x2048_0_0) (k0_pay9 v45) Finset.univ hs1 hm1) fun _ =>
          Prog.op (TpuEff.load scD (Rect.unit (s := S2x1024x1024) ![s.toNat, 0, 0] S1x1024x1024.size (inbD2 hs)).toLoadRect hl3) fun v52 =>
          Prog.op (TpuEff.load bfD (Rect.unit (s := S1024x1024) ![0, 0] S1024x1024.size inb_S1024x1024_S1024x1024_0_0).toLoadRect hl4) fun v55 =>
          Prog.op (TpuEff.store bfD (Rect.unit (s := S1024x1024) ![0, 0] S1024x1024.size inb_S1024x1024_S1024x1024_0_0) (k0_pay10 v52) Finset.univ hs2 hm2) Prog.ret) Q) := by
  iintro ⟨HU, HD, B14, B15⟩ Hk
  iapply (wp_load 𝒱 (c : Thread nD τ) bd Set.univ (m := scU) ((accU hs).trans hU)) $$ HU
  iintro HU
  iapply (wp_load 𝒱 (c : Thread nD τ) bd Set.univ (m := bfU) (Finset.subset_univ _)) $$ B14
  iintro B14
  iapply (wp_store 𝒱 (c : Thread nD τ) bd Set.univ (m := bfU) (r := Rect.unit (s := S1024x2048) ![0, 0] S1024x2048.size inb_S1024x2048_S1024x2048_0_0) (f := f14) (S := Finset.univ) (Finset.subset_univ _)) $$ B14
  iintro B14
  iapply (wp_load 𝒱 (c : Thread nD τ) bd Set.univ (m := scD) ((accD hs).trans hD)) $$ HD
  iintro HD
  iapply (wp_load 𝒱 (c : Thread nD τ) bd Set.univ (m := bfD) (Finset.subset_univ _)) $$ B15
  iintro B15
  iapply (wp_store 𝒱 (c : Thread nD τ) bd Set.univ (m := bfD) (r := Rect.unit (s := S1024x1024) ![0, 0] S1024x1024.size inb_S1024x1024_S1024x1024_0_0) (f := f15) (S := Finset.univ) (Finset.subset_univ _)) $$ B15
  iintro B15
  iapply Hk
  isplitl [HU]; · iexact HU
  isplitl [HD]; · iexact HD
  isplitl [B14]
  · unfold owns
    iexists _
    isplitr
    · ipureintro; exact wroteU c f14 _
    rw [View.set_whole]
    iexact B14
  · unfold owns
    iexists _
    isplitr
    · ipureintro; exact wroteD c f15 _
    rw [View.set_whole]
    iexact B15

theorem switch_wp (w0 : BufAt (F := F) c tBe) (w1 : BufAt (F := F) c tLive) (w2 : BufAt (F := F) c tFirst) (w3 : BufAt (F := F) c tNext) (w4 : BufAt (F := F) c tSlot) (i : grid0.Coords) (gU : BufAt (F := F) c mU) (gD : BufAt (F := F) c mD)
    (e s nx v4 : BitVec 32) (hv : k0_cond2 v4 = 1#1) (he : e.toNat < 32) (hs : s.toNat < 2) (hn : k0_cond3 nx = 1#1 → nx.toNat < 32)
    (hwe : e = word c tBe w0 i) (hwn : nx = word c tNext w3 i) (hws : s = word c tSlot w4 i) (arg0 : BitVec 32)
    (arg6 : Memref sig .tc .vmem S4096x128 .f32) (harg6 : arg6.IsWhole) (arg8 : Memref sig .tc .vmem S1x1x2048 .f32) (harg8 : arg8.IsWhole)
    (arg10 : Memref sig .tc .vmem S1x1x1024 .f32) (harg10 : arg10.IsWhole) (arg11 : Memref sig .tc .vmem S4096x128 .f32) (harg11 : arg11.IsWhole)
    (h1 : tBe.IsWhole) (h2 : tLive.IsWhole) (h3 : tFirst.IsWhole) (h4 : tNext.IsWhole) (h5 : tSlot.IsWhole) (h7 : mU.IsWhole) (h9 : mD.IsWhole)
    (h12 : scU.IsWhole) (h13 : scD.IsWhole) (h14 : bfU.IsWhole) (h15 : bfD.IsWhole) (hst) (hm) :
    iprop(Flight c gU gD e s he hs ∗ Tabs c w0 w1 w2 w3 w4 ∗ (∃ f, bfU.view.loc (c : Thread nD τ) ↦{fullShare} f) ∗ (∃ f, bfD.view.loc (c : Thread nD τ) ↦{fullShare} f)
      ∗ (∃ W, owes (c : Thread nD τ) 0 W) : sProp 𝕄)
    ⊢ wp frame (wpE (defs₀ (F := F)) 𝒱 (c : Thread nD τ) bd) Set.univ
        (k0_part1_skel (F := F) i tBe h1 tLive h2 tFirst h3 tNext h4 tSlot h5 arg6 harg6 mU h7 arg8 harg8 mD h9 arg10 harg10 arg11 harg11 scU h12 scD h13 bfU h14 bfD h15 cc0_scratch4 arg0 v4 hv >>= fun v57 =>
          Prog.lift (.store bfD (Rect.unit (s := S1024x1024) ![0, 0] S1024x1024.size inb_S1024x1024_S1024x1024_0_0) v57 Finset.univ hst hm))
        (fun _ => iprop((if h : k0_cond3 nx = 1#1 then Flight c gU gD nx (oth s) (hn h) (oth_lt hs) else Home c gU gD) ∗ Tabs c w0 w1 w2 w3 w4
          ∗ owns (c : Thread nD τ) bfU fullShare (bfOfU c gU e he) ∗ owns (c : Thread nD τ) bfD fullShare (bfOfD c gD e he)
          ∗ (∃ W, owes (c : Thread nD τ) 0 W))) := by
  unfold k0_part1_skel
  simp only [smemLoad, Prog.lift, Prog.bind_op, Prog.bind_ret, smemLoadElt_bind]
  iintro ⟨HF, HT, ⟨%f14, B14⟩, ⟨%f15, B15⟩, ⟨%W, HO⟩⟩
  unfold Tabs
  icases HT with ⟨T0, T1, T2, T3, T4⟩
  named_smem T4 s hws
  iapply (wp_assume 𝒱 (c : Thread nD τ) bd Set.univ ⟨fun _ => inbC hs, fun _ => inbU2 hs, fun _ => inbC hs, fun _ => inbD2 hs, fun _ => inbU2 hs, fun _ => inbD2 hs⟩)
  named_smem T0 e hwe
  iapply (wp_assume 𝒱 (c : Thread nD τ) bd Set.univ ⟨fun _ => inbU32 he, fun _ => inbD32 he⟩)
  iapply (recv_wp c 𝒱 bd gU gD e s he hs) $$ [HF HO]
  · isplitl [HF]; · iexact HF
    iexists W; iexact HO
  iintro ⟨%fU, %fD, %hr, HU, HD, HmU, HmD, Hs, Ho, HO⟩
  named_smem T3 nx hwn
  iapply (wp_assume 𝒱 (c : Thread nD τ) bd Set.univ ⟨fun _ _ => inbC (oth_lt hs), fun _ _ => inbU2 (oth_lt hs), fun _ _ => inbC (oth_lt hs), fun _ _ => inbD2 (oth_lt hs)⟩)
  by_cases h3 : k0_cond3 nx = 1#1
  · rw [dif_pos h3, dif_pos h3]
    simp only [Prog.bind_op, Prog.bind_ret, Prog.pure_eq_ret, smemLoadElt_bind]
    named_smem T3 nx hwn
    iapply (wp_assume 𝒱 (c : Thread nD τ) bd Set.univ ⟨fun _ _ => inbU32 (hn h3), fun _ _ => inbD32 (hn h3)⟩)
    ihave HU := (pointsTo_split_subset (Finset.subset_univ (dstU s (inbU2 hs)).view.set)).1 $$ HU
    icases HU with ⟨HU1, HU2⟩
    ihave HD := (pointsTo_split_subset (Finset.subset_univ (dstD s (inbD2 hs)).view.set)).1 $$ HD
    icases HD with ⟨HD1, HD2⟩
    iapply (send_wp c 𝒱 bd gU gD nx (oth s) (hn h3) (oth_lt hs) _ _ fU fU fD fD (sepU hs) (sepD hs)) $$ [Ho HU2 HD2 HmU HmD]
    · isplitl [Ho]; · iexact Ho
      isplitl [HU2]; · iexact HU2
      isplitl [HD2]; · iexact HD2
      isplitl [HmU]; · iexact HmU
      iexact HmD
    iintro ⟨HB, HmU, HmD⟩
    iapply (tail_wp c 𝒱 bd s hs _ _ fU fD (Finset.Subset.refl _) (Finset.Subset.refl _) f14 f15) $$ [HU1 HD1 B14 B15]
    · isplitl [HU1]; · iexact HU1
      isplitl [HD1]; · iexact HD1
      isplitl [B14]; · iexact B14
      iexact B15
    iintro ⟨HU1, HD1, B14, B15⟩
    rw [readU c gU e s he hs fU hr.1, readD c gD e s he hs fD hr.2]
    rw [wp_ret]
    imodintro
    isplitl [HB HU1 HD1 HmU HmD Hs]
    · unfold Flight
      iexists _, _, fU, fD, fU, fD
      isplitr
      · ipureintro; exact ⟨sepU hs, sepD hs⟩
      isplitl [HB]; · iexact HB
      isplitl [Hs]
      · have : cell (oth (oth s)) (inbC (oth_lt (oth_lt hs))) = cell s (inbC hs) := by simp only [oth_oth hs]
        rw [this]; iexact Hs
      rw [Finset.sdiff_sdiff_eq_self (Finset.subset_univ _), Finset.sdiff_sdiff_eq_self (Finset.subset_univ _)]
      isplitl [HU1]; · iexact HU1
      isplitl [HD1]; · iexact HD1
      isplitl [HmU]; · iexact HmU
      iexact HmD
    isplitl [T0 T1 T2 T3 T4]
    · isplitl [T0]; · iexact T0
      isplitl [T1]; · iexact T1
      isplitl [T2]; · iexact T2
      isplitl [T3]; · iexact T3
      iexact T4
    isplitl [B14]; · iexact B14
    isplitl [B15]; · iexact B15
    iexact HO
  · rw [dif_neg h3, dif_neg h3]
    simp only [Prog.bind_op, Prog.bind_ret, Prog.pure_eq_ret, smemLoadElt_bind]
    iapply (tail_wp c 𝒱 bd s hs _ _ fU fD (Finset.subset_univ _) (Finset.subset_univ _) f14 f15) $$ [HU HD B14 B15]
    · isplitl [HU]; · iexact HU
      isplitl [HD]; · iexact HD
      isplitl [B14]; · iexact B14
      iexact B15
    iintro ⟨HU, HD, B14, B15⟩
    rw [readU c gU e s he hs fU hr.1, readD c gD e s he hs fD hr.2]
    rw [wp_ret]
    imodintro
    isplitl [HU HD HmU HmD Hs Ho]
    · iapply (home_of c gU gD s hs)
      isplitl [Hs]; · iexact Hs
      isplitl [Ho]; · iexact Ho
      isplitl [HU]; · iexists fU; iexact HU
      isplitl [HD]; · iexists fD; iexact HD
      isplitl [HmU]; · iexact HmU
      iexact HmD
    isplitl [T0 T1 T2 T3 T4]
    · isplitl [T0]; · iexact T0
      isplitl [T1]; · iexact T1
      isplitl [T2]; · iexact T2
      isplitl [T3]; · iexact T3
      iexact T4
    isplitl [B14]; · iexact B14
    isplitl [B15]; · iexact B15
    iexact HO

end Switch

end Cert.ExpertsIdeal.Hand
-- ==== Proof.ComputeExpertsIdeal.lean ====
/- The experts' compute: what one block of rows leaves in its output window, for each count of live halves. -/
module

public import proofs.«01_k».proof.Proof.SwitchExpertsIdeal
public import proofs.«01_k».proof.Proof.Gen.ExpertsIdeal.Skeleton
public import Idealize.ShloMosaic.Lib.Pipeline.FrameBody
public import Idealize.ShloMosaic.Lib.Claim
public import Idealize.ShloMosaic.Lib.Ring
public import Idealize.ShloMosaic.Lib.Tactic
public import Mathlib.Tactic.IntervalCases

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The three bodies -/

/-- The step of a block with no live row. -/
def zeroProg (i : grid0.Coords) (arg1 : Memref sig .tc .smem S159 .i32) (harg1 : arg1.IsWhole) (arg2 : Memref sig .tc .smem S159 .i32) (harg2 : arg2.IsWhole) (arg3 : Memref sig .tc .smem S159 .i32) (harg3 : arg3.IsWhole) (arg4 : Memref sig .tc .smem S159 .i32) (harg4 : arg4.IsWhole) (arg5 : Memref sig .tc .smem S159 .i32) (harg5 : arg5.IsWhole) (arg6 : Memref sig .tc .vmem S4096x128 .f32) (harg6 : arg6.IsWhole) (arg7 : Memref sig .tc .hbm S32x1024x2048 .f32) (harg7 : arg7.IsWhole) (arg8 : Memref sig .tc .vmem S1x1x2048 .f32) (harg8 : arg8.IsWhole) (arg9 : Memref sig .tc .hbm S32x1024x1024 .f32) (harg9 : arg9.IsWhole) (arg10 : Memref sig .tc .vmem S1x1x1024 .f32) (harg10 : arg10.IsWhole) (arg11 : Memref sig .tc .vmem S4096x128 .f32) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2) :
    Prog (TpuEff nD τ sig (Elt F) Λ₀ .tc) PUnit := do
  let v24 : Vec F S4096x128 .f32 ← Prog.lift (.load arg11 (Rect.unit (s := S4096x128) ![0, 0] S4096x128.size inb_S4096x128_S4096x128_0_0).toLoadRect (View.loadsAt_vmem h_S4096x128))
  Prog.lift (.store arg11 (Rect.unit (s := S4096x128) ![0, 0] S4096x128.size inb_S4096x128_S4096x128_0_0) (k0_pay1 (F := F)) Finset.univ (View.stores_vmem_bits_univ h_S4096x128 rfl) (.inl rfl))
  pure ⟨⟩

/-- The step of a block with one live half. -/
def oneProg (i : grid0.Coords) (arg1 : Memref sig .tc .smem S159 .i32) (harg1 : arg1.IsWhole) (arg2 : Memref sig .tc .smem S159 .i32) (harg2 : arg2.IsWhole) (arg3 : Memref sig .tc .smem S159 .i32) (harg3 : arg3.IsWhole) (arg4 : Memref sig .tc .smem S159 .i32) (harg4 : arg4.IsWhole) (arg5 : Memref sig .tc .smem S159 .i32) (harg5 : arg5.IsWhole) (arg6 : Memref sig .tc .vmem S4096x128 .f32) (harg6 : arg6.IsWhole) (arg7 : Memref sig .tc .hbm S32x1024x2048 .f32) (harg7 : arg7.IsWhole) (arg8 : Memref sig .tc .vmem S1x1x2048 .f32) (harg8 : arg8.IsWhole) (arg9 : Memref sig .tc .hbm S32x1024x1024 .f32) (harg9 : arg9.IsWhole) (arg10 : Memref sig .tc .vmem S1x1x1024 .f32) (harg10 : arg10.IsWhole) (arg11 : Memref sig .tc .vmem S4096x128 .f32) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2) :
    Prog (TpuEff nD τ sig (Elt F) Λ₀ .tc) PUnit := do
  let ⟨v42, v44⟩ : Σ' (v42 : FVec F S256x2048 .f32), FVec F S1x2048 .f32 ← k0_part2_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  let ⟨v68, v78⟩ : Σ' (v68 : FVec F S256x1024 .f32), FVec F S256x128 .f32 ← k0_part3_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v42 v44
  let v79 : Memref sig .tc .vmem S2048x128 .f32 := arg11.slice (Rect.unit (s := S4096x128) ![0, 0] S2048x128.size inb_S4096x128_S2048x128_0_0) (fun _ => rfl)
  let v80 : Vec F S256x128 .f32 ← Prog.lift (.load v79 (⟨![3, 0], S256x128.size, ![8, 1], inb_S2048x128_S256x128_3_0_s_8_1⟩ : LoadRect S2048x128) (View.loadsAt_vmem h_S256x128))
  Prog.lift (.store v79 ⟨(⟨![3, 0], S256x128.size, ![8, 1], inb_S2048x128_S256x128_3_0_s_8_1⟩ : LoadRect S2048x128), spos_8_1⟩ v78 Finset.univ (View.stores_vmem_bits_univ h_S256x128 rfl) (.inl rfl))
  let v82 : Memref sig .tc .vmem S2048x128 .f32 := arg11.slice (Rect.unit (s := S4096x128) ![0, 0] S2048x128.size inb_S4096x128_S2048x128_0_0) (fun _ => rfl)
  let v83 : Vec F S256x128 .f32 ← Prog.lift (.load v82 (⟨![4, 0], S256x128.size, ![8, 1], inb_S2048x128_S256x128_4_0_s_8_1⟩ : LoadRect S2048x128) (View.loadsAt_vmem h_S256x128))
  Prog.lift (.store v82 ⟨(⟨![4, 0], S256x128.size, ![8, 1], inb_S2048x128_S256x128_4_0_s_8_1⟩ : LoadRect S2048x128), spos_8_1⟩ (k0_pay2 v68) Finset.univ (View.stores_vmem_bits_univ h_S256x128 rfl) (.inl rfl))
  let v85 : Memref sig .tc .vmem S2048x128 .f32 := arg11.slice (Rect.unit (s := S4096x128) ![0, 0] S2048x128.size inb_S4096x128_S2048x128_0_0) (fun _ => rfl)
  let v86 : Vec F S256x128 .f32 ← Prog.lift (.load v85 (⟨![5, 0], S256x128.size, ![8, 1], inb_S2048x128_S256x128_5_0_s_8_1⟩ : LoadRect S2048x128) (View.loadsAt_vmem h_S256x128))
  Prog.lift (.store v85 ⟨(⟨![5, 0], S256x128.size, ![8, 1], inb_S2048x128_S256x128_5_0_s_8_1⟩ : LoadRect S2048x128), spos_8_1⟩ (k0_pay3 v68) Finset.univ (View.stores_vmem_bits_univ h_S256x128 rfl) (.inl rfl))
  let v88 : Memref sig .tc .vmem S2048x128 .f32 := arg11.slice (Rect.unit (s := S4096x128) ![0, 0] S2048x128.size inb_S4096x128_S2048x128_0_0) (fun _ => rfl)
  let v89 : Vec F S256x128 .f32 ← Prog.lift (.load v88 (⟨![6, 0], S256x128.size, ![8, 1], inb_S2048x128_S256x128_6_0_s_8_1⟩ : LoadRect S2048x128) (View.loadsAt_vmem h_S256x128))
  Prog.lift (.store v88 ⟨(⟨![6, 0], S256x128.size, ![8, 1], inb_S2048x128_S256x128_6_0_s_8_1⟩ : LoadRect S2048x128), spos_8_1⟩ (k0_pay4 v68) Finset.univ (View.stores_vmem_bits_univ h_S256x128 rfl) (.inl rfl))
  let v91 : Memref sig .tc .vmem S2048x128 .f32 := arg11.slice (Rect.unit (s := S4096x128) ![0, 0] S2048x128.size inb_S4096x128_S2048x128_0_0) (fun _ => rfl)
  let v92 : Vec F S256x128 .f32 ← Prog.lift (.load v91 (⟨![7, 0], S256x128.size, ![8, 1], inb_S2048x128_S256x128_7_0_s_8_1⟩ : LoadRect S2048x128) (View.loadsAt_vmem h_S256x128))
  Prog.lift (.store v91 ⟨(⟨![7, 0], S256x128.size, ![8, 1], inb_S2048x128_S256x128_7_0_s_8_1⟩ : LoadRect S2048x128), spos_8_1⟩ (k0_pay5 v68) Finset.univ (View.stores_vmem_bits_univ h_S256x128 rfl) (.inl rfl))
  let v94 : Vec F S2048x128 .f32 ← Prog.lift (.load arg11 (Rect.unit (s := S4096x128) ![2048, 0] S2048x128.size inb_S4096x128_S2048x128_2048_0).toLoadRect (View.loadsAt_vmem h_S2048x128))
  Prog.lift (.store arg11 (Rect.unit (s := S4096x128) ![2048, 0] S2048x128.size inb_S4096x128_S2048x128_2048_0) (k0_pay6 (F := F)) Finset.univ (View.stores_vmem_bits_univ h_S2048x128 rfl) (.inl rfl))
  pure ⟨⟩

/-- The step of a block with two live halves. -/
def twoProg (i : grid0.Coords) (arg1 : Memref sig .tc .smem S159 .i32) (harg1 : arg1.IsWhole) (arg2 : Memref sig .tc .smem S159 .i32) (harg2 : arg2.IsWhole) (arg3 : Memref sig .tc .smem S159 .i32) (harg3 : arg3.IsWhole) (arg4 : Memref sig .tc .smem S159 .i32) (harg4 : arg4.IsWhole) (arg5 : Memref sig .tc .smem S159 .i32) (harg5 : arg5.IsWhole) (arg6 : Memref sig .tc .vmem S4096x128 .f32) (harg6 : arg6.IsWhole) (arg7 : Memref sig .tc .hbm S32x1024x2048 .f32) (harg7 : arg7.IsWhole) (arg8 : Memref sig .tc .vmem S1x1x2048 .f32) (harg8 : arg8.IsWhole) (arg9 : Memref sig .tc .hbm S32x1024x1024 .f32) (harg9 : arg9.IsWhole) (arg10 : Memref sig .tc .vmem S1x1x1024 .f32) (harg10 : arg10.IsWhole) (arg11 : Memref sig .tc .vmem S4096x128 .f32) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2) :
    Prog (TpuEff nD τ sig (Elt F) Λ₀ .tc) PUnit := do
  let ⟨v42, v44⟩ : Σ' (v42 : FVec F S256x2048 .f32), FVec F S1x2048 .f32 ← k0_part4_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  let ⟨v46, v66⟩ : Σ' (v46 : FVec F S256x2048 .f32), FVec F S256x2048 .f32 ← k0_part5_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v42 v44
  let ⟨v92, v108⟩ : Σ' (v92 : FVec F S256x1024 .f32), FVec F S256x1024 .bf16 ← k0_part6_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v46 v66
  let ⟨v114, v133⟩ : Σ' (v114 : FVec F S256x1024 .f32), FVec F S256x128 .f32 ← k0_part7_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v92 v108
  let v154 : FVec F S256x128 .f32 ← k0_part8_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v92 v114 v133
  let v155 : Memref sig .tc .vmem S2048x128 .f32 := arg11.slice (Rect.unit (s := S4096x128) ![2048, 0] S2048x128.size inb_S4096x128_S2048x128_2048_0) (fun _ => rfl)
  let v156 : Vec F S256x128 .f32 ← Prog.lift (.load v155 (⟨![5, 0], S256x128.size, ![8, 1], inb_S2048x128_S256x128_5_0_s_8_1⟩ : LoadRect S2048x128) (View.loadsAt_vmem h_S256x128))
  Prog.lift (.store v155 ⟨(⟨![5, 0], S256x128.size, ![8, 1], inb_S2048x128_S256x128_5_0_s_8_1⟩ : LoadRect S2048x128), spos_8_1⟩ v154 Finset.univ (View.stores_vmem_bits_univ h_S256x128 rfl) (.inl rfl))
  let v158 : Memref sig .tc .vmem S2048x128 .f32 := arg11.slice (Rect.unit (s := S4096x128) ![2048, 0] S2048x128.size inb_S4096x128_S2048x128_2048_0) (fun _ => rfl)
  let v159 : Vec F S256x128 .f32 ← Prog.lift (.load v158 (⟨![6, 0], S256x128.size, ![8, 1], inb_S2048x128_S256x128_6_0_s_8_1⟩ : LoadRect S2048x128) (View.loadsAt_vmem h_S256x128))
  Prog.lift (.store v158 ⟨(⟨![6, 0], S256x128.size, ![8, 1], inb_S2048x128_S256x128_6_0_s_8_1⟩ : LoadRect S2048x128), spos_8_1⟩ (k0_pay7 v114) Finset.univ (View.stores_vmem_bits_univ h_S256x128 rfl) (.inl rfl))
  let v161 : Memref sig .tc .vmem S2048x128 .f32 := arg11.slice (Rect.unit (s := S4096x128) ![2048, 0] S2048x128.size inb_S4096x128_S2048x128_2048_0) (fun _ => rfl)
  let v162 : Vec F S256x128 .f32 ← Prog.lift (.load v161 (⟨![7, 0], S256x128.size, ![8, 1], inb_S2048x128_S256x128_7_0_s_8_1⟩ : LoadRect S2048x128) (View.loadsAt_vmem h_S256x128))
  Prog.lift (.store v161 ⟨(⟨![7, 0], S256x128.size, ![8, 1], inb_S2048x128_S256x128_7_0_s_8_1⟩ : LoadRect S2048x128), spos_8_1⟩ (k0_pay8 v114) Finset.univ (View.stores_vmem_bits_univ h_S256x128 rfl) (.inl rfl))
  pure ⟨⟩

/-- The compute of one grid point: the three steps, each under its test of the count of live halves. -/
def compProg (i : grid0.Coords) (arg1 : Memref sig .tc .smem S159 .i32) (harg1 : arg1.IsWhole) (arg2 : Memref sig .tc .smem S159 .i32) (harg2 : arg2.IsWhole) (arg3 : Memref sig .tc .smem S159 .i32) (harg3 : arg3.IsWhole) (arg4 : Memref sig .tc .smem S159 .i32) (harg4 : arg4.IsWhole) (arg5 : Memref sig .tc .smem S159 .i32) (harg5 : arg5.IsWhole) (arg6 : Memref sig .tc .vmem S4096x128 .f32) (harg6 : arg6.IsWhole) (arg7 : Memref sig .tc .hbm S32x1024x2048 .f32) (harg7 : arg7.IsWhole) (arg8 : Memref sig .tc .vmem S1x1x2048 .f32) (harg8 : arg8.IsWhole) (arg9 : Memref sig .tc .hbm S32x1024x1024 .f32) (harg9 : arg9.IsWhole) (arg10 : Memref sig .tc .vmem S1x1x1024 .f32) (harg10 : arg10.IsWhole) (arg11 : Memref sig .tc .vmem S4096x128 .f32) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2) :
    Prog (TpuEff nD τ sig (Elt F) Λ₀ .tc) PUnit := do
  let v9 : Elt F .i32 ← smemLoad arg2 (Rect.unit (s := S159) (k0_off21 i) S1.size (k0_off21_inb i)) numel1_S1 rfl
  if k0_h4 : k0_cond4 v9 = 1#1 then zeroProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  else pure ⟨⟩
  let v14 : Elt F .i32 ← smemLoad arg2 (Rect.unit (s := S159) (k0_off22 i) S1.size (k0_off22_inb i)) numel1_S1 rfl
  if k0_h5 : k0_cond5 v14 = 1#1 then oneProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  else pure ⟨⟩
  let v19 : Elt F .i32 ← smemLoad arg2 (Rect.unit (s := S159) (k0_off23 i) S1.size (k0_off23_inb i)) numel1_S1 rfl
  if k0_h6 : k0_cond6 v19 = 1#1 then twoProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  else pure ⟨⟩
  pure ⟨⟩

/-! ## What they leave -/

abbrev s0_0 : Rect S4096x128 := (Rect.unit (s := S4096x128) ![0, 0] S2048x128.size inb_S4096x128_S2048x128_0_0).within (⟨(⟨![0, 0], S256x128.size, ![8, 1], inb_S2048x128_S256x128_0_0_s_8_1⟩ : LoadRect S2048x128), spos_8_1⟩ : Rect S2048x128) (fun _ => rfl)
abbrev s0_1 : Rect S4096x128 := (Rect.unit (s := S4096x128) ![0, 0] S2048x128.size inb_S4096x128_S2048x128_0_0).within (⟨(⟨![1, 0], S256x128.size, ![8, 1], inb_S2048x128_S256x128_1_0_s_8_1⟩ : LoadRect S2048x128), spos_8_1⟩ : Rect S2048x128) (fun _ => rfl)
abbrev s0_2 : Rect S4096x128 := (Rect.unit (s := S4096x128) ![0, 0] S2048x128.size inb_S4096x128_S2048x128_0_0).within (⟨(⟨![2, 0], S256x128.size, ![8, 1], inb_S2048x128_S256x128_2_0_s_8_1⟩ : LoadRect S2048x128), spos_8_1⟩ : Rect S2048x128) (fun _ => rfl)
abbrev s0_3 : Rect S4096x128 := (Rect.unit (s := S4096x128) ![0, 0] S2048x128.size inb_S4096x128_S2048x128_0_0).within (⟨(⟨![3, 0], S256x128.size, ![8, 1], inb_S2048x128_S256x128_3_0_s_8_1⟩ : LoadRect S2048x128), spos_8_1⟩ : Rect S2048x128) (fun _ => rfl)
abbrev s0_4 : Rect S4096x128 := (Rect.unit (s := S4096x128) ![0, 0] S2048x128.size inb_S4096x128_S2048x128_0_0).within (⟨(⟨![4, 0], S256x128.size, ![8, 1], inb_S2048x128_S256x128_4_0_s_8_1⟩ : LoadRect S2048x128), spos_8_1⟩ : Rect S2048x128) (fun _ => rfl)
abbrev s0_5 : Rect S4096x128 := (Rect.unit (s := S4096x128) ![0, 0] S2048x128.size inb_S4096x128_S2048x128_0_0).within (⟨(⟨![5, 0], S256x128.size, ![8, 1], inb_S2048x128_S256x128_5_0_s_8_1⟩ : LoadRect S2048x128), spos_8_1⟩ : Rect S2048x128) (fun _ => rfl)
abbrev s0_6 : Rect S4096x128 := (Rect.unit (s := S4096x128) ![0, 0] S2048x128.size inb_S4096x128_S2048x128_0_0).within (⟨(⟨![6, 0], S256x128.size, ![8, 1], inb_S2048x128_S256x128_6_0_s_8_1⟩ : LoadRect S2048x128), spos_8_1⟩ : Rect S2048x128) (fun _ => rfl)
abbrev s0_7 : Rect S4096x128 := (Rect.unit (s := S4096x128) ![0, 0] S2048x128.size inb_S4096x128_S2048x128_0_0).within (⟨(⟨![7, 0], S256x128.size, ![8, 1], inb_S2048x128_S256x128_7_0_s_8_1⟩ : LoadRect S2048x128), spos_8_1⟩ : Rect S2048x128) (fun _ => rfl)
abbrev s1_0 : Rect S4096x128 := (Rect.unit (s := S4096x128) ![2048, 0] S2048x128.size inb_S4096x128_S2048x128_2048_0).within (⟨(⟨![0, 0], S256x128.size, ![8, 1], inb_S2048x128_S256x128_0_0_s_8_1⟩ : LoadRect S2048x128), spos_8_1⟩ : Rect S2048x128) (fun _ => rfl)
abbrev s1_1 : Rect S4096x128 := (Rect.unit (s := S4096x128) ![2048, 0] S2048x128.size inb_S4096x128_S2048x128_2048_0).within (⟨(⟨![1, 0], S256x128.size, ![8, 1], inb_S2048x128_S256x128_1_0_s_8_1⟩ : LoadRect S2048x128), spos_8_1⟩ : Rect S2048x128) (fun _ => rfl)
abbrev s1_2 : Rect S4096x128 := (Rect.unit (s := S4096x128) ![2048, 0] S2048x128.size inb_S4096x128_S2048x128_2048_0).within (⟨(⟨![2, 0], S256x128.size, ![8, 1], inb_S2048x128_S256x128_2_0_s_8_1⟩ : LoadRect S2048x128), spos_8_1⟩ : Rect S2048x128) (fun _ => rfl)
abbrev s1_3 : Rect S4096x128 := (Rect.unit (s := S4096x128) ![2048, 0] S2048x128.size inb_S4096x128_S2048x128_2048_0).within (⟨(⟨![3, 0], S256x128.size, ![8, 1], inb_S2048x128_S256x128_3_0_s_8_1⟩ : LoadRect S2048x128), spos_8_1⟩ : Rect S2048x128) (fun _ => rfl)
abbrev s1_4 : Rect S4096x128 := (Rect.unit (s := S4096x128) ![2048, 0] S2048x128.size inb_S4096x128_S2048x128_2048_0).within (⟨(⟨![4, 0], S256x128.size, ![8, 1], inb_S2048x128_S256x128_4_0_s_8_1⟩ : LoadRect S2048x128), spos_8_1⟩ : Rect S2048x128) (fun _ => rfl)
abbrev s1_5 : Rect S4096x128 := (Rect.unit (s := S4096x128) ![2048, 0] S2048x128.size inb_S4096x128_S2048x128_2048_0).within (⟨(⟨![5, 0], S256x128.size, ![8, 1], inb_S2048x128_S256x128_5_0_s_8_1⟩ : LoadRect S2048x128), spos_8_1⟩ : Rect S2048x128) (fun _ => rfl)
abbrev s1_6 : Rect S4096x128 := (Rect.unit (s := S4096x128) ![2048, 0] S2048x128.size inb_S4096x128_S2048x128_2048_0).within (⟨(⟨![6, 0], S256x128.size, ![8, 1], inb_S2048x128_S256x128_6_0_s_8_1⟩ : LoadRect S2048x128), spos_8_1⟩ : Rect S2048x128) (fun _ => rfl)
abbrev s1_7 : Rect S4096x128 := (Rect.unit (s := S4096x128) ![2048, 0] S2048x128.size inb_S4096x128_S2048x128_2048_0).within (⟨(⟨![7, 0], S256x128.size, ![8, 1], inb_S2048x128_S256x128_7_0_s_8_1⟩ : LoadRect S2048x128), spos_8_1⟩ : Rect S2048x128) (fun _ => rfl)
abbrev rWU : Rect S1024x2048 := Rect.unit (s := S1024x2048) ![0, 0] S1024x2048.size inb_S1024x2048_S1024x2048_0_0
abbrev rWD : Rect S1024x1024 := Rect.unit (s := S1024x1024) ![0, 0] S1024x1024.size inb_S1024x1024_S1024x1024_0_0
abbrev rBU : Rect S1x1x2048 := Rect.unit (s := S1x1x2048) ![0, 0, 0] S1x1x2048.size inb_S1x1x2048_S1x1x2048_0_0_0
abbrev rBD : Rect S1x1x1024 := Rect.unit (s := S1x1x1024) ![0, 0, 0] S1x1x1024.size inb_S1x1x1024_S1x1x1024_0_0_0
abbrev rAll : Rect S4096x128 := Rect.unit (s := S4096x128) ![0, 0] S4096x128.size inb_S4096x128_S4096x128_0_0
abbrev rLow : Rect S4096x128 := Rect.unit (s := S4096x128) ![2048, 0] S2048x128.size inb_S4096x128_S2048x128_2048_0

/-- The first half's rows through the up matrix. -/
def upA (x : Vec F S4096x128 .f32) (wU : Vec F S1024x2048 .bf16) : FVec F S256x2048 .f32 := k0_pay11 (View.ld x s0_0) (View.ld x s0_1) (View.ld x s0_2) (View.ld x s0_3) (View.ld x s0_4) (View.ld x s0_5) (View.ld x s0_6) (View.ld x s0_7) (View.ld wU rWU)
/-- The same, as the step of two halves computes it. -/
def upA' (x : Vec F S4096x128 .f32) (wU : Vec F S1024x2048 .bf16) : FVec F S256x2048 .f32 := k0_pay18 (View.ld x s0_0) (View.ld x s0_1) (View.ld x s0_2) (View.ld x s0_3) (View.ld x s0_4) (View.ld x s0_5) (View.ld x s0_6) (View.ld x s0_7) (View.ld wU rWU)
/-- The second half's. -/
def upB (x : Vec F S4096x128 .f32) (wU : Vec F S1024x2048 .bf16) : FVec F S256x2048 .f32 := k0_pay21 (View.ld x s1_0) (View.ld x s1_1) (View.ld x s1_2) (View.ld x s1_3) (View.ld x s1_4) (View.ld x s1_5) (View.ld x s1_6) (View.ld x s1_7) (View.ld wU rWU)
/-- The first half's rows out of the step of two halves. -/
def downA (x : Vec F S4096x128 .f32) (bu : Vec F S1x1x2048 .f32) (bd : Vec F S1x1x1024 .f32) (wU : Vec F S1024x2048 .bf16) (wD : Vec F S1024x1024 .bf16) : FVec F S256x1024 .f32 := k0_pay22 (k0_pay20 (upA' x wU) (k0_pay19 (View.ld bu rBU))) (View.ld wD rWD) (View.ld bd rBD)
/-- The second half's. -/
def downB (x : Vec F S4096x128 .f32) (bu : Vec F S1x1x2048 .f32) (bd : Vec F S1x1x1024 .f32) (wU : Vec F S1024x2048 .bf16) (wD : Vec F S1024x1024 .bf16) : FVec F S256x1024 .f32 := k0_pay24 (k0_pay23 (upB x wU) (View.ld bu rBU)) (View.ld wD rWD) (View.ld bd rBD)
/-- The window after a block with no live row. -/
def out0 : Vec F S4096x128 .f32 := View.canon [⟨rAll, k0_pay1 (F := F)⟩]

/-- After a block with one live half. -/
def out1 (x : Vec F S4096x128 .f32) (bu : Vec F S1x1x2048 .f32) (bd : Vec F S1x1x1024 .f32) (wU : Vec F S1024x2048 .bf16) (wD : Vec F S1024x1024 .bf16) : Vec F S4096x128 .f32 :=
  View.canon [⟨rLow, k0_pay6 (F := F)⟩,
    ⟨s0_7, k0_pay5 (k0_pay13 (upA x wU) (k0_pay12 (View.ld bu rBU)) (View.ld wD rWD) (View.ld bd rBD))⟩,
    ⟨s0_6, k0_pay4 (k0_pay13 (upA x wU) (k0_pay12 (View.ld bu rBU)) (View.ld wD rWD) (View.ld bd rBD))⟩,
    ⟨s0_5, k0_pay3 (k0_pay13 (upA x wU) (k0_pay12 (View.ld bu rBU)) (View.ld wD rWD) (View.ld bd rBD))⟩,
    ⟨s0_4, k0_pay2 (k0_pay13 (upA x wU) (k0_pay12 (View.ld bu rBU)) (View.ld wD rWD) (View.ld bd rBD))⟩,
    ⟨s0_3, k0_pay17 (upA x wU) (k0_pay12 (View.ld bu rBU)) (View.ld wD rWD) (View.ld bd rBD)⟩,
    ⟨s0_2, k0_pay16 (upA x wU) (k0_pay12 (View.ld bu rBU)) (View.ld wD rWD) (View.ld bd rBD)⟩,
    ⟨s0_1, k0_pay15 (upA x wU) (k0_pay12 (View.ld bu rBU)) (View.ld wD rWD) (View.ld bd rBD)⟩,
    ⟨s0_0, k0_pay14 (upA x wU) (k0_pay12 (View.ld bu rBU)) (View.ld wD rWD) (View.ld bd rBD)⟩]

/-- After a block with two. -/
def out2 (x : Vec F S4096x128 .f32) (bu : Vec F S1x1x2048 .f32) (bd : Vec F S1x1x1024 .f32) (wU : Vec F S1024x2048 .bf16) (wD : Vec F S1024x1024 .bf16) : Vec F S4096x128 .f32 :=
  View.canon [⟨s1_7, k0_pay8 (downB x bu bd wU wD)⟩,
    ⟨s1_6, k0_pay7 (downB x bu bd wU wD)⟩,
    ⟨s1_5, k0_pay38 (downB x bu bd wU wD)⟩,
    ⟨s1_4, k0_pay37 (downB x bu bd wU wD)⟩,
    ⟨s1_3, k0_pay36 (downB x bu bd wU wD)⟩,
    ⟨s1_2, k0_pay35 (downB x bu bd wU wD)⟩,
    ⟨s1_1, k0_pay34 (downB x bu bd wU wD)⟩,
    ⟨s1_0, k0_pay33 (downB x bu bd wU wD)⟩,
    ⟨s0_7, k0_pay32 (downA x bu bd wU wD)⟩,
    ⟨s0_6, k0_pay31 (downA x bu bd wU wD)⟩,
    ⟨s0_5, k0_pay30 (downA x bu bd wU wD)⟩,
    ⟨s0_4, k0_pay29 (downA x bu bd wU wD)⟩,
    ⟨s0_3, k0_pay28 (downA x bu bd wU wD)⟩,
    ⟨s0_2, k0_pay27 (downA x bu bd wU wD)⟩,
    ⟨s0_1, k0_pay26 (downA x bu bd wU wD)⟩,
    ⟨s0_0, k0_pay25 (downA x bu bd wU wD)⟩]

/-- A row of one half that is `j` modulo eight is in the rectangle of that half and that sublane. -/
theorem mem_row (r : Rect S4096x128) (o j : ℕ) (ho0 : r.off 0 = o + j) (ho1 : r.off 1 = 0)
    (hs0 : r.size 0 = 256) (hs1 : r.size 1 = 128) (ht0 : r.stride 0 = 8) (ht1 : r.stride 1 = 1) (y : S4096x128.Idx) (h1 : o ≤ (y 0).val) (h2 : (y 0).val < o + 2048)
    (h3 : ((y 0).val - o) % 8 = j) : y ∈ r.set := by
  have hy1 : (y 1).val < 128 := (y 1).isLt
  refine r.mem_set.2 fun a => ?_
  match a with
  | ⟨0, _⟩ =>
    refine ⟨((y 0).val - o) / 8, ?_, ?_⟩
    · show ((y 0).val - o) / 8 < r.size 0
      omega
    · show (y 0).val = r.off 0 + r.stride 0 * (((y 0).val - o) / 8)
      rw [ho0, ht0]; omega
  | ⟨1, _⟩ =>
    refine ⟨(y 1).val, ?_, ?_⟩
    · show (y 1).val < r.size 1
      omega
    · show (y 1).val = r.off 1 + r.stride 1 * (y 1).val
      rw [ho1, ht1]; omega

/-- A row of the second half is in its rectangle. -/
theorem mem_low (y : S4096x128.Idx) (h : 2048 ≤ (y 0).val) : y ∈ rLow.set := by
  have hy0 : (y 0).val < 4096 := (y 0).isLt
  have hy1 : (y 1).val < 128 := (y 1).isLt
  refine rLow.mem_set.2 fun a => ?_
  match a with
  | ⟨0, _⟩ =>
    refine ⟨(y 0).val - 2048, ?_, ?_⟩
    · show (y 0).val - 2048 < 2048
      omega
    · show (y 0).val = 2048 + 1 * ((y 0).val - 2048)
      omega
  | ⟨1, _⟩ =>
    refine ⟨(y 1).val, ?_, ?_⟩
    · show (y 1).val < 128
      omega
    · show (y 1).val = 0 + 1 * (y 1).val
      omega

theorem cover_all (p : Vec F S4096x128 .f32) (y : S4096x128.Idx) :
    ∃ pc ∈ ([⟨rAll, p⟩] : List (View.Piece (Elt F) S4096x128 .f32)), y ∈ pc.1.set :=
  View.cover_of_tiled [⟨rAll, p⟩] S4096x128.size (by rfl) y

theorem cover_one (z : Vec F S2048x128 .f32) (p0 : Vec F S256x128 .f32) (p1 : Vec F S256x128 .f32) (p2 : Vec F S256x128 .f32) (p3 : Vec F S256x128 .f32) (p4 : Vec F S256x128 .f32) (p5 : Vec F S256x128 .f32) (p6 : Vec F S256x128 .f32) (p7 : Vec F S256x128 .f32) (y : S4096x128.Idx) :
    ∃ pc ∈ ([⟨rLow, z⟩, ⟨s0_7, p7⟩, ⟨s0_6, p6⟩, ⟨s0_5, p5⟩, ⟨s0_4, p4⟩, ⟨s0_3, p3⟩, ⟨s0_2, p2⟩, ⟨s0_1, p1⟩, ⟨s0_0, p0⟩] : List (View.Piece (Elt F) S4096x128 .f32)), y ∈ pc.1.set := by
  by_cases h : (y 0).val < 2048
  · have hc : ∃ j, j < 8 ∧ ((y 0).val - 0) % 8 = j := ⟨_, Nat.mod_lt _ (by omega), rfl⟩
    obtain ⟨j, hj, h3⟩ := hc
    interval_cases j
    · exact ⟨_, .tail _ (.tail _ (.tail _ (.tail _ (.tail _ (.tail _ (.tail _ (.tail _ (.head _)))))))), mem_row s0_0 0 0 rfl rfl rfl rfl rfl rfl y (by omega) (by omega) h3⟩
    · exact ⟨_, .tail _ (.tail _ (.tail _ (.tail _ (.tail _ (.tail _ (.tail _ (.head _))))))), mem_row s0_1 0 1 rfl rfl rfl rfl rfl rfl y (by omega) (by omega) h3⟩
    · exact ⟨_, .tail _ (.tail _ (.tail _ (.tail _ (.tail _ (.tail _ (.head _)))))), mem_row s0_2 0 2 rfl rfl rfl rfl rfl rfl y (by omega) (by omega) h3⟩
    · exact ⟨_, .tail _ (.tail _ (.tail _ (.tail _ (.tail _ (.head _))))), mem_row s0_3 0 3 rfl rfl rfl rfl rfl rfl y (by omega) (by omega) h3⟩
    · exact ⟨_, .tail _ (.tail _ (.tail _ (.tail _ (.head _)))), mem_row s0_4 0 4 rfl rfl rfl rfl rfl rfl y (by omega) (by omega) h3⟩
    · exact ⟨_, .tail _ (.tail _ (.tail _ (.head _))), mem_row s0_5 0 5 rfl rfl rfl rfl rfl rfl y (by omega) (by omega) h3⟩
    · exact ⟨_, .tail _ (.tail _ (.head _)), mem_row s0_6 0 6 rfl rfl rfl rfl rfl rfl y (by omega) (by omega) h3⟩
    · exact ⟨_, .tail _ (.head _), mem_row s0_7 0 7 rfl rfl rfl rfl rfl rfl y (by omega) (by omega) h3⟩
  · exact ⟨_, .head _, mem_low y (by omega)⟩

theorem cover_two (p00 : Vec F S256x128 .f32) (p01 : Vec F S256x128 .f32) (p02 : Vec F S256x128 .f32) (p03 : Vec F S256x128 .f32) (p04 : Vec F S256x128 .f32) (p05 : Vec F S256x128 .f32) (p06 : Vec F S256x128 .f32) (p07 : Vec F S256x128 .f32) (p10 : Vec F S256x128 .f32) (p11 : Vec F S256x128 .f32) (p12 : Vec F S256x128 .f32) (p13 : Vec F S256x128 .f32) (p14 : Vec F S256x128 .f32) (p15 : Vec F S256x128 .f32) (p16 : Vec F S256x128 .f32) (p17 : Vec F S256x128 .f32) (y : S4096x128.Idx) :
    ∃ pc ∈ ([⟨s1_7, p17⟩, ⟨s1_6, p16⟩, ⟨s1_5, p15⟩, ⟨s1_4, p14⟩, ⟨s1_3, p13⟩, ⟨s1_2, p12⟩, ⟨s1_1, p11⟩, ⟨s1_0, p10⟩, ⟨s0_7, p07⟩, ⟨s0_6, p06⟩, ⟨s0_5, p05⟩, ⟨s0_4, p04⟩, ⟨s0_3, p03⟩, ⟨s0_2, p02⟩, ⟨s0_1, p01⟩, ⟨s0_0, p00⟩] : List (View.Piece (Elt F) S4096x128 .f32)), y ∈ pc.1.set := by
  have hy0 : (y 0).val < 4096 := (y 0).isLt
  by_cases h : (y 0).val < 2048
  · have hc : ∃ j, j < 8 ∧ ((y 0).val - 0) % 8 = j := ⟨_, Nat.mod_lt _ (by omega), rfl⟩
    obtain ⟨j, hj, h3⟩ := hc
    interval_cases j
    · exact ⟨_, .tail _ (.tail _ (.tail _ (.tail _ (.tail _ (.tail _ (.tail _ (.tail _ (.tail _ (.tail _ (.tail _ (.tail _ (.tail _ (.tail _ (.tail _ (.head _))))))))))))))), mem_row s0_0 0 0 rfl rfl rfl rfl rfl rfl y (by omega) (by omega) h3⟩
    · exact ⟨_, .tail _ (.tail _ (.tail _ (.tail _ (.tail _ (.tail _ (.tail _ (.tail _ (.tail _ (.tail _ (.tail _ (.tail _ (.tail _ (.tail _ (.head _)))))))))))))), mem_row s0_1 0 1 rfl rfl rfl rfl rfl rfl y (by omega) (by omega) h3⟩
    · exact ⟨_, .tail _ (.tail _ (.tail _ (.tail _ (.tail _ (.tail _ (.tail _ (.tail _ (.tail _ (.tail _ (.tail _ (.tail _ (.tail _ (.head _))))))))))))), mem_row s0_2 0 2 rfl rfl rfl rfl rfl rfl y (by omega) (by omega) h3⟩
    · exact ⟨_, .tail _ (.tail _ (.tail _ (.tail _ (.tail _ (.tail _ (.tail _ (.tail _ (.tail _ (.tail _ (.tail _ (.tail _ (.head _)))))))))))), mem_row s0_3 0 3 rfl rfl rfl rfl rfl rfl y (by omega) (by omega) h3⟩
    · exact ⟨_, .tail _ (.tail _ (.tail _ (.tail _ (.tail _ (.tail _ (.tail _ (.tail _ (.tail _ (.tail _ (.tail _ (.head _))))))))))), mem_row s0_4 0 4 rfl rfl rfl rfl rfl rfl y (by omega) (by omega) h3⟩
    · exact ⟨_, .tail _ (.tail _ (.tail _ (.tail _ (.tail _ (.tail _ (.tail _ (.tail _ (.tail _ (.tail _ (.head _)))))))))), mem_row s0_5 0 5 rfl rfl rfl rfl rfl rfl y (by omega) (by omega) h3⟩
    · exact ⟨_, .tail _ (.tail _ (.tail _ (.tail _ (.tail _ (.tail _ (.tail _ (.tail _ (.tail _ (.head _))))))))), mem_row s0_6 0 6 rfl rfl rfl rfl rfl rfl y (by omega) (by omega) h3⟩
    · exact ⟨_, .tail _ (.tail _ (.tail _ (.tail _ (.tail _ (.tail _ (.tail _ (.tail _ (.head _)))))))), mem_row s0_7 0 7 rfl rfl rfl rfl rfl rfl y (by omega) (by omega) h3⟩
  · have hc : ∃ j, j < 8 ∧ ((y 0).val - 2048) % 8 = j := ⟨_, Nat.mod_lt _ (by omega), rfl⟩
    obtain ⟨j, hj, h3⟩ := hc
    interval_cases j
    · exact ⟨_, .tail _ (.tail _ (.tail _ (.tail _ (.tail _ (.tail _ (.tail _ (.head _))))))), mem_row s1_0 2048 0 rfl rfl rfl rfl rfl rfl y (by omega) (by omega) h3⟩
    · exact ⟨_, .tail _ (.tail _ (.tail _ (.tail _ (.tail _ (.tail _ (.head _)))))), mem_row s1_1 2048 1 rfl rfl rfl rfl rfl rfl y (by omega) (by omega) h3⟩
    · exact ⟨_, .tail _ (.tail _ (.tail _ (.tail _ (.tail _ (.head _))))), mem_row s1_2 2048 2 rfl rfl rfl rfl rfl rfl y (by omega) (by omega) h3⟩
    · exact ⟨_, .tail _ (.tail _ (.tail _ (.tail _ (.head _)))), mem_row s1_3 2048 3 rfl rfl rfl rfl rfl rfl y (by omega) (by omega) h3⟩
    · exact ⟨_, .tail _ (.tail _ (.tail _ (.head _))), mem_row s1_4 2048 4 rfl rfl rfl rfl rfl rfl y (by omega) (by omega) h3⟩
    · exact ⟨_, .tail _ (.tail _ (.head _)), mem_row s1_5 2048 5 rfl rfl rfl rfl rfl rfl y (by omega) (by omega) h3⟩
    · exact ⟨_, .tail _ (.head _), mem_row s1_6 2048 6 rfl rfl rfl rfl rfl rfl y (by omega) (by omega) h3⟩
    · exact ⟨_, .head _, mem_row s1_7 2048 7 rfl rfl rfl rfl rfl rfl y (by omega) (by omega) h3⟩

/-! ## The runs -/

variable (c : Dev nD)

set_option maxHeartbeats 4000000 in
set_option sl_exec.squeezeSlice true in
theorem zero_wp (𝒱 : Variants) (bd0 : Option 𝒱.V) (E : Set ℕ) (i : grid0.Coords) (arg1 : Memref sig .tc .smem S159 .i32) (harg1 : arg1.IsWhole) (arg2 : Memref sig .tc .smem S159 .i32) (harg2 : arg2.IsWhole) (arg3 : Memref sig .tc .smem S159 .i32) (harg3 : arg3.IsWhole) (arg4 : Memref sig .tc .smem S159 .i32) (harg4 : arg4.IsWhole) (arg5 : Memref sig .tc .smem S159 .i32) (harg5 : arg5.IsWhole) (arg6 : Memref sig .tc .vmem S4096x128 .f32) (harg6 : arg6.IsWhole) (arg7 : Memref sig .tc .hbm S32x1024x2048 .f32) (harg7 : arg7.IsWhole) (arg8 : Memref sig .tc .vmem S1x1x2048 .f32) (harg8 : arg8.IsWhole) (arg9 : Memref sig .tc .hbm S32x1024x1024 .f32) (harg9 : arg9.IsWhole) (arg10 : Memref sig .tc .vmem S1x1x1024 .f32) (harg10 : arg10.IsWhole) (arg11 : Memref sig .tc .vmem S4096x128 .f32) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2) (x : Vec F S4096x128 .f32) (bu : Vec F S1x1x2048 .f32) (bd : Vec F S1x1x1024 .f32) (wU : Vec F S1024x2048 .bf16) (wD : Vec F S1024x1024 .bf16) (K : PUnit → sProp 𝕄) :
    iprop(owns (c : Thread nD τ) arg6 fullShare x ∗ owns (c : Thread nD τ) arg8 fullShare bu ∗ owns (c : Thread nD τ) arg10 fullShare bd ∗ owns (c : Thread nD τ) arg14 fullShare wU ∗ owns (c : Thread nD τ) arg15 fullShare wD ∗ (∃ d, owns (c : Thread nD τ) arg11 fullShare d)
      ∗ (iprop(owns (c : Thread nD τ) arg6 fullShare x ∗ owns (c : Thread nD τ) arg8 fullShare bu ∗ owns (c : Thread nD τ) arg10 fullShare bd ∗ owns (c : Thread nD τ) arg14 fullShare wU ∗ owns (c : Thread nD τ) arg15 fullShare wD ∗ owns (c : Thread nD τ) arg11 fullShare (out0)) -∗ K ⟨⟩))
    ⊢ wp frame (wpE (defs₀ (F := F)) 𝒱 (c : Thread nD τ) bd0) E (zeroProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) K := by
  unfold zeroProg
  unfold owns
  iintro ⟨⟨%f6, %hf6, H6⟩, ⟨%f8, %hf8, H8⟩, ⟨%f10, %hf10, H10⟩, ⟨%f14, %hf14, H14⟩, ⟨%f15, %hf15, H15⟩, ⟨%d11, %f11, -, H11⟩, Hk⟩
  subst hf6 hf8 hf10 hf14 hf15
  sl_exec
  sl_step
  iapply Hk
  isplitl [H6]
  · iexists f6; isplitr; · ipureintro; rfl
    iexact H6
  isplitl [H8]
  · iexists f8; isplitr; · ipureintro; rfl
    iexact H8
  isplitl [H10]
  · iexists f10; isplitr; · ipureintro; rfl
    iexact H10
  isplitl [H14]
  · iexists f14; isplitr; · ipureintro; rfl
    iexact H14
  isplitl [H15]
  · iexists f15; isplitr; · ipureintro; rfl
    iexact H15
  iexists _; isplitr
  swap; · iexact H11
  ipureintro
  refine (View.read_writes_eq_canon _ _ _ (cover_all _)).trans ?_
  rfl

set_option maxHeartbeats 4000000 in
set_option sl_exec.squeezeSlice true in
theorem one_wp (𝒱 : Variants) (bd0 : Option 𝒱.V) (E : Set ℕ) (i : grid0.Coords) (arg1 : Memref sig .tc .smem S159 .i32) (harg1 : arg1.IsWhole) (arg2 : Memref sig .tc .smem S159 .i32) (harg2 : arg2.IsWhole) (arg3 : Memref sig .tc .smem S159 .i32) (harg3 : arg3.IsWhole) (arg4 : Memref sig .tc .smem S159 .i32) (harg4 : arg4.IsWhole) (arg5 : Memref sig .tc .smem S159 .i32) (harg5 : arg5.IsWhole) (arg6 : Memref sig .tc .vmem S4096x128 .f32) (harg6 : arg6.IsWhole) (arg7 : Memref sig .tc .hbm S32x1024x2048 .f32) (harg7 : arg7.IsWhole) (arg8 : Memref sig .tc .vmem S1x1x2048 .f32) (harg8 : arg8.IsWhole) (arg9 : Memref sig .tc .hbm S32x1024x1024 .f32) (harg9 : arg9.IsWhole) (arg10 : Memref sig .tc .vmem S1x1x1024 .f32) (harg10 : arg10.IsWhole) (arg11 : Memref sig .tc .vmem S4096x128 .f32) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2) (x : Vec F S4096x128 .f32) (bu : Vec F S1x1x2048 .f32) (bd : Vec F S1x1x1024 .f32) (wU : Vec F S1024x2048 .bf16) (wD : Vec F S1024x1024 .bf16) (K : PUnit → sProp 𝕄) :
    iprop(owns (c : Thread nD τ) arg6 fullShare x ∗ owns (c : Thread nD τ) arg8 fullShare bu ∗ owns (c : Thread nD τ) arg10 fullShare bd ∗ owns (c : Thread nD τ) arg14 fullShare wU ∗ owns (c : Thread nD τ) arg15 fullShare wD ∗ (∃ d, owns (c : Thread nD τ) arg11 fullShare d)
      ∗ (iprop(owns (c : Thread nD τ) arg6 fullShare x ∗ owns (c : Thread nD τ) arg8 fullShare bu ∗ owns (c : Thread nD τ) arg10 fullShare bd ∗ owns (c : Thread nD τ) arg14 fullShare wU ∗ owns (c : Thread nD τ) arg15 fullShare wD ∗ owns (c : Thread nD τ) arg11 fullShare (out1 x bu bd wU wD)) -∗ K ⟨⟩))
    ⊢ wp frame (wpE (defs₀ (F := F)) 𝒱 (c : Thread nD τ) bd0) E (oneProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) K := by
  unfold oneProg k0_part2_skel k0_part3_skel
  unfold owns
  iintro ⟨⟨%f6, %hf6, H6⟩, ⟨%f8, %hf8, H8⟩, ⟨%f10, %hf10, H10⟩, ⟨%f14, %hf14, H14⟩, ⟨%f15, %hf15, H15⟩, ⟨%d11, %f11, -, H11⟩, Hk⟩
  subst hf6 hf8 hf10 hf14 hf15
  sl_exec
  sl_step
  iapply Hk
  isplitl [H6]
  · iexists f6; isplitr; · ipureintro; rfl
    iexact H6
  isplitl [H8]
  · iexists f8; isplitr; · ipureintro; rfl
    iexact H8
  isplitl [H10]
  · iexists f10; isplitr; · ipureintro; rfl
    iexact H10
  isplitl [H14]
  · iexists f14; isplitr; · ipureintro; rfl
    iexact H14
  isplitl [H15]
  · iexists f15; isplitr; · ipureintro; rfl
    iexact H15
  iexists _; isplitr
  swap; · iexact H11
  ipureintro
  refine (View.read_writes_eq_canon _ _ _ (cover_one _ _ _ _ _ _ _ _ _)).trans ?_
  rfl

set_option maxHeartbeats 4000000 in
set_option sl_exec.squeezeSlice true in
theorem two_wp (𝒱 : Variants) (bd0 : Option 𝒱.V) (E : Set ℕ) (i : grid0.Coords) (arg1 : Memref sig .tc .smem S159 .i32) (harg1 : arg1.IsWhole) (arg2 : Memref sig .tc .smem S159 .i32) (harg2 : arg2.IsWhole) (arg3 : Memref sig .tc .smem S159 .i32) (harg3 : arg3.IsWhole) (arg4 : Memref sig .tc .smem S159 .i32) (harg4 : arg4.IsWhole) (arg5 : Memref sig .tc .smem S159 .i32) (harg5 : arg5.IsWhole) (arg6 : Memref sig .tc .vmem S4096x128 .f32) (harg6 : arg6.IsWhole) (arg7 : Memref sig .tc .hbm S32x1024x2048 .f32) (harg7 : arg7.IsWhole) (arg8 : Memref sig .tc .vmem S1x1x2048 .f32) (harg8 : arg8.IsWhole) (arg9 : Memref sig .tc .hbm S32x1024x1024 .f32) (harg9 : arg9.IsWhole) (arg10 : Memref sig .tc .vmem S1x1x1024 .f32) (harg10 : arg10.IsWhole) (arg11 : Memref sig .tc .vmem S4096x128 .f32) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2) (x : Vec F S4096x128 .f32) (bu : Vec F S1x1x2048 .f32) (bd : Vec F S1x1x1024 .f32) (wU : Vec F S1024x2048 .bf16) (wD : Vec F S1024x1024 .bf16) (K : PUnit → sProp 𝕄) :
    iprop(owns (c : Thread nD τ) arg6 fullShare x ∗ owns (c : Thread nD τ) arg8 fullShare bu ∗ owns (c : Thread nD τ) arg10 fullShare bd ∗ owns (c : Thread nD τ) arg14 fullShare wU ∗ owns (c : Thread nD τ) arg15 fullShare wD ∗ (∃ d, owns (c : Thread nD τ) arg11 fullShare d)
      ∗ (iprop(owns (c : Thread nD τ) arg6 fullShare x ∗ owns (c : Thread nD τ) arg8 fullShare bu ∗ owns (c : Thread nD τ) arg10 fullShare bd ∗ owns (c : Thread nD τ) arg14 fullShare wU ∗ owns (c : Thread nD τ) arg15 fullShare wD ∗ owns (c : Thread nD τ) arg11 fullShare (out2 x bu bd wU wD)) -∗ K ⟨⟩))
    ⊢ wp frame (wpE (defs₀ (F := F)) 𝒱 (c : Thread nD τ) bd0) E (twoProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) K := by
  unfold twoProg k0_part4_skel k0_part5_skel k0_part6_skel k0_part7_skel k0_part8_skel
  unfold owns
  iintro ⟨⟨%f6, %hf6, H6⟩, ⟨%f8, %hf8, H8⟩, ⟨%f10, %hf10, H10⟩, ⟨%f14, %hf14, H14⟩, ⟨%f15, %hf15, H15⟩, ⟨%d11, %f11, -, H11⟩, Hk⟩
  subst hf6 hf8 hf10 hf14 hf15
  sl_exec
  sl_step
  iapply Hk
  isplitl [H6]
  · iexists f6; isplitr; · ipureintro; rfl
    iexact H6
  isplitl [H8]
  · iexists f8; isplitr; · ipureintro; rfl
    iexact H8
  isplitl [H10]
  · iexists f10; isplitr; · ipureintro; rfl
    iexact H10
  isplitl [H14]
  · iexists f14; isplitr; · ipureintro; rfl
    iexact H14
  isplitl [H15]
  · iexists f15; isplitr; · ipureintro; rfl
    iexact H15
  iexists _; isplitr
  swap; · iexact H11
  ipureintro
  refine (View.read_writes_eq_canon _ _ _ (cover_two _ _ _ _ _ _ _ _ _ _ _ _ _ _ _ _)).trans ?_
  rfl

end Cert.ExpertsIdeal.Hand
-- ==== Proof.BodyExpertsIdeal.lean ====
/- The experts' grid point: the switch and the compute together, and what passes from one point to the next. -/
module

public import proofs.«01_k».proof.Proof.ComputeExpertsIdeal
public import proofs.«01_k».proof.Proof.Gen.ExpertsIdeal.Skeleton
public import Idealize.ShloMosaic.Lib.Pipeline.FrameBody
public import Idealize.ShloMosaic.Lib.Claim
public import Idealize.ShloMosaic.Lib.Ring
public import Idealize.ShloMosaic.Lib.Tactic
public import Mathlib.Tactic.IntervalCases

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The grid point after the first copy: the switch under its test, then the compute. -/
def tailProg (i : grid0.Coords) (arg1 : Memref sig .tc .smem S159 .i32) (harg1 : arg1.IsWhole) (arg2 : Memref sig .tc .smem S159 .i32) (harg2 : arg2.IsWhole) (arg3 : Memref sig .tc .smem S159 .i32) (harg3 : arg3.IsWhole) (arg4 : Memref sig .tc .smem S159 .i32) (harg4 : arg4.IsWhole) (arg5 : Memref sig .tc .smem S159 .i32) (harg5 : arg5.IsWhole) (arg6 : Memref sig .tc .vmem S4096x128 .f32) (harg6 : arg6.IsWhole) (arg7 : Memref sig .tc .hbm S32x1024x2048 .f32) (harg7 : arg7.IsWhole) (arg8 : Memref sig .tc .vmem S1x1x2048 .f32) (harg8 : arg8.IsWhole) (arg9 : Memref sig .tc .hbm S32x1024x1024 .f32) (harg9 : arg9.IsWhole) (arg10 : Memref sig .tc .vmem S1x1x1024 .f32) (harg10 : arg10.IsWhole) (arg11 : Memref sig .tc .vmem S4096x128 .f32) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2) :
    Prog (TpuEff nD τ sig (Elt F) Λ₀ .tc) PUnit := do
  let v4 : Elt F .i32 ← smemLoad arg3 (Rect.unit (s := S159) (k0_off1 i) S1.size (k0_off1_inb i)) numel1_S1 rfl
  if k0_h2 : k0_cond2 v4 = 1#1 then do
    let v57 : FVec F S1024x1024 .bf16 ← k0_part1_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (BitVec.ofNat 32 (i 0).val) v4 k0_h2
    Prog.lift (.store arg15 (Rect.unit (s := S1024x1024) ![0, 0] S1024x1024.size inb_S1024x1024_S1024x1024_0_0) v57 Finset.univ (View.stores_vmem h_S1024x1024 (harg15.storeExact_slice rfl _ packedbf16_S1024x1024_S1024x1024_0_0) (fun _ => rfl)) (.inl rfl))
    pure ⟨⟩
  else do
    pure ⟨⟩
  compProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16

variable (c : Dev nD)

/-- The output window for each count of live halves. -/
def outOf (lv : BitVec 32) (x : Vec F S4096x128 .f32) (bu : Vec F S1x1x2048 .f32) (bd : Vec F S1x1x1024 .f32) (wU : Vec F S1024x2048 .bf16) (wD : Vec F S1024x1024 .bf16) : Vec F S4096x128 .f32 :=
  if lv = 0#32 then out0 else if lv = 1#32 then out1 x bu bd wU wD else out2 x bu bd wU wD

/-- What the tables say, as the copies need it: experts and slots in range, at most two live halves, a run's blocks agree,
    and a new run is the one the run before it announced. -/
structure TabOk (w0 : BufAt (F := F) c tBe) (w1 : BufAt (F := F) c tLive) (w2 : BufAt (F := F) c tFirst) (w3 : BufAt (F := F) c tNext) (w4 : BufAt (F := F) c tSlot) : Prop where
  be_lt : ∀ i, (word c tBe w0 i).toNat < 32
  slot_lt : ∀ i, (word c tSlot w4 i).toNat < 2
  live : ∀ i, word c tLive w1 i = 0#32 ∨ word c tLive w1 i = 1#32 ∨ word c tLive w1 i = 2#32
  next_lt : ∀ i, k0_cond3 (word c tNext w3 i) = 1#1 → (word c tNext w3 i).toNat < 32
  start : ∀ i : grid0.Coords, (i 0).val = 0 → k0_cond2 (word c tFirst w2 i) = 1#1 ∧ word c tSlot w4 i = 0#32
  stay : ∀ i j : grid0.Coords, (j 0).val = (i 0).val + 1 → k0_cond2 (word c tFirst w2 j) ≠ 1#1 →
    word c tBe w0 j = word c tBe w0 i ∧ word c tNext w3 j = word c tNext w3 i ∧ word c tSlot w4 j = word c tSlot w4 i
  move : ∀ i j : grid0.Coords, (j 0).val = (i 0).val + 1 → k0_cond2 (word c tFirst w2 j) = 1#1 →
    k0_cond3 (word c tNext w3 i) = 1#1 ∧ word c tBe w0 j = word c tNext w3 i ∧ word c tSlot w4 j = oth (word c tSlot w4 i)
  last : ∀ i : grid0.Coords, (i 0).val = 158 → k0_cond3 (word c tNext w3 i) ≠ 1#1

/-- What is in flight after a point whose run announces expert `nx` and sits in slot `s`. -/
def Held (gU : BufAt (F := F) c mU) (gD : BufAt (F := F) c mD) (nx s : BitVec 32) : sProp 𝕄 :=
  if h : k0_cond3 nx = 1#1 ∧ nx.toNat < 32 ∧ s.toNat < 2 then Flight c gU gD nx (oth s) h.2.1 (oth_lt h.2.2) else Home c gU gD

/-- What one point hands to the next. -/
def After {w0 : BufAt (F := F) c tBe} {w1 : BufAt (F := F) c tLive} {w2 : BufAt (F := F) c tFirst} {w3 : BufAt (F := F) c tNext} {w4 : BufAt (F := F) c tSlot} (ok : TabOk c w0 w1 w2 w3 w4) (gU : BufAt (F := F) c mU) (gD : BufAt (F := F) c mD) (i : grid0.Coords) : sProp 𝕄 :=
  iprop(Held c gU gD (word c tNext w3 i) (word c tSlot w4 i)
    ∗ owns (c : Thread nD τ) bfU fullShare (bfOfU c gU (word c tBe w0 i) (ok.be_lt i)) ∗ owns (c : Thread nD τ) bfD fullShare (bfOfD c gD (word c tBe w0 i) (ok.be_lt i)))

/-- What the first point starts from. -/
def Start (gU : BufAt (F := F) c mU) (gD : BufAt (F := F) c mD) : sProp 𝕄 :=
  iprop(Home c gU gD ∗ (∃ f, bfU.view.loc (c : Thread nD τ) ↦{fullShare} f) ∗ (∃ f, bfD.view.loc (c : Thread nD τ) ↦{fullShare} f))

set_option maxHeartbeats 4000000 in
theorem comp_wp (𝒱 : Variants) (bd0 : Option 𝒱.V) (w0 : BufAt (F := F) c tBe) (w1 : BufAt (F := F) c tLive) (w2 : BufAt (F := F) c tFirst) (w3 : BufAt (F := F) c tNext) (w4 : BufAt (F := F) c tSlot) (i : grid0.Coords) (harg1 : tBe.IsWhole) (harg2 : tLive.IsWhole) (harg3 : tFirst.IsWhole) (harg4 : tNext.IsWhole) (harg5 : tSlot.IsWhole) (arg6 : Memref sig .tc .vmem S4096x128 .f32) (harg6 : arg6.IsWhole) (harg7 : mU.IsWhole) (arg8 : Memref sig .tc .vmem S1x1x2048 .f32) (harg8 : arg8.IsWhole) (harg9 : mD.IsWhole) (arg10 : Memref sig .tc .vmem S1x1x1024 .f32) (harg10 : arg10.IsWhole) (arg11 : Memref sig .tc .vmem S4096x128 .f32) (harg11 : arg11.IsWhole) (harg12 : scU.IsWhole) (harg13 : scD.IsWhole) (harg14 : bfU.IsWhole) (harg15 : bfD.IsWhole) (x : Vec F S4096x128 .f32) (bu : Vec F S1x1x2048 .f32) (bd : Vec F S1x1x1024 .f32) (wU : Vec F S1024x2048 .bf16) (wD : Vec F S1024x1024 .bf16)
    (lv : BitVec 32) (hlv : lv = word c tLive w1 i) (hl : lv = 0#32 ∨ lv = 1#32 ∨ lv = 2#32) (K : PUnit → sProp 𝕄) :
    iprop(Tabs c w0 w1 w2 w3 w4 ∗ (owns (c : Thread nD τ) arg6 fullShare x ∗ owns (c : Thread nD τ) arg8 fullShare bu ∗ owns (c : Thread nD τ) arg10 fullShare bd ∗ owns (c : Thread nD τ) bfU fullShare wU ∗ owns (c : Thread nD τ) bfD fullShare wD) ∗ (∃ d, owns (c : Thread nD τ) arg11 fullShare d)
      ∗ ((Tabs c w0 w1 w2 w3 w4 ∗ (owns (c : Thread nD τ) arg6 fullShare x ∗ owns (c : Thread nD τ) arg8 fullShare bu ∗ owns (c : Thread nD τ) arg10 fullShare bd ∗ owns (c : Thread nD τ) bfU fullShare wU ∗ owns (c : Thread nD τ) bfD fullShare wD) ∗ owns (c : Thread nD τ) arg11 fullShare (outOf lv x bu bd wU wD)) -∗ K ⟨⟩))
    ⊢ wp frame (wpE (defs₀ (F := F)) 𝒱 (c : Thread nD τ) bd0) Set.univ (compProg i tBe harg1 tLive harg2 tFirst harg3 tNext harg4 tSlot harg5 arg6 harg6 mU harg7 arg8 harg8 mD harg9 arg10 harg10 arg11 harg11 scU harg12 scD harg13 bfU harg14 bfD harg15 cc0_scratch4) K := by
  unfold compProg
  simp only [smemLoad, Prog.lift, Prog.bind_op, Prog.bind_ret, Prog.pure_eq_ret, smemLoadElt_bind]
  iintro ⟨HT, ⟨H6, H8, H10, H14, H15⟩, H11, Hk⟩
  unfold Tabs
  icases HT with ⟨T0, T1, T2, T3, T4⟩
  rcases hl with rfl | rfl | rfl
  · named_smem T1 (0#32) hlv
    rw [dif_pos (by decide : k0_cond4 0#32 = 1#1), wp_bind]
    iapply (zero_wp c 𝒱 bd0 Set.univ i tBe harg1 tLive harg2 tFirst harg3 tNext harg4 tSlot harg5 arg6 harg6 mU harg7 arg8 harg8 mD harg9 arg10 harg10 arg11 harg11 scU harg12 scD harg13 bfU harg14 bfD harg15 cc0_scratch4 x bu bd wU wD _)
    isplitl [H6]; · iexact H6
    isplitl [H8]; · iexact H8
    isplitl [H10]; · iexact H10
    isplitl [H14]; · iexact H14
    isplitl [H15]; · iexact H15
    isplitl [H11]; · iexact H11
    iintro ⟨H6, H8, H10, H14, H15, H11⟩
    simp only [Prog.bind_op, Prog.bind_ret, Prog.pure_eq_ret, smemLoadElt_bind]
    named_smem T1 (0#32) hlv
    rw [dif_neg (by decide : ¬ k0_cond5 0#32 = 1#1)]
    simp only [Prog.bind_op, Prog.bind_ret, Prog.pure_eq_ret, smemLoadElt_bind]
    named_smem T1 (0#32) hlv
    rw [dif_neg (by decide : ¬ k0_cond6 0#32 = 1#1)]
    simp only [Prog.bind_op, Prog.bind_ret, Prog.pure_eq_ret, smemLoadElt_bind]
    rw [wp_ret]
    imodintro
    iapply Hk
    isplitl [T0 T1 T2 T3 T4]
    · isplitl [T0]; · iexact T0
      isplitl [T1]; · iexact T1
      isplitl [T2]; · iexact T2
      isplitl [T3]; · iexact T3
      iexact T4
    isplitl [H6 H8 H10 H14 H15]
    · isplitl [H6]; · iexact H6
      isplitl [H8]; · iexact H8
      isplitl [H10]; · iexact H10
      isplitl [H14]; · iexact H14
      iexact H15
    iexact H11
  · named_smem T1 (1#32) hlv
    rw [dif_neg (by decide : ¬ k0_cond4 1#32 = 1#1)]
    simp only [Prog.bind_op, Prog.bind_ret, Prog.pure_eq_ret, smemLoadElt_bind]
    named_smem T1 (1#32) hlv
    rw [dif_pos (by decide : k0_cond5 1#32 = 1#1), wp_bind]
    iapply (one_wp c 𝒱 bd0 Set.univ i tBe harg1 tLive harg2 tFirst harg3 tNext harg4 tSlot harg5 arg6 harg6 mU harg7 arg8 harg8 mD harg9 arg10 harg10 arg11 harg11 scU harg12 scD harg13 bfU harg14 bfD harg15 cc0_scratch4 x bu bd wU wD _)
    isplitl [H6]; · iexact H6
    isplitl [H8]; · iexact H8
    isplitl [H10]; · iexact H10
    isplitl [H14]; · iexact H14
    isplitl [H15]; · iexact H15
    isplitl [H11]; · iexact H11
    iintro ⟨H6, H8, H10, H14, H15, H11⟩
    simp only [Prog.bind_op, Prog.bind_ret, Prog.pure_eq_ret, smemLoadElt_bind]
    named_smem T1 (1#32) hlv
    rw [dif_neg (by decide : ¬ k0_cond6 1#32 = 1#1)]
    simp only [Prog.bind_op, Prog.bind_ret, Prog.pure_eq_ret, smemLoadElt_bind]
    rw [wp_ret]
    imodintro
    iapply Hk
    isplitl [T0 T1 T2 T3 T4]
    · isplitl [T0]; · iexact T0
      isplitl [T1]; · iexact T1
      isplitl [T2]; · iexact T2
      isplitl [T3]; · iexact T3
      iexact T4
    isplitl [H6 H8 H10 H14 H15]
    · isplitl [H6]; · iexact H6
      isplitl [H8]; · iexact H8
      isplitl [H10]; · iexact H10
      isplitl [H14]; · iexact H14
      iexact H15
    iexact H11
  · named_smem T1 (2#32) hlv
    rw [dif_neg (by decide : ¬ k0_cond4 2#32 = 1#1)]
    simp only [Prog.bind_op, Prog.bind_ret, Prog.pure_eq_ret, smemLoadElt_bind]
    named_smem T1 (2#32) hlv
    rw [dif_neg (by decide : ¬ k0_cond5 2#32 = 1#1)]
    simp only [Prog.bind_op, Prog.bind_ret, Prog.pure_eq_ret, smemLoadElt_bind]
    named_smem T1 (2#32) hlv
    rw [dif_pos (by decide : k0_cond6 2#32 = 1#1), wp_bind]
    iapply (two_wp c 𝒱 bd0 Set.univ i tBe harg1 tLive harg2 tFirst harg3 tNext harg4 tSlot harg5 arg6 harg6 mU harg7 arg8 harg8 mD harg9 arg10 harg10 arg11 harg11 scU harg12 scD harg13 bfU harg14 bfD harg15 cc0_scratch4 x bu bd wU wD _)
    isplitl [H6]; · iexact H6
    isplitl [H8]; · iexact H8
    isplitl [H10]; · iexact H10
    isplitl [H14]; · iexact H14
    isplitl [H15]; · iexact H15
    isplitl [H11]; · iexact H11
    iintro ⟨H6, H8, H10, H14, H15, H11⟩
    simp only [Prog.bind_op, Prog.bind_ret, Prog.pure_eq_ret, smemLoadElt_bind]
    rw [wp_ret]
    imodintro
    iapply Hk
    isplitl [T0 T1 T2 T3 T4]
    · isplitl [T0]; · iexact T0
      isplitl [T1]; · iexact T1
      isplitl [T2]; · iexact T2
      isplitl [T3]; · iexact T3
      iexact T4
    isplitl [H6 H8 H10 H14 H15]
    · isplitl [H6]; · iexact H6
      isplitl [H8]; · iexact H8
      isplitl [H10]; · iexact H10
      isplitl [H14]; · iexact H14
      iexact H15
    iexact H11

theorem tabs_open (w0 : BufAt (F := F) c tBe) (w1 : BufAt (F := F) c tLive) (w2 : BufAt (F := F) c tFirst) (w3 : BufAt (F := F) c tNext) (w4 : BufAt (F := F) c tSlot) :
    Tabs c w0 w1 w2 w3 w4 ⊢ iprop((tBe.view.loc (c : Thread nD τ) ↦{fullShare.right} w0) ∗ (tLive.view.loc (c : Thread nD τ) ↦{fullShare.right} w1) ∗ (tFirst.view.loc (c : Thread nD τ) ↦{fullShare.right} w2)
      ∗ (tNext.view.loc (c : Thread nD τ) ↦{fullShare.right} w3) ∗ (tSlot.view.loc (c : Thread nD τ) ↦{fullShare.right} w4) : sProp 𝕄) := .rfl

theorem held_of (gU : BufAt (F := F) c mU) (gD : BufAt (F := F) c mD) (nx s : BitVec 32) (hn : k0_cond3 nx = 1#1 → nx.toNat < 32) (hs : s.toNat < 2) :
    (if h : k0_cond3 nx = 1#1 then Flight c gU gD nx (oth s) (hn h) (oth_lt hs) else Home c gU gD) ⊢ Held c gU gD nx s := by
  unfold Held
  by_cases h3 : k0_cond3 nx = 1#1
  · rw [dif_pos h3, dif_pos ⟨h3, hn h3, hs⟩]
  · rw [dif_neg h3, dif_neg (fun h => h3 h.1)]

theorem bfU_congr (gU : BufAt (F := F) c mU) {e e' : BitVec 32} (h : e = e') (he : e.toNat < 32) (he' : e'.toNat < 32) : bfOfU c gU e he = bfOfU c gU e' he' := by
  subst h; rfl
theorem bfD_congr (gD : BufAt (F := F) c mD) {e e' : BitVec 32} (h : e = e') (he : e.toNat < 32) (he' : e'.toNat < 32) : bfOfD c gD e he = bfOfD c gD e' he' := by
  subst h; rfl

theorem someU (X : Vec F S1024x2048 .bf16) : owns (c : Thread nD τ) bfU fullShare X ⊢ (iprop(∃ f, bfU.view.loc (c : Thread nD τ) ↦{fullShare} f) : sProp 𝕄) := by
  unfold owns
  iintro ⟨%f, -, H⟩
  iexists f
  rw [View.set_whole]
  iexact H
theorem someD (X : Vec F S1024x1024 .bf16) : owns (c : Thread nD τ) bfD fullShare X ⊢ (iprop(∃ f, bfD.view.loc (c : Thread nD τ) ↦{fullShare} f) : sProp 𝕄) := by
  unfold owns
  iintro ⟨%f, -, H⟩
  iexists f
  rw [View.set_whole]
  iexact H

/-- The switch, then a continuation. -/
theorem switch_then (𝒱 : Variants) (bd0 : Option 𝒱.V) (w0 : BufAt (F := F) c tBe) (w1 : BufAt (F := F) c tLive) (w2 : BufAt (F := F) c tFirst) (w3 : BufAt (F := F) c tNext) (w4 : BufAt (F := F) c tSlot) (i : grid0.Coords) (gU : BufAt (F := F) c mU) (gD : BufAt (F := F) c mD)
    (e s nx v4 : BitVec 32) (hv : k0_cond2 v4 = 1#1) (he : e.toNat < 32) (hs : s.toNat < 2) (hn : k0_cond3 nx = 1#1 → nx.toNat < 32)
    (hwe : e = word c tBe w0 i) (hwn : nx = word c tNext w3 i) (hws : s = word c tSlot w4 i) (arg0 : BitVec 32) (harg1 : tBe.IsWhole) (harg2 : tLive.IsWhole) (harg3 : tFirst.IsWhole) (harg4 : tNext.IsWhole) (harg5 : tSlot.IsWhole) (arg6 : Memref sig .tc .vmem S4096x128 .f32) (harg6 : arg6.IsWhole) (harg7 : mU.IsWhole) (arg8 : Memref sig .tc .vmem S1x1x2048 .f32) (harg8 : arg8.IsWhole) (harg9 : mD.IsWhole) (arg10 : Memref sig .tc .vmem S1x1x1024 .f32) (harg10 : arg10.IsWhole) (arg11 : Memref sig .tc .vmem S4096x128 .f32) (harg11 : arg11.IsWhole) (harg12 : scU.IsWhole) (harg13 : scD.IsWhole) (harg14 : bfU.IsWhole) (harg15 : bfD.IsWhole) (hst) (hm)
    (r : Prog (TpuEff nD τ sig (Elt F) Λ₀ .tc) PUnit) (K : PUnit → sProp 𝕄) :
    iprop((Flight c gU gD e s he hs ∗ Tabs c w0 w1 w2 w3 w4 ∗ (∃ f, bfU.view.loc (c : Thread nD τ) ↦{fullShare} f) ∗ (∃ f, bfD.view.loc (c : Thread nD τ) ↦{fullShare} f) ∗ (∃ W, owes (c : Thread nD τ) 0 W))
      ∗ (((if h : k0_cond3 nx = 1#1 then Flight c gU gD nx (oth s) (hn h) (oth_lt hs) else Home c gU gD) ∗ Tabs c w0 w1 w2 w3 w4
          ∗ owns (c : Thread nD τ) bfU fullShare (bfOfU c gU e he) ∗ owns (c : Thread nD τ) bfD fullShare (bfOfD c gD e he) ∗ (∃ W, owes (c : Thread nD τ) 0 W))
        -∗ wp frame (wpE (defs₀ (F := F)) 𝒱 (c : Thread nD τ) bd0) Set.univ r K))
    ⊢ wp frame (wpE (defs₀ (F := F)) 𝒱 (c : Thread nD τ) bd0) Set.univ
        (k0_part1_skel (F := F) i tBe harg1 tLive harg2 tFirst harg3 tNext harg4 tSlot harg5 arg6 harg6 mU harg7 arg8 harg8 mD harg9 arg10 harg10 arg11 harg11 scU harg12 scD harg13 bfU harg14 bfD harg15 cc0_scratch4 arg0 v4 hv >>= fun v57 =>
          Prog.op (TpuEff.store bfD (Rect.unit (s := S1024x1024) ![0, 0] S1024x1024.size inb_S1024x1024_S1024x1024_0_0) v57 Finset.univ hst hm) fun _ => r) K := by
  show _ ⊢ wp frame (wpE (defs₀ (F := F)) 𝒱 (c : Thread nD τ) bd0) Set.univ
        (k0_part1_skel (F := F) i tBe harg1 tLive harg2 tFirst harg3 tNext harg4 tSlot harg5 arg6 harg6 mU harg7 arg8 harg8 mD harg9 arg10 harg10 arg11 harg11 scU harg12 scD harg13 bfU harg14 bfD harg15 cc0_scratch4 arg0 v4 hv >>= fun v57 =>
          (Prog.lift (TpuEff.store bfD (Rect.unit (s := S1024x1024) ![0, 0] S1024x1024.size inb_S1024x1024_S1024x1024_0_0) v57 Finset.univ hst hm) >>= fun _ => r)) K
  rw [← Prog.bind_assoc, wp_bind]
  iintro ⟨HP, Hk⟩
  iapply (wp_wand_r frame (wpE (defs₀ (F := F)) 𝒱 (c : Thread nD τ) bd0) Set.univ)
  isplitl [HP]
  · iapply (switch_wp c 𝒱 bd0 w0 w1 w2 w3 w4 i gU gD e s nx v4 hv he hs hn hwe hwn hws arg0 arg6 harg6 arg8 harg8 arg10 harg10 arg11 harg11 harg1 harg2 harg3 harg4 harg5 harg7 harg9 harg12 harg13 harg14 harg15 hst hm)
    iexact HP
  iintro %_ HQ
  iapply Hk
  iexact HQ

/-- A grid point that switches: expert `e`'s copies are in flight into its slot, and it runs to what it hands on. -/
theorem run_wp (𝒱 : Variants) (bd0 : Option 𝒱.V) {w0 : BufAt (F := F) c tBe} {w1 : BufAt (F := F) c tLive} {w2 : BufAt (F := F) c tFirst} {w3 : BufAt (F := F) c tNext} {w4 : BufAt (F := F) c tSlot} (ok : TabOk c w0 w1 w2 w3 w4) (gU : BufAt (F := F) c mU) (gD : BufAt (F := F) c mD) (i : grid0.Coords) (harg1 : tBe.IsWhole) (harg2 : tLive.IsWhole) (harg3 : tFirst.IsWhole) (harg4 : tNext.IsWhole) (harg5 : tSlot.IsWhole) (arg6 : Memref sig .tc .vmem S4096x128 .f32) (harg6 : arg6.IsWhole) (harg7 : mU.IsWhole) (arg8 : Memref sig .tc .vmem S1x1x2048 .f32) (harg8 : arg8.IsWhole) (harg9 : mD.IsWhole) (arg10 : Memref sig .tc .vmem S1x1x1024 .f32) (harg10 : arg10.IsWhole) (arg11 : Memref sig .tc .vmem S4096x128 .f32) (harg11 : arg11.IsWhole) (harg12 : scU.IsWhole) (harg13 : scD.IsWhole) (harg14 : bfU.IsWhole) (harg15 : bfD.IsWhole) (x : Vec F S4096x128 .f32) (bu : Vec F S1x1x2048 .f32) (bd : Vec F S1x1x1024 .f32)
    (hf : k0_cond2 (word c tFirst w2 i) = 1#1) (K : PUnit → sProp 𝕄) :
    iprop(Flight c gU gD (word c tBe w0 i) (word c tSlot w4 i) (ok.be_lt i) (ok.slot_lt i) ∗ (∃ f, bfU.view.loc (c : Thread nD τ) ↦{fullShare} f) ∗ (∃ f, bfD.view.loc (c : Thread nD τ) ↦{fullShare} f)
      ∗ Tabs c w0 w1 w2 w3 w4 ∗ (∃ W, owes (c : Thread nD τ) 0 W) ∗ (owns (c : Thread nD τ) arg6 fullShare x ∗ owns (c : Thread nD τ) arg8 fullShare bu ∗ owns (c : Thread nD τ) arg10 fullShare bd) ∗ (∃ d, owns (c : Thread nD τ) arg11 fullShare d)
      ∗ (iprop(After c ok gU gD i ∗ Tabs c w0 w1 w2 w3 w4 ∗ (∃ W, owes (c : Thread nD τ) 0 W) ∗ (owns (c : Thread nD τ) arg6 fullShare x ∗ owns (c : Thread nD τ) arg8 fullShare bu ∗ owns (c : Thread nD τ) arg10 fullShare bd) ∗ owns (c : Thread nD τ) arg11 fullShare (outOf (word c tLive w1 i) x bu bd (bfOfU c gU (word c tBe w0 i) (ok.be_lt i)) (bfOfD c gD (word c tBe w0 i) (ok.be_lt i)))) -∗ K ⟨⟩))
    ⊢ wp frame (wpE (defs₀ (F := F)) 𝒱 (c : Thread nD τ) bd0) Set.univ (tailProg i tBe harg1 tLive harg2 tFirst harg3 tNext harg4 tSlot harg5 arg6 harg6 mU harg7 arg8 harg8 mD harg9 arg10 harg10 arg11 harg11 scU harg12 scD harg13 bfU harg14 bfD harg15 cc0_scratch4) K := by
  unfold tailProg
  simp only [smemLoad, Prog.lift, Prog.bind_op, Prog.bind_ret, Prog.pure_eq_ret, smemLoadElt_bind]
  iintro ⟨HFl, B14, B15, HT, HO, ⟨H6, H8, H10⟩, H11, Hk⟩
  ihave HT := (tabs_open c w0 w1 w2 w3 w4) $$ HT
  icases HT with ⟨T0, T1, T2, T3, T4⟩
  named_smem T2 (word c tFirst w2 i) rfl
  rw [dif_pos hf]
  iapply (switch_then c 𝒱 bd0 w0 w1 w2 w3 w4 i gU gD (word c tBe w0 i) (word c tSlot w4 i) (word c tNext w3 i) _ hf (ok.be_lt i) (ok.slot_lt i) (ok.next_lt i) rfl rfl rfl _ harg1 harg2 harg3 harg4 harg5 arg6 harg6 harg7 arg8 harg8 harg9 arg10 harg10 arg11 harg11 harg12 harg13 harg14 harg15)
  isplitl [HFl B14 B15 T0 T1 T2 T3 T4 HO]
  · isplitl [HFl]; · iexact HFl
    isplitl [T0 T1 T2 T3 T4]
    · unfold Tabs
      isplitl [T0]; · iexact T0
      isplitl [T1]; · iexact T1
      isplitl [T2]; · iexact T2
      isplitl [T3]; · iexact T3
      iexact T4
    isplitl [B14]; · iexact B14
    isplitl [B15]; · iexact B15
    iexact HO
  iintro ⟨HF, HT, H14, H15, HO⟩
  iapply (comp_wp c 𝒱 bd0 w0 w1 w2 w3 w4 i harg1 harg2 harg3 harg4 harg5 arg6 harg6 harg7 arg8 harg8 harg9 arg10 harg10 arg11 harg11 harg12 harg13 harg14 harg15 x bu bd _ _ (word c tLive w1 i) rfl (ok.live i))
  isplitl [HT]; · iexact HT
  isplitl [H6 H8 H10 H14 H15]
  · isplitl [H6]; · iexact H6
    isplitl [H8]; · iexact H8
    isplitl [H10]; · iexact H10
    isplitl [H14]; · iexact H14
    iexact H15
  isplitl [H11]; · iexact H11
  iintro ⟨HT, ⟨H6, H8, H10, H14, H15⟩, H11⟩
  iapply Hk
  isplitl [HF H14 H15]
  · unfold After
    isplitl [HF]
    · iapply (held_of c gU gD _ _ (ok.next_lt i) (ok.slot_lt i)) $$ HF
    isplitl [H14]; · iexact H14
    iexact H15
  isplitl [HT]; · iexact HT
  isplitl [HO]; · iexact HO
  isplitl [H6 H8 H10]
  · isplitl [H6]; · iexact H6
    isplitl [H8]; · iexact H8
    iexact H10
  iexact H11

/-- A grid point that stays in its run. -/
theorem stay_wp (𝒱 : Variants) (bd0 : Option 𝒱.V) {w0 : BufAt (F := F) c tBe} {w1 : BufAt (F := F) c tLive} {w2 : BufAt (F := F) c tFirst} {w3 : BufAt (F := F) c tNext} {w4 : BufAt (F := F) c tSlot} (ok : TabOk c w0 w1 w2 w3 w4) (gU : BufAt (F := F) c mU) (gD : BufAt (F := F) c mD) (j i : grid0.Coords) (hij : (i 0).val = (j 0).val + 1) (harg1 : tBe.IsWhole) (harg2 : tLive.IsWhole) (harg3 : tFirst.IsWhole) (harg4 : tNext.IsWhole) (harg5 : tSlot.IsWhole) (arg6 : Memref sig .tc .vmem S4096x128 .f32) (harg6 : arg6.IsWhole) (harg7 : mU.IsWhole) (arg8 : Memref sig .tc .vmem S1x1x2048 .f32) (harg8 : arg8.IsWhole) (harg9 : mD.IsWhole) (arg10 : Memref sig .tc .vmem S1x1x1024 .f32) (harg10 : arg10.IsWhole) (arg11 : Memref sig .tc .vmem S4096x128 .f32) (harg11 : arg11.IsWhole) (harg12 : scU.IsWhole) (harg13 : scD.IsWhole) (harg14 : bfU.IsWhole) (harg15 : bfD.IsWhole) (x : Vec F S4096x128 .f32) (bu : Vec F S1x1x2048 .f32) (bd : Vec F S1x1x1024 .f32)
    (hf : k0_cond2 (word c tFirst w2 i) ≠ 1#1) (K : PUnit → sProp 𝕄) :
    iprop(After c ok gU gD j
      ∗ Tabs c w0 w1 w2 w3 w4 ∗ (∃ W, owes (c : Thread nD τ) 0 W) ∗ (owns (c : Thread nD τ) arg6 fullShare x ∗ owns (c : Thread nD τ) arg8 fullShare bu ∗ owns (c : Thread nD τ) arg10 fullShare bd) ∗ (∃ d, owns (c : Thread nD τ) arg11 fullShare d)
      ∗ (iprop(After c ok gU gD i ∗ Tabs c w0 w1 w2 w3 w4 ∗ (∃ W, owes (c : Thread nD τ) 0 W) ∗ (owns (c : Thread nD τ) arg6 fullShare x ∗ owns (c : Thread nD τ) arg8 fullShare bu ∗ owns (c : Thread nD τ) arg10 fullShare bd) ∗ owns (c : Thread nD τ) arg11 fullShare (outOf (word c tLive w1 i) x bu bd (bfOfU c gU (word c tBe w0 i) (ok.be_lt i)) (bfOfD c gD (word c tBe w0 i) (ok.be_lt i)))) -∗ K ⟨⟩))
    ⊢ wp frame (wpE (defs₀ (F := F)) 𝒱 (c : Thread nD τ) bd0) Set.univ (tailProg i tBe harg1 tLive harg2 tFirst harg3 tNext harg4 tSlot harg5 arg6 harg6 mU harg7 arg8 harg8 mD harg9 arg10 harg10 arg11 harg11 scU harg12 scD harg13 bfU harg14 bfD harg15 cc0_scratch4) K := by
  obtain ⟨e1, e2, e3⟩ := ok.stay j i hij hf
  have hA : After c ok gU gD j = After c ok gU gD i := by
    unfold After
    rw [bfU_congr c gU e1 (ok.be_lt i) (ok.be_lt j), bfD_congr c gD e1 (ok.be_lt i) (ok.be_lt j), e2, e3]
  rw [hA]
  unfold tailProg
  simp only [smemLoad, Prog.lift, Prog.bind_op, Prog.bind_ret, Prog.pure_eq_ret, smemLoadElt_bind]
  iintro ⟨HA, HT, HO, ⟨H6, H8, H10⟩, H11, Hk⟩
  ihave HT := (tabs_open c w0 w1 w2 w3 w4) $$ HT
  icases HT with ⟨T0, T1, T2, T3, T4⟩
  named_smem T2 (word c tFirst w2 i) rfl
  rw [dif_neg hf]
  unfold After
  icases HA with ⟨HF, H14, H15⟩
  iapply (comp_wp c 𝒱 bd0 w0 w1 w2 w3 w4 i harg1 harg2 harg3 harg4 harg5 arg6 harg6 harg7 arg8 harg8 harg9 arg10 harg10 arg11 harg11 harg12 harg13 harg14 harg15 x bu bd _ _ (word c tLive w1 i) rfl (ok.live i))
  isplitl [T0 T1 T2 T3 T4]
  · unfold Tabs
    isplitl [T0]; · iexact T0
    isplitl [T1]; · iexact T1
    isplitl [T2]; · iexact T2
    isplitl [T3]; · iexact T3
    iexact T4
  isplitl [H6 H8 H10 H14 H15]
  · isplitl [H6]; · iexact H6
    isplitl [H8]; · iexact H8
    isplitl [H10]; · iexact H10
    isplitl [H14]; · iexact H14
    iexact H15
  isplitl [H11]; · iexact H11
  iintro ⟨HT, ⟨H6, H8, H10, H14, H15⟩, H11⟩
  iapply Hk
  isplitl [HF H14 H15]
  · isplitl [HF]; · iexact HF
    isplitl [H14]; · iexact H14
    iexact H15
  isplitl [HT]; · iexact HT
  isplitl [HO]; · iexact HO
  isplitl [H6 H8 H10]
  · isplitl [H6]; · iexact H6
    isplitl [H8]; · iexact H8
    iexact H10
  iexact H11

theorem zero_coords {i : grid0.Coords} (h : (i 0).val = 0) : k0_off1 i = ![0] := by
  unfold k0_off1
  rw [h]; rfl

theorem cond1_zero {i : grid0.Coords} (h : (i 0).val = 0) : k0_cond1 i = 1#1 := by
  unfold k0_cond1
  rw [h]; decide

theorem cond1_pos {i : grid0.Coords} (h : (i 0).val ≠ 0) : k0_cond1 i ≠ 1#1 := by
  have hi : (i 0).val < 159 := (i 0).isLt
  unfold k0_cond1
  generalize (i 0).val = n at h hi
  intro hc
  apply h
  revert hc h
  revert n
  decide +kernel

theorem word_zero (M : Memref sig .tc .smem S159 .i32) (w : BufAt (F := F) c M) {i : grid0.Coords} (h : (i 0).val = 0) :
    word c M w i = (M.access (Rect.unit (s := S159) ![0] S1.size inb_S159_S1_0)).read (Elt F) w (Shape.Idx.first (numel1_S1.symm ▸ Nat.one_pos)) := by
  unfold word
  have key : ∀ (o : Fin 1 → ℕ) (ho : ∀ a, o a + S1.size a ≤ S159.size a), o = ![0] →
      (M.access (Rect.unit (s := S159) o S1.size ho)).read (Elt F) w (Shape.Idx.first (numel1_S1.symm ▸ Nat.one_pos)) = (M.access (Rect.unit (s := S159) ![0] S1.size inb_S159_S1_0)).read (Elt F) w (Shape.Idx.first (numel1_S1.symm ▸ Nat.one_pos)) := by
    intro o ho e; subst e; rfl
  exact key _ _ (zero_coords h)

/-- The first grid point, its copies of the first expert before the rest. -/
def firstProg (i : grid0.Coords) (arg1 : Memref sig .tc .smem S159 .i32) (harg1 : arg1.IsWhole) (arg2 : Memref sig .tc .smem S159 .i32) (harg2 : arg2.IsWhole) (arg3 : Memref sig .tc .smem S159 .i32) (harg3 : arg3.IsWhole) (arg4 : Memref sig .tc .smem S159 .i32) (harg4 : arg4.IsWhole) (arg5 : Memref sig .tc .smem S159 .i32) (harg5 : arg5.IsWhole) (arg6 : Memref sig .tc .vmem S4096x128 .f32) (harg6 : arg6.IsWhole) (arg7 : Memref sig .tc .hbm S32x1024x2048 .f32) (harg7 : arg7.IsWhole) (arg8 : Memref sig .tc .vmem S1x1x2048 .f32) (harg8 : arg8.IsWhole) (arg9 : Memref sig .tc .hbm S32x1024x1024 .f32) (harg9 : arg9.IsWhole) (arg10 : Memref sig .tc .vmem S1x1x1024 .f32) (harg10 : arg10.IsWhole) (arg11 : Memref sig .tc .vmem S4096x128 .f32) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2) (k0_h1 : k0_cond1 i = 1#1) :
    Prog (TpuEff nD τ sig (Elt F) Λ₀ .tc) PUnit := do
  let v23 : Elt F .i32 ← smemLoad arg1 (Rect.unit (s := S159) ![0] S1.size inb_S159_S1_0) numel1_S1 rfl
  have k0_hw1 : k0_chk1 i v23 := (← Prog.lift (TpuEff.assume (k0_chk1 i v23) (k0_chk1.dec i v23))).down
  let v24 : DmaSems sig S1 := arg16.slice (Rect.unit (s := S2) ![0] S1.size inb_S2_S1_0)
  let v25 : DmaSems sig S_ := v24.squeeze S_ squeezes_S1_S_
  let v26 : Memref sig .tc .vmem S1x1024x2048 .f32 := arg12.slice (Rect.unit (s := S2x1024x2048) ![0, 0, 0] S1x1024x2048.size inb_S2x1024x2048_S1x1024x2048_0_0_0) (fun _ => rfl)
  let v27 : Memref sig .tc .vmem S1024x2048 .f32 := v26.squeeze S1024x2048 squeezes_S1x1024x2048_S1024x2048
  let v28 : Memref sig .tc .hbm S1x1024x2048 .f32 := arg7.slice (Rect.unit (s := S32x1024x2048) (k0_off2 v23) S1x1024x2048.size (k0_off2_inb i v23 k0_hw1 k0_h1)) (fun _ => rfl)
  let v29 : Memref sig .tc .hbm S1024x2048 .f32 := v28.squeeze S1024x2048 squeezes_S1x1024x2048_S1024x2048
  Prog.lift (.enqueueDma v29 (.here v27) (.dma v25.sem) ((View.wordExact_bits rfl).reshape _ _) ((View.wordExact_bits rfl).reshape _ _) ⟨Or.inl rfl, trivial⟩)
  let v30 : DmaSems sig S1 := arg16.slice (Rect.unit (s := S2) ![0] S1.size inb_S2_S1_0)
  let v31 : DmaSems sig S_ := v30.squeeze S_ squeezes_S1_S_
  let v32 : Memref sig .tc .vmem S1x1024x1024 .f32 := arg13.slice (Rect.unit (s := S2x1024x1024) ![0, 0, 0] S1x1024x1024.size inb_S2x1024x1024_S1x1024x1024_0_0_0) (fun _ => rfl)
  let v33 : Memref sig .tc .vmem S1024x1024 .f32 := v32.squeeze S1024x1024 squeezes_S1x1024x1024_S1024x1024
  let v34 : Memref sig .tc .hbm S1x1024x1024 .f32 := arg9.slice (Rect.unit (s := S32x1024x1024) (k0_off3 v23) S1x1024x1024.size (k0_off3_inb i v23 k0_hw1 k0_h1)) (fun _ => rfl)
  let v35 : Memref sig .tc .hbm S1024x1024 .f32 := v34.squeeze S1024x1024 squeezes_S1x1024x1024_S1024x1024
  Prog.lift (.enqueueDma v35 (.here v33) (.dma v31.sem) ((View.wordExact_bits rfl).reshape _ _) ((View.wordExact_bits rfl).reshape _ _) ⟨Or.inl rfl, trivial⟩)
  tailProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16

/-- The first grid point. -/
theorem first_wp (𝒱 : Variants) (bd0 : Option 𝒱.V) {w0 : BufAt (F := F) c tBe} {w1 : BufAt (F := F) c tLive} {w2 : BufAt (F := F) c tFirst} {w3 : BufAt (F := F) c tNext} {w4 : BufAt (F := F) c tSlot} (ok : TabOk c w0 w1 w2 w3 w4) (gU : BufAt (F := F) c mU) (gD : BufAt (F := F) c mD) (i : grid0.Coords) (h0 : (i 0).val = 0) (harg1 : tBe.IsWhole) (harg2 : tLive.IsWhole) (harg3 : tFirst.IsWhole) (harg4 : tNext.IsWhole) (harg5 : tSlot.IsWhole) (arg6 : Memref sig .tc .vmem S4096x128 .f32) (harg6 : arg6.IsWhole) (harg7 : mU.IsWhole) (arg8 : Memref sig .tc .vmem S1x1x2048 .f32) (harg8 : arg8.IsWhole) (harg9 : mD.IsWhole) (arg10 : Memref sig .tc .vmem S1x1x1024 .f32) (harg10 : arg10.IsWhole) (arg11 : Memref sig .tc .vmem S4096x128 .f32) (harg11 : arg11.IsWhole) (harg12 : scU.IsWhole) (harg13 : scD.IsWhole) (harg14 : bfU.IsWhole) (harg15 : bfD.IsWhole) (x : Vec F S4096x128 .f32) (bu : Vec F S1x1x2048 .f32) (bd : Vec F S1x1x1024 .f32) (K : PUnit → sProp 𝕄) :
    iprop(Start c gU gD
      ∗ Tabs c w0 w1 w2 w3 w4 ∗ (∃ W, owes (c : Thread nD τ) 0 W) ∗ (owns (c : Thread nD τ) arg6 fullShare x ∗ owns (c : Thread nD τ) arg8 fullShare bu ∗ owns (c : Thread nD τ) arg10 fullShare bd) ∗ (∃ d, owns (c : Thread nD τ) arg11 fullShare d)
      ∗ (iprop(After c ok gU gD i ∗ Tabs c w0 w1 w2 w3 w4 ∗ (∃ W, owes (c : Thread nD τ) 0 W) ∗ (owns (c : Thread nD τ) arg6 fullShare x ∗ owns (c : Thread nD τ) arg8 fullShare bu ∗ owns (c : Thread nD τ) arg10 fullShare bd) ∗ owns (c : Thread nD τ) arg11 fullShare (outOf (word c tLive w1 i) x bu bd (bfOfU c gU (word c tBe w0 i) (ok.be_lt i)) (bfOfD c gD (word c tBe w0 i) (ok.be_lt i)))) -∗ K ⟨⟩))
    ⊢ wp frame (wpE (defs₀ (F := F)) 𝒱 (c : Thread nD τ) bd0) Set.univ (cc0_experts_skel i tBe harg1 tLive harg2 tFirst harg3 tNext harg4 tSlot harg5 arg6 harg6 mU harg7 arg8 harg8 mD harg9 arg10 harg10 arg11 harg11 scU harg12 scD harg13 bfU harg14 bfD harg15 cc0_scratch4) K := by
  have he : cc0_experts_skel (F := F) i tBe harg1 tLive harg2 tFirst harg3 tNext harg4 tSlot harg5 arg6 harg6 mU harg7 arg8 harg8 mD harg9 arg10 harg10 arg11 harg11 scU harg12 scD harg13 bfU harg14 bfD harg15 cc0_scratch4 = firstProg i tBe harg1 tLive harg2 tFirst harg3 tNext harg4 tSlot harg5 arg6 harg6 mU harg7 arg8 harg8 mD harg9 arg10 harg10 arg11 harg11 scU harg12 scD harg13 bfU harg14 bfD harg15 cc0_scratch4 (cond1_zero h0) := by
    unfold cc0_experts_skel
    simp only [k0_part1_eq_skeleton, k0_part2_eq_skeleton, k0_part3_eq_skeleton, k0_part4_eq_skeleton, k0_part5_eq_skeleton, k0_part6_eq_skeleton, k0_part7_eq_skeleton, k0_part8_eq_skeleton]
    rw [dif_pos (cond1_zero h0)]
    rfl
  rw [he]
  obtain ⟨hf, hs0⟩ := ok.start i h0
  have hslt : (0#32 : BitVec 32).toNat < 2 := by decide
  unfold firstProg
  simp only [smemLoad, Prog.lift, Prog.bind_op, Prog.bind_ret, Prog.pure_eq_ret, smemLoadElt_bind]
  unfold Start Home
  iintro ⟨⟨⟨Hs0, Hs1, ⟨%fU, HU⟩, ⟨%fD, HD⟩, HmU, HmD⟩, B14, B15⟩, HT, HO, ⟨H6, H8, H10⟩, H11, Hk⟩
  ihave HT := (tabs_open c w0 w1 w2 w3 w4) $$ HT
  icases HT with ⟨T0, T1, T2, T3, T4⟩
  named_smem T0 (word c tBe w0 i) (word_zero c tBe w0 h0)
  iapply (wp_assume 𝒱 (c : Thread nD τ) bd0 Set.univ ⟨fun _ => inbU32 (ok.be_lt i), fun _ => inbD32 (ok.be_lt i)⟩)
  ihave HU := (pointsTo_split_subset (Finset.subset_univ (dstU 0#32 (inbU2 hslt)).view.set)).1 $$ HU
  icases HU with ⟨HU1, HU2⟩
  ihave HD := (pointsTo_split_subset (Finset.subset_univ (dstD 0#32 (inbD2 hslt)).view.set)).1 $$ HD
  icases HD with ⟨HD1, HD2⟩
  iapply (send_wp c 𝒱 bd0 gU gD (word c tBe w0 i) 0#32 (ok.be_lt i) hslt _ _ fU fU fD fD (Finset.Subset.refl _) (Finset.Subset.refl _)) $$ [Hs0 HU1 HD1 HmU HmD]
  · isplitl [Hs0]; · iexact Hs0
    isplitl [HU1]; · iexact HU1
    isplitl [HD1]; · iexact HD1
    isplitl [HmU]; · iexact HmU
    iexact HmD
  iintro ⟨HB, HmU, HmD⟩
  have hF : Flight c gU gD (word c tBe w0 i) (word c tSlot w4 i) (ok.be_lt i) (ok.slot_lt i) = Flight c gU gD (word c tBe w0 i) 0#32 (ok.be_lt i) hslt := by
    simp only [hs0]
  iapply (run_wp c 𝒱 bd0 ok gU gD i harg1 harg2 harg3 harg4 harg5 arg6 harg6 harg7 arg8 harg8 harg9 arg10 harg10 arg11 harg11 harg12 harg13 harg14 harg15 x bu bd hf)
  isplitl [HB HmU HmD Hs1 HU2 HD2]
  · rw [hF]
    unfold Flight
    iexists _, _, fU, fD, fU, fD
    isplitr
    · ipureintro; exact ⟨Finset.Subset.refl _, Finset.Subset.refl _⟩
    isplitl [HB]; · iexact HB
    isplitl [Hs1]; · iexact Hs1
    isplitl [HU2]; · iexact HU2
    isplitl [HD2]; · iexact HD2
    isplitl [HmU]; · iexact HmU
    iexact HmD
  isplitl [B14]; · iexact B14
  isplitl [B15]; · iexact B15
  isplitl [T0 T1 T2 T3 T4]
  · unfold Tabs
    isplitl [T0]; · iexact T0
    isplitl [T1]; · iexact T1
    isplitl [T2]; · iexact T2
    isplitl [T3]; · iexact T3
    iexact T4
  isplitl [HO]; · iexact HO
  isplitl [H6 H8 H10]
  · isplitl [H6]; · iexact H6
    isplitl [H8]; · iexact H8
    iexact H10
  isplitl [H11]; · iexact H11
  iexact Hk

/-- A later grid point. -/
theorem later_wp (𝒱 : Variants) (bd0 : Option 𝒱.V) {w0 : BufAt (F := F) c tBe} {w1 : BufAt (F := F) c tLive} {w2 : BufAt (F := F) c tFirst} {w3 : BufAt (F := F) c tNext} {w4 : BufAt (F := F) c tSlot} (ok : TabOk c w0 w1 w2 w3 w4) (gU : BufAt (F := F) c mU) (gD : BufAt (F := F) c mD) (j i : grid0.Coords) (hij : (i 0).val = (j 0).val + 1) (harg1 : tBe.IsWhole) (harg2 : tLive.IsWhole) (harg3 : tFirst.IsWhole) (harg4 : tNext.IsWhole) (harg5 : tSlot.IsWhole) (arg6 : Memref sig .tc .vmem S4096x128 .f32) (harg6 : arg6.IsWhole) (harg7 : mU.IsWhole) (arg8 : Memref sig .tc .vmem S1x1x2048 .f32) (harg8 : arg8.IsWhole) (harg9 : mD.IsWhole) (arg10 : Memref sig .tc .vmem S1x1x1024 .f32) (harg10 : arg10.IsWhole) (arg11 : Memref sig .tc .vmem S4096x128 .f32) (harg11 : arg11.IsWhole) (harg12 : scU.IsWhole) (harg13 : scD.IsWhole) (harg14 : bfU.IsWhole) (harg15 : bfD.IsWhole) (x : Vec F S4096x128 .f32) (bu : Vec F S1x1x2048 .f32) (bd : Vec F S1x1x1024 .f32) (K : PUnit → sProp 𝕄) :
    iprop(After c ok gU gD j
      ∗ Tabs c w0 w1 w2 w3 w4 ∗ (∃ W, owes (c : Thread nD τ) 0 W) ∗ (owns (c : Thread nD τ) arg6 fullShare x ∗ owns (c : Thread nD τ) arg8 fullShare bu ∗ owns (c : Thread nD τ) arg10 fullShare bd) ∗ (∃ d, owns (c : Thread nD τ) arg11 fullShare d)
      ∗ (iprop(After c ok gU gD i ∗ Tabs c w0 w1 w2 w3 w4 ∗ (∃ W, owes (c : Thread nD τ) 0 W) ∗ (owns (c : Thread nD τ) arg6 fullShare x ∗ owns (c : Thread nD τ) arg8 fullShare bu ∗ owns (c : Thread nD τ) arg10 fullShare bd) ∗ owns (c : Thread nD τ) arg11 fullShare (outOf (word c tLive w1 i) x bu bd (bfOfU c gU (word c tBe w0 i) (ok.be_lt i)) (bfOfD c gD (word c tBe w0 i) (ok.be_lt i)))) -∗ K ⟨⟩))
    ⊢ wp frame (wpE (defs₀ (F := F)) 𝒱 (c : Thread nD τ) bd0) Set.univ (cc0_experts_skel i tBe harg1 tLive harg2 tFirst harg3 tNext harg4 tSlot harg5 arg6 harg6 mU harg7 arg8 harg8 mD harg9 arg10 harg10 arg11 harg11 scU harg12 scD harg13 bfU harg14 bfD harg15 cc0_scratch4) K := by
  have he : cc0_experts_skel (F := F) i tBe harg1 tLive harg2 tFirst harg3 tNext harg4 tSlot harg5 arg6 harg6 mU harg7 arg8 harg8 mD harg9 arg10 harg10 arg11 harg11 scU harg12 scD harg13 bfU harg14 bfD harg15 cc0_scratch4 = tailProg i tBe harg1 tLive harg2 tFirst harg3 tNext harg4 tSlot harg5 arg6 harg6 mU harg7 arg8 harg8 mD harg9 arg10 harg10 arg11 harg11 scU harg12 scD harg13 bfU harg14 bfD harg15 cc0_scratch4 := by
    unfold cc0_experts_skel
    simp only [k0_part1_eq_skeleton, k0_part2_eq_skeleton, k0_part3_eq_skeleton, k0_part4_eq_skeleton, k0_part5_eq_skeleton, k0_part6_eq_skeleton, k0_part7_eq_skeleton, k0_part8_eq_skeleton]
    rw [dif_neg (cond1_pos (by omega))]
    rfl
  rw [he]
  by_cases hf : k0_cond2 (word c tFirst w2 i) = 1#1
  · obtain ⟨m1, m2, m3⟩ := ok.move j i hij hf
    have hF : Held c gU gD (word c tNext w3 j) (word c tSlot w4 j) = Flight c gU gD (word c tBe w0 i) (word c tSlot w4 i) (ok.be_lt i) (ok.slot_lt i) := by
      unfold Held
      rw [dif_pos ⟨m1, ok.next_lt j m1, ok.slot_lt j⟩]
      simp only [m2, m3]
    unfold After
    rw [hF]
    iintro ⟨⟨HF, H14, H15⟩, HT, HO, HI, H11, Hk⟩
    iapply (run_wp c 𝒱 bd0 ok gU gD i harg1 harg2 harg3 harg4 harg5 arg6 harg6 harg7 arg8 harg8 harg9 arg10 harg10 arg11 harg11 harg12 harg13 harg14 harg15 x bu bd hf)
    isplitl [HF]; · iexact HF
    isplitl [H14]; · iapply (someU c _) $$ H14
    isplitl [H15]; · iapply (someD c _) $$ H15
    isplitl [HT]; · iexact HT
    isplitl [HO]; · iexact HO
    isplitl [HI]; · iexact HI
    isplitl [H11]; · iexact H11
    unfold After
    iexact Hk
  · exact stay_wp c 𝒱 bd0 ok gU gD j i hij harg1 harg2 harg3 harg4 harg5 arg6 harg6 harg7 arg8 harg8 harg9 arg10 harg10 arg11 harg11 harg12 harg13 harg14 harg15 x bu bd hf K

end Cert.ExpertsIdeal.Hand
-- ==== Proof.FrameExpertsIdeal.lean ====
/- The experts' call, given what the tables say: the contents of every buffer point by point, the run and the frame. -/
module

public import proofs.«01_k».proof.Proof.BodyExpertsIdeal
public import Idealize.ShloMosaic.Lib.Pipeline.FrameBody
public import Idealize.ShloMosaic.Lib.Claim
public import Idealize.ShloMosaic.Lib.Tactic

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tables the host line leaves satisfy what the copies need. -/
abbrev Ok : Prop := ∀ c : Dev nD, TabOk c (V m c main_v19) (V m c main_v40) (V m c main_v72) (V m c main_v65) (V m c main_v71)

/-! ## The tables as the pipeline holds them -/

def pf : pre0.Contents (Elt F) := fun k => V m 0 (pre0.ref k)

theorem pf_eq (c : Dev nD) (k : Fin 5) : V m c (pre0.ref k) = pf m k := by
  obtain rfl : c = 0 := Subsingleton.elim _ _
  rfl

theorem ok_of (T : pre0.Contents (Elt F)) (hb : ∀ i, (word (F := F) 0 tBe (T 0) i).toNat < 32) : ok0 T := by
  have e : ∀ i, T.at 0 (Rect.unit (s := S159) (k0_off1 i) S1.size (k0_off1_inb i)) numel1_S1 = word (F := F) 0 tBe (T 0) i := fun i => rfl
  have e2 : ∀ i a, (cc0_transform_2 k0_off1_inb numel1_S1 T i a + 1) * S1x1x2048.size a ≤ S32x1x2048.size a := fun i a => by
    have := hb i
    match a with
    | ⟨0, _⟩ => exact (show ((word (F := F) 0 tBe (T 0) i).toNat + 1) * 1 ≤ 32 by omega)
    | ⟨1, _⟩ => exact (show (0 + 1) * 1 ≤ 1 by omega)
    | ⟨2, _⟩ => exact (show (0 + 1) * 2048 ≤ 2048 by omega)
  have e4 : ∀ i a, (cc0_transform_4 k0_off1_inb numel1_S1 T i a + 1) * S1x1x1024.size a ≤ S32x1x1024.size a := fun i a => by
    have := hb i
    match a with
    | ⟨0, _⟩ => exact (show ((word (F := F) 0 tBe (T 0) i).toNat + 1) * 1 ≤ 32 by omega)
    | ⟨1, _⟩ => exact (show (0 + 1) * 1 ≤ 1 by omega)
    | ⟨2, _⟩ => exact (show (0 + 1) * 1024 ≤ 1024 by omega)
  exact ⟨fun i => ⟨e2 i, Or.inl rfl⟩, fun i => ⟨e4 i, Or.inl rfl⟩⟩

theorem adm_ok (h : Ok m) : ok0 (pf m) := ok_of (pf m) fun i => (h 0).be_lt i

abbrev adm (h : Ok m) : (pcfg0 (F := F)).Adm := ⟨pf m, adm_ok m h⟩
abbrev cfgA (h : Ok m) : Pipeline.Cfg sig Λ₀ := cfg0 (adm m h)

theorem coords_val (t : Fin grid0.N) : (grid0.coords t 0).val = t.val := by
  revert t
  decide +kernel

theorem atD_word (T : pre0.Contents (Elt F)) (i : grid0.Coords) : T.atD 1 (k0_off1 i) = word (F := F) 0 tLive (T 1) i := by
  unfold Pipeline.Prefetch.Contents.atD
  split
  · refine congrArg (T 1) ?_
    funext a
    match a with
    | ⟨0, _⟩ => exact Fin.ext (show k0_off1 i 0 = k0_off1 i 0 + 0 * 1 by simp)
  · rename_i hn
    exact (hn fun a => match a with | ⟨0, _⟩ => k0_off1_inb i 0).elim

theorem idle_of (T : pre0.Contents (Elt F)) (i : grid0.Coords)
    (hl : word (F := F) 0 tLive (T 1) i = 0#32 ∨ word (F := F) 0 tLive (T 1) i = 1#32 ∨ word (F := F) 0 tLive (T 1) i = 2#32) : idle0 T 3 i = false := by
  show (!(k0_cond4 (T.atD 1 (k0_off1 i)) == 1#1) && !(k0_cond5 (T.atD 1 (k0_off1 i)) == 1#1) && !(k0_cond6 (T.atD 1 (k0_off1 i)) == 1#1)) = false
  rw [atD_word T i]
  rcases hl with hl | hl | hl <;> rw [hl] <;> decide

theorem idle_at (T : (pcfg0 (F := F)).Adm) (w : Fin 4) (hw : w = 3) (i : grid0.Coords)
    (hl : word (F := F) 0 tLive (T.1 1) i = 0#32 ∨ word (F := F) 0 tLive (T.1 1) i = 1#32 ∨ word (F := F) 0 tLive (T.1 1) i = 2#32) : (cfg0 T).idle w i = false := by
  subst hw
  exact idle_of T.1 i hl

theorem idle_in (T : (pcfg0 (F := F)).Adm) (w : Fin 4) (hw : w = 0 ∨ w = 1 ∨ w = 2) (i : grid0.Coords) : (cfg0 T).idle w i = false := by
  rcases hw with rfl | rfl | rfl <;> rfl

theorem live_pf (h : Ok m) (i : grid0.Coords) : word (F := F) 0 tLive (pf m 1) i = 0#32 ∨ word (F := F) 0 tLive (pf m 1) i = 1#32 ∨ word (F := F) 0 tLive (pf m 1) i = 2#32 :=
  (h 0).live i

theorem idle_adm (T : (pcfg0 (F := F)).Adm) (hT : T.1 = pf m) (h : Ok m) (w : Fin 4) (hw : w = 3) (t : Fin grid0.N) : (cfg0 T).idle w (grid0.coords t) = false :=
  idle_at T w hw (grid0.coords t) (by rw [hT]; exact live_pf m h _)

/-! ## The contents point by point -/

variable (h : Ok m)

/-- Input window `w`'s block at a point. -/
def iblk (c : Dev nD) (w : Fin 4) (t : Fin grid0.N) : (((cfgA m h).win w).xblock ((cfgA m h).grid.coords t)).Idx → Elt F (((cfgA m h).win w).elt) :=
  (((cfgA m h).win w).blk t).view.read (Elt F) (V m c (Pipeline.arrRef spec0 w))

abbrev xBlk (c : Dev nD) (t : Fin grid0.N) : Vec F S4096x128 .f32 := iblk m h c 0 t
abbrev buBlk (c : Dev nD) (t : Fin grid0.N) : Vec F S1x1x2048 .f32 := iblk m h c 1 t
abbrev bdBlk (c : Dev nD) (t : Fin grid0.N) : Vec F S1x1x1024 .f32 := iblk m h c 2 t

/-- What the body leaves in the output window. -/
def outAt (c : Dev nD) (t : Fin grid0.N) : Vec F S4096x128 .f32 :=
  outOf (word c tLive (V m c main_v40) (grid0.coords t)) (xBlk m h c t) (buBlk m h c t) (bdBlk m h c t)
    (bfOfU c (V m c main_arg2) (word c tBe (V m c main_v19) (grid0.coords t)) ((h c).be_lt _))
    (bfOfD c (V m c main_arg4) (word c tBe (V m c main_v19) (grid0.coords t)) ((h c).be_lt _))

abbrev TabsAt (c : Dev nD) : sProp 𝕄 :=
  Tabs c (V m c main_v19) (V m c main_v40) (V m c main_v72) (V m c main_v65) (V m c main_v71)

/-- What holds between the points. -/
def PhiAt (c : Dev nD) : ℕ → sProp 𝕄
  | 0 => iprop(Start c (V m c main_arg2) (V m c main_arg4) ∗ TabsAt m c ∗ (∃ r, prngReg c r))
  | n + 1 => if hn : n < grid0.N then iprop(After c (h c) (V m c main_arg2) (V m c main_arg4) (grid0.coords ⟨n, hn⟩) ∗ TabsAt m c ∗ (∃ r, prngReg c r)) else iprop(emp)

def dats (p : Fin 1) (c : Dev nD) : Dat τ (Elt F) Unit ℕ (Pipeline.UD sig nD τ) ℕ (Pipeline.pin (pcfgs (F := F)) (fun _ => adm m h) p) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => outAt m h c t
  Φ t := PhiAt m h c t.val
  q _ := fullShare
  owed _ := 0

abbrev dat0 (c : Dev nD) : Dat τ (Elt F) Unit ℕ (Pipeline.UD sig nD τ) ℕ (cfgA m h) c := dats m h 0 c

theorem A_eq (c : Dev nD) (w : Fin 4) : (dats m h 0 c).A w = V m c (Pipeline.arrRef spec0 w) := by
  dsimp only [dats]

theorem after0 (c : Dev nD) (t : Fin grid0.N) : (dats m h 0 c).after 0 t = xBlk m h c t := by dsimp only [dats]; rfl
theorem after1 (c : Dev nD) (t : Fin grid0.N) : (dats m h 0 c).after 1 t = buBlk m h c t := by dsimp only [dats]; rfl
theorem after2 (c : Dev nD) (t : Fin grid0.N) : (dats m h 0 c).after 2 t = bdBlk m h c t := by dsimp only [dats]; rfl
theorem after3 (c : Dev nD) (t : Fin grid0.N) : (dats m h 0 c).after 3 t = outAt m h c t := by dsimp only [dats]; rfl

theorem before0 (c : Dev nD) (t : Fin grid0.N) (d) : (dats m h 0 c).before 0 t d = iblk m h c 0 t :=
  ((dats m h 0 c).before_in_eq_fetched 0 rfl (fun _ => rfl) (fun _ _ _ => rfl) (fun t => rfl) t d).trans (by unfold Dat.fetched Dat.blockOf iblk; rfl)
theorem before1 (c : Dev nD) (t : Fin grid0.N) (d) : (dats m h 0 c).before 1 t d = iblk m h c 1 t :=
  ((dats m h 0 c).before_in_eq_fetched 1 rfl (fun _ => rfl) (fun _ _ _ => rfl) (fun t => rfl) t d).trans (by unfold Dat.fetched Dat.blockOf iblk; rfl)
theorem before2 (c : Dev nD) (t : Fin grid0.N) (d) : (dats m h 0 c).before 2 t d = iblk m h c 2 t :=
  ((dats m h 0 c).before_in_eq_fetched 2 rfl (fun _ => rfl) (fun _ _ _ => rfl) (fun t => rfl) t d).trans (by unfold Dat.fetched Dat.blockOf iblk; rfl)

/-! ## The body -/

abbrev st0 (t : Fin grid0.N) : Memref sig .tc .vmem S4096x128 .f32 := ((cfgA m h).win 0).stage ((cfgA m h).slots t 0)
abbrev st1 (t : Fin grid0.N) : Memref sig .tc .vmem S1x1x2048 .f32 := ((cfgA m h).win 1).stage ((cfgA m h).slots t 1)
abbrev st2 (t : Fin grid0.N) : Memref sig .tc .vmem S1x1x1024 .f32 := ((cfgA m h).win 2).stage ((cfgA m h).slots t 2)
abbrev st3 (t : Fin grid0.N) : Memref sig .tc .vmem S4096x128 .f32 := ((cfgA m h).win 3).stage ((cfgA m h).slots t 3)

theorem ws0 (t : Fin grid0.N) : (st0 m h t).IsWhole := stage_whole0 0 _
theorem ws1 (t : Fin grid0.N) : (st1 m h t).IsWhole := stage_whole0 1 _
theorem ws2 (t : Fin grid0.N) : (st2 m h t).IsWhole := stage_whole0 2 _
theorem ws3 (t : Fin grid0.N) : (st3 m h t).IsWhole := stage_whole0 3 _

abbrev bodyAt (t : Fin grid0.N) : Prog (TpuEff nD τ sig (Elt F) Λ₀ .tc) PUnit :=
  cc0_experts_skel (grid0.coords t) tBe (Memref.isWhole_whole _) tLive (Memref.isWhole_whole _) tFirst (Memref.isWhole_whole _) tNext (Memref.isWhole_whole _) tSlot (Memref.isWhole_whole _)
    (st0 m h t) (ws0 m h t) mU (Memref.isWhole_whole _) (st1 m h t) (ws1 m h t) mD (Memref.isWhole_whole _) (st2 m h t) (ws2 m h t) (st3 m h t) (ws3 m h t)
    scU (Memref.isWhole_whole _) scD (Memref.isWhole_whole _) bfU (Memref.isWhole_whole _) bfD (Memref.isWhole_whole _) cc0_scratch4

theorem defs₀_row (t : Fin grid0.N) :
    defs₀ (F := F) .tc (cfgA m h).body ((cfgA m h).bodyArgs t ((cfgA m h).slots t)) = bodyAt m h t := by
  unfold defs₀; rw [Defs.onTc_tc]
  show cc0_experts _ _ _ _ _ _ _ _ _ _ _ _ _ _ _ _ _ _ _ _ _ _ _ _ _ _ _ _ _ _ _ _ = _
  rw [cc0_experts_eq_skeleton]
  rfl

def bodyPre (c : Dev nD) (t : Fin grid0.N) : sProp 𝕄 :=
  iprop(PhiAt m h c t.val ∗ (dats m h 0 c).owesAt () t.castSucc
    ∗ (∃ d, owns (c : Thread nD τ) (st0 m h t) fullShare ((dats m h 0 c).before 0 t d))
    ∗ (∃ d, owns (c : Thread nD τ) (st1 m h t) fullShare ((dats m h 0 c).before 1 t d))
    ∗ (∃ d, owns (c : Thread nD τ) (st2 m h t) fullShare ((dats m h 0 c).before 2 t d))
    ∗ (∃ d, owns (c : Thread nD τ) (st3 m h t) fullShare ((dats m h 0 c).before 3 t d)))
def bodyPost (c : Dev nD) (t : Fin grid0.N) : sProp 𝕄 :=
  iprop(PhiAt m h c (t.val + 1) ∗ (dats m h 0 c).owesAt () t.succ
    ∗ owns (c : Thread nD τ) (st0 m h t) fullShare ((dats m h 0 c).after 0 t)
    ∗ owns (c : Thread nD τ) (st1 m h t) fullShare ((dats m h 0 c).after 1 t)
    ∗ owns (c : Thread nD τ) (st2 m h t) fullShare ((dats m h 0 c).after 2 t)
    ∗ owns (c : Thread nD τ) (st3 m h t) fullShare ((dats m h 0 c).after 3 t))

theorem phi_succ (c : Dev nD) (t : Fin grid0.N) :
    PhiAt m h c (t.val + 1) = iprop(After c (h c) (V m c main_arg2) (V m c main_arg4) (grid0.coords t) ∗ TabsAt m c ∗ (∃ r, prngReg c r)) := by
  show (if hn : t.val < grid0.N then _ else _) = _
  rw [dif_pos t.isLt]

theorem sound_body (c : Dev nD) (t : Fin grid0.N) :
    bodyPre m h c t ⊢ wp frame (wpE (defs₀ (F := F)) Variants.none c none) Set.univ (bodyAt m h t) (fun _ => bodyPost m h c t) := by
  unfold bodyPre bodyPost
  simp only [before0, before1, before2]
  rw [after0, after1, after2, after3]
  rw [phi_succ]
  unfold Dat.owesAt Pipeline.owesWithin
  rw [show (dats m h 0 c).owed t.castSucc = 0 from rfl, show (dats m h 0 c).owed t.succ = 0 from rfl]
  by_cases h0 : t.val = 0
  · rw [show PhiAt m h c t.val = iprop(Start c (V m c main_arg2) (V m c main_arg4) ∗ TabsAt m c ∗ (∃ r, prngReg c r)) from congrArg (PhiAt m h c) h0]
    iintro ⟨⟨HS, HT, Hg⟩, ⟨%W, -, HW⟩, ⟨%d0, H0⟩, ⟨%d1, H1⟩, ⟨%d2, H2⟩, ⟨%d3, H3⟩⟩
    iapply (first_wp c Variants.none none (h c) (V m c main_arg2) (V m c main_arg4) (grid0.coords t) ((coords_val t).trans h0) _ _ _ _ _ _ _ _ _ _ _ _ _ _ _ _ _ _ _
      (xBlk m h c t) (buBlk m h c t) (bdBlk m h c t) _)
    isplitl [HS]; · iexact HS
    isplitl [HT]; · iexact HT
    isplitl [HW]; · iexists W; iexact HW
    isplitl [H0 H1 H2]
    · isplitl [H0]; · iexact H0
      isplitl [H1]; · iexact H1
      iexact H2
    isplitl [H3]; · iexists _; iexact H3
    iintro ⟨HA, HT, ⟨%W', HW⟩, ⟨H0, H1, H2⟩, H3⟩
    isplitl [HA HT Hg]
    · isplitl [HA]; · iexact HA
      isplitl [HT]; · iexact HT
      iexact Hg
    isplitl [HW]
    · iexists W'; isplitr; · ipureintro; exact fun _ _ => Or.inl trivial
      iexact HW
    isplitl [H0]; · iexact H0
    isplitl [H1]; · iexact H1
    isplitl [H2]; · iexact H2
    iexact H3
  · obtain ⟨n, hn⟩ := Nat.exists_eq_succ_of_ne_zero h0
    have hlt : n < grid0.N := by have := t.isLt; omega
    rw [show PhiAt m h c t.val = PhiAt m h c (n + 1) from congrArg _ hn, phi_succ m h c ⟨n, hlt⟩]
    iintro ⟨⟨HS, HT, Hg⟩, ⟨%W, -, HW⟩, ⟨%d0, H0⟩, ⟨%d1, H1⟩, ⟨%d2, H2⟩, ⟨%d3, H3⟩⟩
    iapply (later_wp c Variants.none none (h c) (V m c main_arg2) (V m c main_arg4) (grid0.coords ⟨n, hlt⟩) (grid0.coords t) (by rw [coords_val, coords_val]; exact hn) _ _ _ _ _ _ _ _ _ _ _ _ _ _ _ _ _ _ _
      (xBlk m h c t) (buBlk m h c t) (bdBlk m h c t) _)
    isplitl [HS]; · iexact HS
    isplitl [HT]; · iexact HT
    isplitl [HW]; · iexists W; iexact HW
    isplitl [H0 H1 H2]
    · isplitl [H0]; · iexact H0
      isplitl [H1]; · iexact H1
      iexact H2
    isplitl [H3]; · iexists _; iexact H3
    iintro ⟨HA, HT, ⟨%W', HW⟩, ⟨H0, H1, H2⟩, H3⟩
    isplitl [HA HT Hg]
    · isplitl [HA]; · iexact HA
      isplitl [HT]; · iexact HT
      iexact Hg
    isplitl [HW]
    · iexists W'; isplitr; · ipureintro; exact fun _ _ => Or.inl trivial
      iexact HW
    isplitl [H0]; · iexact H0
    isplitl [H1]; · iexact H1
    isplitl [H2]; · iexact H2
    iexact H3

theorem body_obligation (c : Dev nD) : BodyObligation (dat0 m h c) (defs₀ (F := F)) Variants.none () Set.univ := fun t => by
  rw [bigSep_W0, bigSep_W0]
  rw [defs₀_row]
  rw [idle_adm m (adm m h) rfl h 3 rfl t]
  try rw [idle_in (adm m h) 0 (by decide) (grid0.coords t)]
  try rw [idle_in (adm m h) 1 (by decide) (grid0.coords t)]
  try rw [idle_in (adm m h) 2 (by decide) (grid0.coords t)]
  exact triple_restated (sound_body m h c t) rfl .rfl fun _ => .rfl

/-! ## The launch -/

abbrev osem0 : Fin 2 → SemLoc sig := fun j => (![SemLoc.dma 8, SemLoc.dma 9] : Fin 2 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
def H0 : Finset (Ref sig .tc) := {main_arg2, main_arg4}
theorem H0_sub : H0 ⊆ Pipeline.restRefsP sig pre0 spec0 := by decide
theorem held_eq (c : Dev nD) :
    (bigSep H0 (fun b => ((c : Thread nD τ).loc b) ↦{fullShare} V m c b) : sProp 𝕄)
      = iprop((mU.view.loc (c : Thread nD τ) ↦{fullShare} V m c main_arg2) ∗ (mD.view.loc (c : Thread nD τ) ↦{fullShare} V m c main_arg4)) := by
  rw [BI.bigSep_eq_bigSepL_of_eq [main_arg2, main_arg4] (by decide) (by decide)]; rfl
theorem tabs_eq (c : Dev nD) : (Pipeline.ΦT pre0 (pf m) c : sProp 𝕄) = TabsAt m c := by
  obtain rfl : c = 0 := Subsingleton.elim _ _
  show bigSep (Finset.univ : Finset (Fin 5)) _ = _
  rw [BI.bigSep_eq_bigSepL_of_eq [(0 : Fin 5), 1, 2, 3, 4] (by decide) (by decide)]; rfl

theorem phi_in (c : Dev nD) : iprop(Pipeline.ΦD osem0 spec0 H0 (V m) c ∗ Pipeline.ΦT pre0 (pf m) c) ⊢ PhiAt m h c 0 := by
  rw [Pipeline.ΦD_eq, scopedRest0_eq, ownSems0_eq, held_eq, tabs_eq]
  show _ ⊢ iprop(Start c (V m c main_arg2) (V m c main_arg4) ∗ TabsAt m c ∗ (∃ r, prngReg c r))
  unfold Start Home
  iintro ⟨⟨⟨S0, S1, S2, S3⟩, Hg, ⟨Q0, Q1⟩, ⟨HU, HD⟩⟩, HT⟩
  isplitl [S0 S1 S2 S3 Q0 Q1 HU HD]
  · isplitl [S0 S1 Q0 Q1 HU HD]
    · isplitl [Q0]; · iexact Q0
      isplitl [Q1]; · iexact Q1
      isplitl [S0]; · iexact S0
      isplitl [S1]; · iexact S1
      isplitl [HU]; · iexact HU
      iexact HD
    isplitl [S2]; · iexact S2
    iexact S3
  isplitl [HT]; · iexact HT
  iexact Hg

theorem phi_out (c : Dev nD) : PhiAt m h c grid0.N ⊢ Pipeline.ΦD osem0 spec0 H0 (V m) c := by
  have hn : 158 < grid0.N := by decide
  rw [show PhiAt m h c grid0.N = PhiAt m h c (158 + 1) from congrArg _ (by decide), phi_succ m h c ⟨158, hn⟩]
  rw [Pipeline.ΦD_eq, scopedRest0_eq, ownSems0_eq, held_eq]
  unfold After Held
  rw [dif_neg (fun hx => (h c).last _ (coords_val ⟨158, hn⟩) hx.1)]
  unfold Home
  iintro ⟨⟨⟨Q0, Q1, S0, S1, HU, HD⟩, S2, S3⟩, HT, Hg⟩
  isplitl [S0 S1 S2 S3]
  · isplitl [S0]; · iexact S0
    isplitl [S1]; · iexact S1
    isplitl [S2]; · iapply (someU c _); iexact S2
    iapply (someD c _); iexact S3
  isplitl [Hg]; · iexact Hg
  isplitl [Q0 Q1]
  · isplitl [Q0]; · iexact Q0
    iexact Q1
  isplitl [HU]; · iexact HU
  iexact HD

set_option backward.isDefEq.respectTransparency.types false in
theorem run_main : θ_run defs (onTc (τ := τ) (main (F := F))) (s₀ m ρ)
    (fun r => Pipeline.FramePost (Pipeline.pin (pcfgs (F := F)) (fun _ => adm m h)) (dats m h) 0 (V m) r ∧ r.2.sem = fun _ => 0) :=
  Pipeline.θ_run_frameP_dma (Q' := _) pcfgs (fun _ => adm m h) (dats m h) (0 : Fin 1) launch0 osem0 defs₀ Variants.none ownSemFacts0 H0 H0_sub m ρ main
    (hbody := fun c => (body_obligation m h c).loose) (hshare := fun c => (dats m h 0 c).share_full fun _ => rfl)
    (howed := fun _ _ => rfl) (V := V m) (hmain := hmain m Variants.none) (hA := A_eq m h) (hpf := fun c k => pf_eq m c k)
    (hin := phi_in m h) (hout := phi_out m h)

/-! ## The frame -/

theorem V_arg0 (c : Dev nD) : V m c main_arg0 = m ((c.tc : Thread nD τ).loc main_arg0) := by
  show StableHlo.after (stretches (F := F)).flatten (fun b => m (c, b)) (Proc.devRef .tc main_arg0) = _
  simp only [stretches, List.flatten_cons, List.flatten_nil, List.append_nil, StableHlo.after_append]
  entry_read
  rfl

theorem V_arg1 (c : Dev nD) : V m c main_arg1 = m ((c.tc : Thread nD τ).loc main_arg1) := by
  show StableHlo.after (stretches (F := F)).flatten (fun b => m (c, b)) (Proc.devRef .tc main_arg1) = _
  simp only [stretches, List.flatten_cons, List.flatten_nil, List.append_nil, StableHlo.after_append]
  entry_read
  rfl

theorem V_arg2 (c : Dev nD) : V m c main_arg2 = m ((c.tc : Thread nD τ).loc main_arg2) := by
  show StableHlo.after (stretches (F := F)).flatten (fun b => m (c, b)) (Proc.devRef .tc main_arg2) = _
  simp only [stretches, List.flatten_cons, List.flatten_nil, List.append_nil, StableHlo.after_append]
  entry_read
  rfl

theorem V_arg3 (c : Dev nD) : V m c main_arg3 = m ((c.tc : Thread nD τ).loc main_arg3) := by
  show StableHlo.after (stretches (F := F)).flatten (fun b => m (c, b)) (Proc.devRef .tc main_arg3) = _
  simp only [stretches, List.flatten_cons, List.flatten_nil, List.append_nil, StableHlo.after_append]
  entry_read
  rfl

theorem V_arg4 (c : Dev nD) : V m c main_arg4 = m ((c.tc : Thread nD τ).loc main_arg4) := by
  show StableHlo.after (stretches (F := F)).flatten (fun b => m (c, b)) (Proc.devRef .tc main_arg4) = _
  simp only [stretches, List.flatten_cons, List.flatten_nil, List.append_nil, StableHlo.after_append]
  entry_read
  rfl

theorem V_arg5 (c : Dev nD) : V m c main_arg5 = m ((c.tc : Thread nD τ).loc main_arg5) := by
  show StableHlo.after (stretches (F := F)).flatten (fun b => m (c, b)) (Proc.devRef .tc main_arg5) = _
  simp only [stretches, List.flatten_cons, List.flatten_nil, List.append_nil, StableHlo.after_append]
  entry_read
  rfl

theorem rest0 : main_arg0 ∈ Pipeline.restRefs sig spec0 := Pipeline.mem_restRefs_of main_arg0 (by decide) (by decide)
theorem rest2 : main_arg2 ∈ Pipeline.restRefs sig spec0 := Pipeline.mem_restRefs_of main_arg2 (by decide) (by decide)
theorem rest3 : main_arg3 ∈ Pipeline.restRefs sig spec0 := Pipeline.mem_restRefs_of main_arg3 (by decide) (by decide)
theorem rest4 : main_arg4 ∈ Pipeline.restRefs sig spec0 := Pipeline.mem_restRefs_of main_arg4 (by decide) (by decide)
theorem rest5 : main_arg5 ∈ Pipeline.restRefs sig spec0 := Pipeline.mem_restRefs_of main_arg5 (by decide) (by decide)

include h in
theorem frame_of_ok : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hr => ⟨fun c => ⟨((hr.1 c).2 main_arg0 rest0).trans (V_arg0 m c),
      ((hr.1 c).1 0).trans ((((dats m h 0 c).arrAt_in 0 rfl grid0.N)).trans ((A_eq m h c 0).trans (V_arg1 m c))),
      ((hr.1 c).2 main_arg2 rest2).trans (V_arg2 m c),
      ((hr.1 c).2 main_arg3 rest3).trans (V_arg3 m c),
      ((hr.1 c).2 main_arg4 rest4).trans (V_arg4 m c),
      ((hr.1 c).2 main_arg5 rest5).trans (V_arg5 m c)⟩, hr.2⟩) (run_main m ρ h)

end Cert.ExpertsIdeal.Hand

end
-- ==== Proof.TablesExpertsIdeal.lean ====
/- The experts' call: what the host line leaves in the tables. -/
module

public import proofs.«01_k».proof.Proof.FrameExpertsIdeal
public import proofs.«01_k».proof.Proof.WordsExperts

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic

variable {F : FTy → Type} [FloatOps F]

variable (m : (ℓ : Loc nD τ sig) → Buf (Elt F) ℓ)

/-- The experts' row counts. -/
abbrev counts (c : Dev nD) : IVec S32 32 := m ((c.tc : Thread nD τ).loc main_arg0)

set_option maxHeartbeats 1000000 in
theorem V_be (c : Dev nD) : V m c main_v19 = Words.expert (counts m c) := by
  show StableHlo.after (stretches (F := F)).flatten (fun b => m (c, b)) (Proc.devRef .tc main_v19) = _
  simp only [stretches, List.flatten_cons, List.flatten_nil, List.append_nil, StableHlo.after_append]
  entry_read
  simp only [StableHlo.TRef.ofBuf, StableHlo.TRef.toBuf, cast_eq, id]
  simp only [Words.expert, Words.passed, Words.ends, Words.padded, Words.floor32, Words.floor159, Words.starts, Words.all32, Words.all159, Words.halves, Words.before, Words.filled, Words.column, Words.firsts, Words.opens, Words.nextExpert, Words.nextOpen, Words.ahead, Words.marks, Words.slots, Words.runs, Words.take32, Words.take159]
  try rfl

set_option maxHeartbeats 1000000 in
theorem V_live (c : Dev nD) : V m c main_v40 = Words.halves (counts m c) := by
  show StableHlo.after (stretches (F := F)).flatten (fun b => m (c, b)) (Proc.devRef .tc main_v40) = _
  simp only [stretches, List.flatten_cons, List.flatten_nil, List.append_nil, StableHlo.after_append]
  entry_read
  simp only [StableHlo.TRef.ofBuf, StableHlo.TRef.toBuf, cast_eq, id]
  simp only [Words.expert, Words.passed, Words.ends, Words.padded, Words.floor32, Words.floor159, Words.starts, Words.all32, Words.all159, Words.halves, Words.before, Words.filled, Words.column, Words.firsts, Words.opens, Words.nextExpert, Words.nextOpen, Words.ahead, Words.marks, Words.slots, Words.runs, Words.take32, Words.take159]
  try rfl

set_option maxHeartbeats 1000000 in
theorem V_first (c : Dev nD) : V m c main_v72 = Words.firsts (Words.expert (counts m c)) := by
  show StableHlo.after (stretches (F := F)).flatten (fun b => m (c, b)) (Proc.devRef .tc main_v72) = _
  simp only [stretches, List.flatten_cons, List.flatten_nil, List.append_nil, StableHlo.after_append]
  entry_read
  simp only [StableHlo.TRef.ofBuf, StableHlo.TRef.toBuf, cast_eq, id]
  simp only [Words.expert, Words.passed, Words.ends, Words.padded, Words.floor32, Words.floor159, Words.starts, Words.all32, Words.all159, Words.halves, Words.before, Words.filled, Words.column, Words.firsts, Words.opens, Words.nextExpert, Words.nextOpen, Words.ahead, Words.marks, Words.slots, Words.runs, Words.take32, Words.take159]
  try rfl

set_option maxHeartbeats 1000000 in
theorem V_next (c : Dev nD) : V m c main_v65 = Words.nextExpert (Words.expert (counts m c)) := by
  show StableHlo.after (stretches (F := F)).flatten (fun b => m (c, b)) (Proc.devRef .tc main_v65) = _
  simp only [stretches, List.flatten_cons, List.flatten_nil, List.append_nil, StableHlo.after_append]
  entry_read
  simp only [StableHlo.TRef.ofBuf, StableHlo.TRef.toBuf, cast_eq, id]
  simp only [Words.expert, Words.passed, Words.ends, Words.padded, Words.floor32, Words.floor159, Words.starts, Words.all32, Words.all159, Words.halves, Words.before, Words.filled, Words.column, Words.firsts, Words.opens, Words.nextExpert, Words.nextOpen, Words.ahead, Words.marks, Words.slots, Words.runs, Words.take32, Words.take159]
  try rfl

set_option maxHeartbeats 1000000 in
theorem V_slot (c : Dev nD) : V m c main_v71 = Words.slots (Words.expert (counts m c)) := by
  show StableHlo.after (stretches (F := F)).flatten (fun b => m (c, b)) (Proc.devRef .tc main_v71) = _
  simp only [stretches, List.flatten_cons, List.flatten_nil, List.append_nil, StableHlo.after_append]
  entry_read
  simp only [StableHlo.TRef.ofBuf, StableHlo.TRef.toBuf, cast_eq, id]
  simp only [Words.expert, Words.passed, Words.ends, Words.padded, Words.floor32, Words.floor159, Words.starts, Words.all32, Words.all159, Words.halves, Words.before, Words.filled, Words.column, Words.firsts, Words.opens, Words.nextExpert, Words.nextOpen, Words.ahead, Words.marks, Words.slots, Words.runs, Words.take32, Words.take159]
  try rfl

/-- A grid point's number. -/
def num (i : grid0.Coords) : Fin 159 := i 0

theorem off_eq (i : grid0.Coords) : k0_off1 i 0 = (i 0).val := by
  have h : ∀ k : Fin 159, (Scalar.indexCast (BitVec.ofNat 32 k.val) : BitVec 32).toNat = k.val := by decide +kernel
  exact h (i 0)

theorem place_eq (i : grid0.Coords) (y : S159.Idx) (hy : (y 0).val = k0_off1 i 0 + 0 * 1) : y = ValueIdx.ix1 (num i) := by
  funext a
  match a with
  | ⟨0, _⟩ => exact Fin.ext (hy.trans ((Nat.add_zero _).trans (off_eq i)))

theorem word_be (c : Dev nD) (w : IVec S159 32) (i : grid0.Coords) : word (F := F) c tBe w i = w (ValueIdx.ix1 (num i)) :=
  congrArg w (place_eq i _ rfl)

theorem word_live (c : Dev nD) (w : IVec S159 32) (i : grid0.Coords) : word (F := F) c tLive w i = w (ValueIdx.ix1 (num i)) :=
  congrArg w (place_eq i _ rfl)

theorem word_first (c : Dev nD) (w : IVec S159 32) (i : grid0.Coords) : word (F := F) c tFirst w i = w (ValueIdx.ix1 (num i)) :=
  congrArg w (place_eq i _ rfl)

theorem word_next (c : Dev nD) (w : IVec S159 32) (i : grid0.Coords) : word (F := F) c tNext w i = w (ValueIdx.ix1 (num i)) :=
  congrArg w (place_eq i _ rfl)

theorem word_slot (c : Dev nD) (w : IVec S159 32) (i : grid0.Coords) : word (F := F) c tSlot w i = w (ValueIdx.ix1 (num i)) :=
  congrArg w (place_eq i _ rfl)

theorem first_iff (w : BitVec 1) : k0_cond2 (w.setWidth 32) = 1#1 ↔ w = 1#1 := by
  rcases BitVec.eq_zero_or_eq_one w with h | h <;> subst h <;> decide

theorem next_of_lt (w : BitVec 32) (h : w.toNat < 32) : k0_cond3 w = 1#1 := by
  have : ∀ k : Fin 32, k0_cond3 (BitVec.ofNat 32 k.val) = 1#1 := by decide +kernel
  have h2 := this ⟨_, h⟩
  rwa [show BitVec.ofNat 32 w.toNat = w from by rw [BitVec.ofNat_toNat, BitVec.setWidth_eq]] at h2

theorem next_none : k0_cond3 4294967295#32 ≠ 1#1 := by decide

open Words in
/-- The tables of any row counts keep what the switch of weights needs. -/
theorem tab_ok (c : Dev nD) (n : IVec S32 32) : TabOk (F := F) c (expert n) (halves n) (firsts (expert n)) (nextExpert (expert n)) (slots (expert n)) where
  be_lt i := by rw [word_be]; exact expert_lt n _
  slot_lt i := by rw [word_slot]; exact slots_lt _ _
  live i := by rw [word_live]; exact halves_mem n _
  next_lt i := by
    rw [word_next]
    intro h
    rcases nextExpert_mem (expert n) (num i) with h2 | ⟨s, h2⟩
    · rw [h2] at h; exact absurd h next_none
    · rw [h2]; exact expert_lt n s
  start i hi := by
    have h0 : num i = 0 := Fin.ext hi
    rw [word_first, word_slot, h0, firsts_eq, opens_zero, slots_zero]
    exact ⟨(first_iff 1#1).2 rfl, rfl⟩
  stay i j hij' hf := by
    have hij : (num j).val = (num i).val + 1 := hij'
    rw [word_first, firsts_eq, Ne, first_iff] at hf
    rw [word_be, word_be, word_next, word_next, word_slot, word_slot]
    refine ⟨?_, ?_, slots_stay _ _ _ hij hf⟩
    · rw [opens_succ _ _ _ hij, WordCmp.cmpi_ne_eq] at hf
      by_contra hne
      exact hf (by rw [decide_eq_true hne]; rfl)
    · rw [nextExpert_eq, nextExpert_eq, nextOpen_stay _ _ _ hij hf]
  move i j hij' hf := by
    have hij : (num j).val = (num i).val + 1 := hij'
    rw [word_first, firsts_eq, first_iff] at hf
    rw [word_be, word_next, word_slot, word_slot, nextExpert_eq, nextOpen_open _ _ _ hij hf, leads_of]
    exact ⟨next_of_lt _ (expert_lt n _), rfl, slots_move _ _ _ hij hf⟩
  last i hi' := by
    have hi : (num i).val = 158 := hi'
    rw [word_next, nextExpert_eq, nextOpen_last _ _ hi, leads_last]
    exact next_none

theorem ok : Ok m := fun c => by
  rw [V_be, V_live, V_first, V_next, V_slot]
  exact tab_ok c (counts m c)

end Cert.ExpertsIdeal.Hand

end
-- ==== Proof.SpecExperts.lean ====
/- What an expert does to one row, written as a function of the row. -/
module

public import Idealize.ShloMosaic.Lib.Pointwise

@[expose] public section

noncomputable section

namespace Cert.Exp

open Idealize.ShloMosaic

/-- A row through the up matrix, plus the bias. -/
def up (x : Fin 1024 → EReal) (w : Fin 1024 → Fin 2048 → EReal) (b : Fin 2048 → EReal) (j : Fin 2048) : EReal :=
  (∑ i, x i * w i j) + b j

/-- The gate: the first half, cut at seven, times its logistic. -/
def gate (u : Fin 2048 → EReal) (j : Fin 1024) : EReal :=
  min (u ⟨j, by omega⟩) (Ideal.ofBits .f32 0x40E00000#32) *
    Ideal.logistic (Ideal.ofBits .f32 0x3FD9DB23#32 * min (u ⟨j, by omega⟩) (Ideal.ofBits .f32 0x40E00000#32))

/-- The second half, cut at minus seven and at seven, plus one. -/
def lin (u : Fin 2048 → EReal) (j : Fin 1024) : EReal :=
  min (Ideal.ofBits .f32 0x40E00000#32) (max (Ideal.ofBits .f32 0xC0E00000#32) (u ⟨1024 + j, by omega⟩)) +
    Ideal.ofBits .f32 0x3F800000#32

/-- The hidden row. -/
def hid (u : Fin 2048 → EReal) (j : Fin 1024) : EReal := gate u j * lin u j

/-- The hidden row through the down matrix, plus the bias. -/
def down (h : Fin 1024 → EReal) (w : Fin 1024 → Fin 1024 → EReal) (b : Fin 1024 → EReal) (j : Fin 1024) : EReal :=
  (∑ i, h i * w i j) + b j

/-- The whole expert on one row. -/
def rowE (x : Fin 1024 → EReal) (wu : Fin 1024 → Fin 2048 → EReal) (bu : Fin 2048 → EReal)
    (wd : Fin 1024 → Fin 1024 → EReal) (bd : Fin 1024 → EReal) : Fin 1024 → EReal :=
  down (hid (up x wu bu)) wd bd

end Cert.Exp
-- ==== Proof.PayExperts.lean ====
/- The expert kernel's computed values, one payload at a time, read at a row and a lane. -/
module

public import proofs.«01_k».proof.Proof.Gen.ExpertsIdeal.Skeleton
public import proofs.«01_k».proof.Proof.SpecExperts

@[expose] public section

set_option maxRecDepth 16384

noncomputable section

namespace Cert.ExpertsIdeal.Pay

open Idealize.ShloMosaic Idealize.ShloMosaic.TcCoe Idealize.SL.Sem
open Cert.ExpertsIdeal Cert.ExpertsIdeal.Gen Cert.Exp

/-- Eight pieces side by side. -/
def cat (a0 a1 a2 a3 a4 a5 a6 a7 : FVec Ideal S256x128 .f32) : FVec Ideal S256x1024 .f32 :=
  concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩] concatenates_S256x128_S256x128_S256x128_S256x128_S256x128_S256x128_S256x128_S256x128_S256x1024_d1

theorem cat_at (a0 a1 a2 a3 a4 a5 a6 a7 : FVec Ideal S256x128 .f32) (r : Fin 256) (h : Fin 8) (l : Fin 128) :
    cat a0 a1 a2 a3 a4 a5 a6 a7 (ix2 r ⟨h * 128 + l, by omega⟩) =
      (![a0, a1, a2, a3, a4, a5, a6, a7] h : FVec Ideal S256x128 .f32) (ix2 r l) := by
  pointwise [cat]
  fin_cases h <;> simp <;>
    (repeat' first | rw [dif_neg (by omega)] | rw [dif_pos (by omega)]) <;>
    first | rfl | exact congrArg _ (congrArg (ix2 r) (Fin.ext (by simp; try omega)))

/-- A tile of rows through the up matrix. -/
def mmU (v : FVec Ideal S256x1024 .f32) (w : FVec Ideal S1024x2048 .bf16) : FVec Ideal S256x2048 .f32 :=
  matmul dot_S256x1024_S1024x2048_S256x2048_1_0_0_1_n_n none (truncf .bf16 v bitsLt_bf16_f32) w (constant S256x2048 .f32 0x00000000#32)

theorem mmU_at (v : FVec Ideal S256x1024 .f32) (w : FVec Ideal S1024x2048 .bf16) (r : Fin 256) (k : Fin 2048) :
    mmU v w (ix2 r k) = ∑ j : Fin 1024, v (ix2 r j) * w (ix2 j k) := by
  pointwise [mmU]

theorem p11 (a0 a1 a2 a3 a4 a5 a6 a7 : FVec Ideal S256x128 .f32) (w : FVec Ideal S1024x2048 .bf16) :
    k0_pay11 (F := Ideal) a0 a1 a2 a3 a4 a5 a6 a7 w = mmU (cat a0 a1 a2 a3 a4 a5 a6 a7) w := rfl
theorem p18 (a0 a1 a2 a3 a4 a5 a6 a7 : FVec Ideal S256x128 .f32) (w : FVec Ideal S1024x2048 .bf16) :
    k0_pay18 (F := Ideal) a0 a1 a2 a3 a4 a5 a6 a7 w = mmU (cat a0 a1 a2 a3 a4 a5 a6 a7) w := rfl
theorem p21 (a0 a1 a2 a3 a4 a5 a6 a7 : FVec Ideal S256x128 .f32) (w : FVec Ideal S1024x2048 .bf16) :
    k0_pay21 (F := Ideal) a0 a1 a2 a3 a4 a5 a6 a7 w = mmU (cat a0 a1 a2 a3 a4 a5 a6 a7) w := rfl

/-- The up matrix's rows and the bias. -/
def addB (m : FVec Ideal S256x2048 .f32) (b : FVec Ideal S1x1x2048 .f32) : FVec Ideal S256x2048 .f32 :=
  k0_pay20 (F := Ideal) m (k0_pay12 (F := Ideal) b)

theorem addB_at (m : FVec Ideal S256x2048 .f32) (b : FVec Ideal S1x1x2048 .f32) (r : Fin 256) (k : Fin 2048) :
    addB m b (ix2 r k) = m (ix2 r k) + b (ix3 0 0 k) := by
  pointwise [addB, k0_pay20, k0_pay12]

/-- The hidden rows through the down matrix, and the bias. -/
theorem p22 (m : FVec Ideal S256x2048 .f32) (w : FVec Ideal S1024x1024 .bf16) (b : FVec Ideal S1x1x1024 .f32)
    (r : Fin 256) (k : Fin 1024) :
    k0_pay22 (F := Ideal) m w b (ix2 r k) =
      down (hid (fun j => m (ix2 r j))) (fun i j => w (ix2 i j)) (fun j => b (ix3 0 0 j)) k := by
  pointwise [k0_pay22, down, hid, gate, lin]

theorem p13 (m : FVec Ideal S256x2048 .f32) (bu : FVec Ideal S1x1x2048 .f32) (w : FVec Ideal S1024x1024 .bf16)
    (b : FVec Ideal S1x1x1024 .f32) :
    k0_pay13 (F := Ideal) m (k0_pay12 bu) w b = k0_pay22 (addB m bu) w b := rfl
theorem p19 (m : FVec Ideal S256x2048 .f32) (bu : FVec Ideal S1x1x2048 .f32) (w : FVec Ideal S1024x1024 .bf16)
    (b : FVec Ideal S1x1x1024 .f32) :
    k0_pay22 (F := Ideal) (k0_pay20 m (k0_pay19 bu)) w b = k0_pay22 (addB m bu) w b := rfl
theorem p24 (m : FVec Ideal S256x2048 .f32) (bu : FVec Ideal S1x1x2048 .f32) (w : FVec Ideal S1024x1024 .bf16)
    (b : FVec Ideal S1x1x1024 .f32) :
    k0_pay24 (F := Ideal) (k0_pay23 m bu) w b = k0_pay22 (addB m bu) w b := rfl

end Cert.ExpertsIdeal.Pay
-- ==== Proof.OutExperts.lean ====
/- What a step of the expert kernel leaves in its result window, as a function of the blocks. -/
module

public import proofs.«01_k».proof.Proof.BodyExpertsIdeal
public import proofs.«01_k».proof.Proof.PayExperts
public import Idealize.ShloMosaic.Lib.Pipeline.ValueKit

@[expose] public section

set_option maxRecDepth 16384

noncomputable section

namespace Cert.ExpertsIdeal.Out

open Idealize.ShloMosaic Idealize.ShloMosaic.TcCoe Idealize.SL.Sem
open Cert.ExpertsIdeal Cert.ExpertsIdeal.Gen Cert.ExpertsIdeal.Hand Cert.ExpertsIdeal.Pay Cert.Exp

/-- The row of a tile a place of its window belongs to. -/
def rowOf (y : S4096x128.Idx) : Fin 512 := ⟨(y 0).val / 8, by have : (y 0).val < 4096 := (y 0).isLt; omega⟩
/-- The lane. -/
def laneOf (y : S4096x128.Idx) : Fin 1024 :=
  ⟨(y 0).val % 8 * 128 + (y 1).val, by have : (y 1).val < 128 := (y 1).isLt; omega⟩

/-- Row `r` of a window of eight lines a row. -/
def xRow (x : FVec Ideal S4096x128 .f32) (r : Fin 512) (j : Fin 1024) : EReal :=
  x (ix2 ⟨8 * r.val + j.val / 128, by omega⟩ ⟨j.val % 128, by omega⟩)

/-- Row `r` of a tile, through the expert whose matrices are at hand. -/
def rowAt (x : FVec Ideal S4096x128 .f32) (bu : FVec Ideal S1x1x2048 .f32) (bd : FVec Ideal S1x1x1024 .f32)
    (wU : FVec Ideal S1024x2048 .bf16) (wD : FVec Ideal S1024x1024 .bf16) (r : Fin 512) : Fin 1024 → EReal :=
  rowE (xRow x r) (fun i j => wU (ix2 i j)) (fun j => bu (ix3 0 0 j)) (fun i j => wD (ix2 i j)) (fun j => bd (ix3 0 0 j))

/-- A tile's rows of which the first `l` halves are live. -/
def outSpec (l : ℕ) (x : FVec Ideal S4096x128 .f32) (bu : FVec Ideal S1x1x2048 .f32) (bd : FVec Ideal S1x1x1024 .f32)
    (wU : FVec Ideal S1024x2048 .bf16) (wD : FVec Ideal S1024x1024 .bf16) (r : Fin 512) (k : Fin 1024) : EReal :=
  if r.val < 256 * l then rowAt x bu bd wU wD r k else Ideal.ofBits .f32 0x00000000#32

theorem outSpec_live (l : ℕ) (x : FVec Ideal S4096x128 .f32) (bu : FVec Ideal S1x1x2048 .f32) (bd : FVec Ideal S1x1x1024 .f32)
    (wU : FVec Ideal S1024x2048 .bf16) (wD : FVec Ideal S1024x1024 .bf16) (r : Fin 512) (k : Fin 1024) (h : r.val < 256 * l) :
    outSpec l x bu bd wU wD r k = rowAt x bu bd wU wD r k := if_pos h

theorem outSpec_zero (l : ℕ) (x : FVec Ideal S4096x128 .f32) (bu : FVec Ideal S1x1x2048 .f32) (bd : FVec Ideal S1x1x1024 .f32)
    (wU : FVec Ideal S1024x2048 .bf16) (wD : FVec Ideal S1024x1024 .bf16) (r : Fin 512) (k : Fin 1024) (h : 256 * l ≤ r.val) :
    outSpec l x bu bd wU wD r k = Ideal.ofBits .f32 0x00000000#32 := if_neg (by omega)

theorem ldU (w : FVec Ideal S1024x2048 .bf16) : View.ld (Val := Elt Ideal) (e' := .bf16) w rWU = w := by
  funext y
  refine congrArg w (funext fun a => Fin.ext ?_)
  match a with
  | ⟨0, _⟩ => show 0 + 1 * (y 0).val = (y 0).val; omega
  | ⟨1, _⟩ => show 0 + 1 * (y 1).val = (y 1).val; omega
theorem ldD (w : FVec Ideal S1024x1024 .bf16) : View.ld (Val := Elt Ideal) (e' := .bf16) w rWD = w := by
  funext y
  refine congrArg w (funext fun a => Fin.ext ?_)
  match a with
  | ⟨0, _⟩ => show 0 + 1 * (y 0).val = (y 0).val; omega
  | ⟨1, _⟩ => show 0 + 1 * (y 1).val = (y 1).val; omega
theorem ldBU (w : FVec Ideal S1x1x2048 .f32) : View.ld (Val := Elt Ideal) (e' := .f32) w rBU = w := by
  funext y
  refine congrArg w (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem ldBD (w : FVec Ideal S1x1x1024 .f32) : View.ld (Val := Elt Ideal) (e' := .f32) w rBD = w := by
  funext y
  refine congrArg w (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- One line of eight of every row of a half. -/
abbrev eight (x : FVec Ideal S4096x128 .f32) (r : Rect S4096x128) := View.ld (Val := Elt Ideal) (e' := .f32) x r

theorem cat0 (x : FVec Ideal S4096x128 .f32) (r : Fin 256) (j : Fin 1024) :
    cat (eight x s0_0) (eight x s0_1) (eight x s0_2) (eight x s0_3) (eight x s0_4) (eight x s0_5) (eight x s0_6) (eight x s0_7) (ix2 r j) = xRow x ⟨256 * 0 + r.val, by omega⟩ j := by
  have hj : j = ⟨(⟨j.val / 128, by omega⟩ : Fin 8).val * 128 + (⟨j.val % 128, by omega⟩ : Fin 128).val, by simp; omega⟩ := Fin.ext (by simp; omega)
  refine (congrArg (fun k => cat (eight x s0_0) (eight x s0_1) (eight x s0_2) (eight x s0_3) (eight x s0_4) (eight x s0_5) (eight x s0_6) (eight x s0_7) (ix2 r k)) hj).trans ((cat_at _ _ _ _ _ _ _ _ r _ _).trans ?_)
  unfold xRow
  generalize hl : (⟨j.val % 128, by omega⟩ : Fin 128) = l
  have hh : ∀ h : Fin 8, (![eight x s0_0, eight x s0_1, eight x s0_2, eight x s0_3, eight x s0_4, eight x s0_5, eight x s0_6, eight x s0_7] h : FVec Ideal S256x128 .f32) (ix2 r l) =
      x (ix2 ⟨8 * (256 * 0 + r.val) + h.val, by omega⟩ l) := by
    intro h
    fin_cases h
    all_goals
      refine congrArg x (funext fun a => Fin.ext ?_)
      match a with
      | ⟨0, _⟩ =>
        first
        | (show 0 + 1 * 0 + 1 * 8 * r.val = 8 * (256 * 0 + r.val) + 0; omega)
        | (show 0 + 1 * 1 + 1 * 8 * r.val = 8 * (256 * 0 + r.val) + 1; omega)
        | (show 0 + 1 * 2 + 1 * 8 * r.val = 8 * (256 * 0 + r.val) + 2; omega)
        | (show 0 + 1 * 3 + 1 * 8 * r.val = 8 * (256 * 0 + r.val) + 3; omega)
        | (show 0 + 1 * 4 + 1 * 8 * r.val = 8 * (256 * 0 + r.val) + 4; omega)
        | (show 0 + 1 * 5 + 1 * 8 * r.val = 8 * (256 * 0 + r.val) + 5; omega)
        | (show 0 + 1 * 6 + 1 * 8 * r.val = 8 * (256 * 0 + r.val) + 6; omega)
        | (show 0 + 1 * 7 + 1 * 8 * r.val = 8 * (256 * 0 + r.val) + 7; omega)
      | ⟨1, _⟩ => show 0 + 1 * 0 + 1 * 1 * l.val = l.val; omega
  exact hh _

theorem cat1 (x : FVec Ideal S4096x128 .f32) (r : Fin 256) (j : Fin 1024) :
    cat (eight x s1_0) (eight x s1_1) (eight x s1_2) (eight x s1_3) (eight x s1_4) (eight x s1_5) (eight x s1_6) (eight x s1_7) (ix2 r j) = xRow x ⟨256 * 1 + r.val, by omega⟩ j := by
  have hj : j = ⟨(⟨j.val / 128, by omega⟩ : Fin 8).val * 128 + (⟨j.val % 128, by omega⟩ : Fin 128).val, by simp; omega⟩ := Fin.ext (by simp; omega)
  refine (congrArg (fun k => cat (eight x s1_0) (eight x s1_1) (eight x s1_2) (eight x s1_3) (eight x s1_4) (eight x s1_5) (eight x s1_6) (eight x s1_7) (ix2 r k)) hj).trans ((cat_at _ _ _ _ _ _ _ _ r _ _).trans ?_)
  unfold xRow
  generalize hl : (⟨j.val % 128, by omega⟩ : Fin 128) = l
  have hh : ∀ h : Fin 8, (![eight x s1_0, eight x s1_1, eight x s1_2, eight x s1_3, eight x s1_4, eight x s1_5, eight x s1_6, eight x s1_7] h : FVec Ideal S256x128 .f32) (ix2 r l) =
      x (ix2 ⟨8 * (256 * 1 + r.val) + h.val, by omega⟩ l) := by
    intro h
    fin_cases h
    all_goals
      refine congrArg x (funext fun a => Fin.ext ?_)
      match a with
      | ⟨0, _⟩ =>
        first
        | (show 2048 + 1 * 0 + 1 * 8 * r.val = 8 * (256 * 1 + r.val) + 0; omega)
        | (show 2048 + 1 * 1 + 1 * 8 * r.val = 8 * (256 * 1 + r.val) + 1; omega)
        | (show 2048 + 1 * 2 + 1 * 8 * r.val = 8 * (256 * 1 + r.val) + 2; omega)
        | (show 2048 + 1 * 3 + 1 * 8 * r.val = 8 * (256 * 1 + r.val) + 3; omega)
        | (show 2048 + 1 * 4 + 1 * 8 * r.val = 8 * (256 * 1 + r.val) + 4; omega)
        | (show 2048 + 1 * 5 + 1 * 8 * r.val = 8 * (256 * 1 + r.val) + 5; omega)
        | (show 2048 + 1 * 6 + 1 * 8 * r.val = 8 * (256 * 1 + r.val) + 6; omega)
        | (show 2048 + 1 * 7 + 1 * 8 * r.val = 8 * (256 * 1 + r.val) + 7; omega)
      | ⟨1, _⟩ => show 0 + 1 * 0 + 1 * 1 * l.val = l.val; omega
  exact hh _

theorem upA_at (x : FVec Ideal S4096x128 .f32) (wU : FVec Ideal S1024x2048 .bf16) (r : Fin 256) (k : Fin 2048) :
    upA (F := Ideal) x wU (ix2 r k) = ∑ j : Fin 1024, xRow x ⟨256 * 0 + r.val, by omega⟩ j * wU (ix2 j k) := by
  unfold upA
  refine (congrFun (p11 _ _ _ _ _ _ _ _ _) (ix2 r k)).trans ((mmU_at _ _ r k).trans ?_)
  exact Finset.sum_congr rfl fun j _ => congrArg₂ (· * ·) (cat0 x r j) (congrFun (ldU wU) (ix2 j k))
theorem upA'_at (x : FVec Ideal S4096x128 .f32) (wU : FVec Ideal S1024x2048 .bf16) (r : Fin 256) (k : Fin 2048) :
    upA' (F := Ideal) x wU (ix2 r k) = ∑ j : Fin 1024, xRow x ⟨256 * 0 + r.val, by omega⟩ j * wU (ix2 j k) := by
  unfold upA'
  refine (congrFun (p18 _ _ _ _ _ _ _ _ _) (ix2 r k)).trans ((mmU_at _ _ r k).trans ?_)
  exact Finset.sum_congr rfl fun j _ => congrArg₂ (· * ·) (cat0 x r j) (congrFun (ldU wU) (ix2 j k))
theorem upB_at (x : FVec Ideal S4096x128 .f32) (wU : FVec Ideal S1024x2048 .bf16) (r : Fin 256) (k : Fin 2048) :
    upB (F := Ideal) x wU (ix2 r k) = ∑ j : Fin 1024, xRow x ⟨256 * 1 + r.val, by omega⟩ j * wU (ix2 j k) := by
  unfold upB
  refine (congrFun (p21 _ _ _ _ _ _ _ _ _) (ix2 r k)).trans ((mmU_at _ _ r k).trans ?_)
  exact Finset.sum_congr rfl fun j _ => congrArg₂ (· * ·) (cat1 x r j) (congrFun (ldU wU) (ix2 j k))

/-- A half's rows, from what its up product holds. -/
theorem half_at (m : FVec Ideal S256x2048 .f32) (x : FVec Ideal S4096x128 .f32) (bu : FVec Ideal S1x1x2048 .f32) (bd : FVec Ideal S1x1x1024 .f32)
    (wU : FVec Ideal S1024x2048 .bf16) (wD : FVec Ideal S1024x1024 .bf16) (r : Fin 256) (R : Fin 512)
    (hm : ∀ k, m (ix2 r k) = ∑ j : Fin 1024, xRow x R j * wU (ix2 j k)) (k : Fin 1024) :
    k0_pay22 (F := Ideal) (addB m bu) wD bd (ix2 r k) = rowAt x bu bd wU wD R k := by
  rw [p22]
  unfold rowAt rowE
  refine congrArg (fun u => down (hid u) _ _ k) (funext fun j => ?_)
  rw [addB_at, hm]
  rfl

variable (x : FVec Ideal S4096x128 .f32) (bu : FVec Ideal S1x1x2048 .f32) (bd : FVec Ideal S1x1x1024 .f32) (wU : FVec Ideal S1024x2048 .bf16) (wD : FVec Ideal S1024x1024 .bf16)

theorem one_at (r : Fin 256) (k : Fin 1024) :
    k0_pay13 (F := Ideal) (upA x wU) (k0_pay12 (View.ld (Val := Elt Ideal) (e' := .f32) bu rBU)) (View.ld (Val := Elt Ideal) (e' := .bf16) wD rWD) (View.ld (Val := Elt Ideal) (e' := .f32) bd rBD) (ix2 r k) =
      outSpec 1 x bu bd wU wD ⟨256 * (0 : Fin 2) + r, by simp; omega⟩ k := by
  rw [ldBU, ldD, ldBD, p13]
  refine (half_at _ x bu bd wU wD r ⟨256 * (0 : Fin 2) + r, by simp; omega⟩ (fun k => upA_at x wU r k) k).trans
    (outSpec_live _ _ _ _ _ _ _ _ ?_).symm
  show 256 * 0 + r.val < 256 * 1
  omega
theorem top_at (r : Fin 256) (k : Fin 1024) :
    downA (F := Ideal) x bu bd wU wD (ix2 r k) = outSpec 2 x bu bd wU wD ⟨256 * (0 : Fin 2) + r, by simp; omega⟩ k := by
  unfold downA
  rw [ldBU, ldD, ldBD, p19]
  refine (half_at _ x bu bd wU wD r ⟨256 * (0 : Fin 2) + r, by simp; omega⟩ (fun k => upA'_at x wU r k) k).trans
    (outSpec_live _ _ _ _ _ _ _ _ ?_).symm
  show 256 * 0 + r.val < 256 * 2
  omega
theorem bot_at (r : Fin 256) (k : Fin 1024) :
    downB (F := Ideal) x bu bd wU wD (ix2 r k) = outSpec 2 x bu bd wU wD ⟨256 * (1 : Fin 2) + r, by simp; omega⟩ k := by
  unfold downB
  rw [ldBU, ldD, ldBD, p24]
  refine (half_at _ x bu bd wU wD r ⟨256 * (1 : Fin 2) + r, by simp; omega⟩ (fun k => upB_at x wU r k) k).trans
    (outSpec_live _ _ _ _ _ _ _ _ ?_).symm
  show 256 * 1 + r.val < 256 * 2
  omega

theorem pay6_at (y : S2048x128.Idx) : k0_pay6 (F := Ideal) y = Ideal.ofBits .f32 0x00000000#32 := rfl
theorem pay1_at (y : S4096x128.Idx) : k0_pay1 (F := Ideal) y = Ideal.ofBits .f32 0x00000000#32 := rfl

/-- One strided store: line `j` of half `h`. -/
theorem slice_at (N : FVec Ideal S256x1024 .f32) (p : FVec Ideal S256x128 .f32) (B : Fin 512 → Fin 1024 → EReal)
    (h : Fin 2) (j : Fin 8) (hN : ∀ (r : Fin 256) (k : Fin 1024), N (ix2 r k) = B ⟨256 * h + r, by omega⟩ k)
    (hp : ∀ (r : Fin 256) (l : Fin 128), p (ix2 r l) = N (ix2 r ⟨128 * j + l, by omega⟩))
    (x : S256x128.Idx) (y : S4096x128.Idx) (h0 : (y 0).val = 2048 * h + j + 8 * (x 0).val) (h1 : (y 1).val = (x 1).val) :
    p x = B (rowOf y) (laneOf y) := by
  refine (congrArg p (eq_ix2 x)).trans ((hp (x 0) (x 1)).trans ((hN _ _).trans ?_))
  refine congrArg₂ B (Fin.ext ?_) (Fin.ext ?_)
  · show 256 * h.val + (x 0).val = (y 0).val / 8; omega
  · show 128 * j.val + (x 1).val = (y 0).val % 8 * 128 + (y 1).val; omega

theorem line_eq (b j : ℕ) (n : Fin 256) : b + 1 * j + 1 * 8 * n.val = b + j + 8 * n.val := by omega
theorem lane_eq (x : S256x128.Idx) : 0 + 1 * 0 + 1 * 1 * (x 1).val = (x 1).val := by omega

theorem s2 (N : FVec Ideal S256x1024 .f32) (r : Fin 256) (l : Fin 128) :
    k0_pay2 (F := Ideal) N (ix2 r l) = N (ix2 r ⟨128 * (4 : Fin 8) + l, by simp; omega⟩) := by
  pointwise [k0_pay2]
theorem s3 (N : FVec Ideal S256x1024 .f32) (r : Fin 256) (l : Fin 128) :
    k0_pay3 (F := Ideal) N (ix2 r l) = N (ix2 r ⟨128 * (5 : Fin 8) + l, by simp; omega⟩) := by
  pointwise [k0_pay3]
theorem s4 (N : FVec Ideal S256x1024 .f32) (r : Fin 256) (l : Fin 128) :
    k0_pay4 (F := Ideal) N (ix2 r l) = N (ix2 r ⟨128 * (6 : Fin 8) + l, by simp; omega⟩) := by
  pointwise [k0_pay4]
theorem s5 (N : FVec Ideal S256x1024 .f32) (r : Fin 256) (l : Fin 128) :
    k0_pay5 (F := Ideal) N (ix2 r l) = N (ix2 r ⟨128 * (7 : Fin 8) + l, by simp; omega⟩) := by
  pointwise [k0_pay5]
theorem s7 (N : FVec Ideal S256x1024 .f32) (r : Fin 256) (l : Fin 128) :
    k0_pay7 (F := Ideal) N (ix2 r l) = N (ix2 r ⟨128 * (6 : Fin 8) + l, by simp; omega⟩) := by
  pointwise [k0_pay7]
theorem s8 (N : FVec Ideal S256x1024 .f32) (r : Fin 256) (l : Fin 128) :
    k0_pay8 (F := Ideal) N (ix2 r l) = N (ix2 r ⟨128 * (7 : Fin 8) + l, by simp; omega⟩) := by
  pointwise [k0_pay8]
theorem s25 (N : FVec Ideal S256x1024 .f32) (r : Fin 256) (l : Fin 128) :
    k0_pay25 (F := Ideal) N (ix2 r l) = N (ix2 r ⟨128 * (0 : Fin 8) + l, by simp; omega⟩) := by
  pointwise [k0_pay25]
theorem s26 (N : FVec Ideal S256x1024 .f32) (r : Fin 256) (l : Fin 128) :
    k0_pay26 (F := Ideal) N (ix2 r l) = N (ix2 r ⟨128 * (1 : Fin 8) + l, by simp; omega⟩) := by
  pointwise [k0_pay26]
theorem s27 (N : FVec Ideal S256x1024 .f32) (r : Fin 256) (l : Fin 128) :
    k0_pay27 (F := Ideal) N (ix2 r l) = N (ix2 r ⟨128 * (2 : Fin 8) + l, by simp; omega⟩) := by
  pointwise [k0_pay27]
theorem s28 (N : FVec Ideal S256x1024 .f32) (r : Fin 256) (l : Fin 128) :
    k0_pay28 (F := Ideal) N (ix2 r l) = N (ix2 r ⟨128 * (3 : Fin 8) + l, by simp; omega⟩) := by
  pointwise [k0_pay28]
theorem s29 (N : FVec Ideal S256x1024 .f32) (r : Fin 256) (l : Fin 128) :
    k0_pay29 (F := Ideal) N (ix2 r l) = N (ix2 r ⟨128 * (4 : Fin 8) + l, by simp; omega⟩) := by
  pointwise [k0_pay29]
theorem s30 (N : FVec Ideal S256x1024 .f32) (r : Fin 256) (l : Fin 128) :
    k0_pay30 (F := Ideal) N (ix2 r l) = N (ix2 r ⟨128 * (5 : Fin 8) + l, by simp; omega⟩) := by
  pointwise [k0_pay30]
theorem s31 (N : FVec Ideal S256x1024 .f32) (r : Fin 256) (l : Fin 128) :
    k0_pay31 (F := Ideal) N (ix2 r l) = N (ix2 r ⟨128 * (6 : Fin 8) + l, by simp; omega⟩) := by
  pointwise [k0_pay31]
theorem s32 (N : FVec Ideal S256x1024 .f32) (r : Fin 256) (l : Fin 128) :
    k0_pay32 (F := Ideal) N (ix2 r l) = N (ix2 r ⟨128 * (7 : Fin 8) + l, by simp; omega⟩) := by
  pointwise [k0_pay32]
theorem s33 (N : FVec Ideal S256x1024 .f32) (r : Fin 256) (l : Fin 128) :
    k0_pay33 (F := Ideal) N (ix2 r l) = N (ix2 r ⟨128 * (0 : Fin 8) + l, by simp; omega⟩) := by
  pointwise [k0_pay33]
theorem s34 (N : FVec Ideal S256x1024 .f32) (r : Fin 256) (l : Fin 128) :
    k0_pay34 (F := Ideal) N (ix2 r l) = N (ix2 r ⟨128 * (1 : Fin 8) + l, by simp; omega⟩) := by
  pointwise [k0_pay34]
theorem s35 (N : FVec Ideal S256x1024 .f32) (r : Fin 256) (l : Fin 128) :
    k0_pay35 (F := Ideal) N (ix2 r l) = N (ix2 r ⟨128 * (2 : Fin 8) + l, by simp; omega⟩) := by
  pointwise [k0_pay35]
theorem s36 (N : FVec Ideal S256x1024 .f32) (r : Fin 256) (l : Fin 128) :
    k0_pay36 (F := Ideal) N (ix2 r l) = N (ix2 r ⟨128 * (3 : Fin 8) + l, by simp; omega⟩) := by
  pointwise [k0_pay36]
theorem s37 (N : FVec Ideal S256x1024 .f32) (r : Fin 256) (l : Fin 128) :
    k0_pay37 (F := Ideal) N (ix2 r l) = N (ix2 r ⟨128 * (4 : Fin 8) + l, by simp; omega⟩) := by
  pointwise [k0_pay37]
theorem s38 (N : FVec Ideal S256x1024 .f32) (r : Fin 256) (l : Fin 128) :
    k0_pay38 (F := Ideal) N (ix2 r l) = N (ix2 r ⟨128 * (5 : Fin 8) + l, by simp; omega⟩) := by
  pointwise [k0_pay38]
theorem s14 (m : FVec Ideal S256x2048 .f32) (b : FVec Ideal S1x2048 .f32) (w : FVec Ideal S1024x1024 .bf16) (d : FVec Ideal S1x1x1024 .f32) (r : Fin 256) (l : Fin 128) :
    k0_pay14 (F := Ideal) m b w d (ix2 r l) = k0_pay13 m b w d (ix2 r ⟨128 * (0 : Fin 8) + l, by simp; omega⟩) := by
  pointwise [k0_pay14]
theorem s15 (m : FVec Ideal S256x2048 .f32) (b : FVec Ideal S1x2048 .f32) (w : FVec Ideal S1024x1024 .bf16) (d : FVec Ideal S1x1x1024 .f32) (r : Fin 256) (l : Fin 128) :
    k0_pay15 (F := Ideal) m b w d (ix2 r l) = k0_pay13 m b w d (ix2 r ⟨128 * (1 : Fin 8) + l, by simp; omega⟩) := by
  pointwise [k0_pay15]
theorem s16 (m : FVec Ideal S256x2048 .f32) (b : FVec Ideal S1x2048 .f32) (w : FVec Ideal S1024x1024 .bf16) (d : FVec Ideal S1x1x1024 .f32) (r : Fin 256) (l : Fin 128) :
    k0_pay16 (F := Ideal) m b w d (ix2 r l) = k0_pay13 m b w d (ix2 r ⟨128 * (2 : Fin 8) + l, by simp; omega⟩) := by
  pointwise [k0_pay16]
theorem s17 (m : FVec Ideal S256x2048 .f32) (b : FVec Ideal S1x2048 .f32) (w : FVec Ideal S1024x1024 .bf16) (d : FVec Ideal S1x1x1024 .f32) (r : Fin 256) (l : Fin 128) :
    k0_pay17 (F := Ideal) m b w d (ix2 r l) = k0_pay13 m b w d (ix2 r ⟨128 * (3 : Fin 8) + l, by simp; omega⟩) := by
  pointwise [k0_pay17]

/-- A block with one live half: the second half's rows are zero. -/
theorem out1_at (y : S4096x128.Idx) :
    out1 (F := Ideal) x bu bd wU wD y = outSpec 1 x bu bd wU wD (rowOf y) (laneOf y) := by
  unfold out1
  refine View.canon_apply_of_pieces (Val := Elt Ideal) (e := .f32) (fun y => outSpec 1 x bu bd wU wD (rowOf y) (laneOf y)) _ ?_ y
    (cover_one _ _ _ _ _ _ _ _ _ y)
  intro p hp
  simp only [List.mem_cons, List.not_mem_nil, or_false] at hp
  rcases hp with rfl | rfl | rfl | rfl | rfl | rfl | rfl | rfl | rfl
  · intro x
    refine (pay6_at x).trans (outSpec_zero _ _ _ _ _ _ _ _ ?_).symm
    show 256 * 1 ≤ (2048 + 1 * (x 0).val) / 8
    omega
  · intro x'
    refine slice_at _ _ (outSpec 1 x bu bd wU wD) 0 7 (one_at x bu bd wU wD) (s5 _) x' _ ?_ ?_
    · exact line_eq 0 7 (x' 0)
    · exact lane_eq x'
  · intro x'
    refine slice_at _ _ (outSpec 1 x bu bd wU wD) 0 6 (one_at x bu bd wU wD) (s4 _) x' _ ?_ ?_
    · exact line_eq 0 6 (x' 0)
    · exact lane_eq x'
  · intro x'
    refine slice_at _ _ (outSpec 1 x bu bd wU wD) 0 5 (one_at x bu bd wU wD) (s3 _) x' _ ?_ ?_
    · exact line_eq 0 5 (x' 0)
    · exact lane_eq x'
  · intro x'
    refine slice_at _ _ (outSpec 1 x bu bd wU wD) 0 4 (one_at x bu bd wU wD) (s2 _) x' _ ?_ ?_
    · exact line_eq 0 4 (x' 0)
    · exact lane_eq x'
  · intro x'
    refine slice_at _ _ (outSpec 1 x bu bd wU wD) 0 3 (one_at x bu bd wU wD) (s17 _ _ _ _) x' _ ?_ ?_
    · exact line_eq 0 3 (x' 0)
    · exact lane_eq x'
  · intro x'
    refine slice_at _ _ (outSpec 1 x bu bd wU wD) 0 2 (one_at x bu bd wU wD) (s16 _ _ _ _) x' _ ?_ ?_
    · exact line_eq 0 2 (x' 0)
    · exact lane_eq x'
  · intro x'
    refine slice_at _ _ (outSpec 1 x bu bd wU wD) 0 1 (one_at x bu bd wU wD) (s15 _ _ _ _) x' _ ?_ ?_
    · exact line_eq 0 1 (x' 0)
    · exact lane_eq x'
  · intro x'
    refine slice_at _ _ (outSpec 1 x bu bd wU wD) 0 0 (one_at x bu bd wU wD) (s14 _ _ _ _) x' _ ?_ ?_
    · exact line_eq 0 0 (x' 0)
    · exact lane_eq x'

/-- A block with both halves live. -/
theorem out2_at (y : S4096x128.Idx) :
    out2 (F := Ideal) x bu bd wU wD y = outSpec 2 x bu bd wU wD (rowOf y) (laneOf y) := by
  unfold out2
  refine View.canon_apply_of_pieces (Val := Elt Ideal) (e := .f32) (fun y => outSpec 2 x bu bd wU wD (rowOf y) (laneOf y)) _ ?_ y
    (cover_two _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · intro x'
    refine slice_at (downB x bu bd wU wD) _ (outSpec 2 x bu bd wU wD) 1 7 (bot_at x bu bd wU wD) (s8 _) x' _ ?_ ?_
    · exact line_eq 2048 7 (x' 0)
    · exact lane_eq x'
  · intro x'
    refine slice_at (downB x bu bd wU wD) _ (outSpec 2 x bu bd wU wD) 1 6 (bot_at x bu bd wU wD) (s7 _) x' _ ?_ ?_
    · exact line_eq 2048 6 (x' 0)
    · exact lane_eq x'
  · intro x'
    refine slice_at (downB x bu bd wU wD) _ (outSpec 2 x bu bd wU wD) 1 5 (bot_at x bu bd wU wD) (s38 _) x' _ ?_ ?_
    · exact line_eq 2048 5 (x' 0)
    · exact lane_eq x'
  · intro x'
    refine slice_at (downB x bu bd wU wD) _ (outSpec 2 x bu bd wU wD) 1 4 (bot_at x bu bd wU wD) (s37 _) x' _ ?_ ?_
    · exact line_eq 2048 4 (x' 0)
    · exact lane_eq x'
  · intro x'
    refine slice_at (downB x bu bd wU wD) _ (outSpec 2 x bu bd wU wD) 1 3 (bot_at x bu bd wU wD) (s36 _) x' _ ?_ ?_
    · exact line_eq 2048 3 (x' 0)
    · exact lane_eq x'
  · intro x'
    refine slice_at (downB x bu bd wU wD) _ (outSpec 2 x bu bd wU wD) 1 2 (bot_at x bu bd wU wD) (s35 _) x' _ ?_ ?_
    · exact line_eq 2048 2 (x' 0)
    · exact lane_eq x'
  · intro x'
    refine slice_at (downB x bu bd wU wD) _ (outSpec 2 x bu bd wU wD) 1 1 (bot_at x bu bd wU wD) (s34 _) x' _ ?_ ?_
    · exact line_eq 2048 1 (x' 0)
    · exact lane_eq x'
  · intro x'
    refine slice_at (downB x bu bd wU wD) _ (outSpec 2 x bu bd wU wD) 1 0 (bot_at x bu bd wU wD) (s33 _) x' _ ?_ ?_
    · exact line_eq 2048 0 (x' 0)
    · exact lane_eq x'
  · intro x'
    refine slice_at (downA x bu bd wU wD) _ (outSpec 2 x bu bd wU wD) 0 7 (top_at x bu bd wU wD) (s32 _) x' _ ?_ ?_
    · exact line_eq 0 7 (x' 0)
    · exact lane_eq x'
  · intro x'
    refine slice_at (downA x bu bd wU wD) _ (outSpec 2 x bu bd wU wD) 0 6 (top_at x bu bd wU wD) (s31 _) x' _ ?_ ?_
    · exact line_eq 0 6 (x' 0)
    · exact lane_eq x'
  · intro x'
    refine slice_at (downA x bu bd wU wD) _ (outSpec 2 x bu bd wU wD) 0 5 (top_at x bu bd wU wD) (s30 _) x' _ ?_ ?_
    · exact line_eq 0 5 (x' 0)
    · exact lane_eq x'
  · intro x'
    refine slice_at (downA x bu bd wU wD) _ (outSpec 2 x bu bd wU wD) 0 4 (top_at x bu bd wU wD) (s29 _) x' _ ?_ ?_
    · exact line_eq 0 4 (x' 0)
    · exact lane_eq x'
  · intro x'
    refine slice_at (downA x bu bd wU wD) _ (outSpec 2 x bu bd wU wD) 0 3 (top_at x bu bd wU wD) (s28 _) x' _ ?_ ?_
    · exact line_eq 0 3 (x' 0)
    · exact lane_eq x'
  · intro x'
    refine slice_at (downA x bu bd wU wD) _ (outSpec 2 x bu bd wU wD) 0 2 (top_at x bu bd wU wD) (s27 _) x' _ ?_ ?_
    · exact line_eq 0 2 (x' 0)
    · exact lane_eq x'
  · intro x'
    refine slice_at (downA x bu bd wU wD) _ (outSpec 2 x bu bd wU wD) 0 1 (top_at x bu bd wU wD) (s26 _) x' _ ?_ ?_
    · exact line_eq 0 1 (x' 0)
    · exact lane_eq x'
  · intro x'
    refine slice_at (downA x bu bd wU wD) _ (outSpec 2 x bu bd wU wD) 0 0 (top_at x bu bd wU wD) (s25 _) x' _ ?_ ?_
    · exact line_eq 0 0 (x' 0)
    · exact lane_eq x'

/-- A block with no live row. -/
theorem out0_at (y : S4096x128.Idx) :
    out0 (F := Ideal) y = outSpec 0 x bu bd wU wD (rowOf y) (laneOf y) := by
  unfold out0
  refine View.canon_apply_of_pieces (Val := Elt Ideal) (e := .f32) (fun y => outSpec 0 x bu bd wU wD (rowOf y) (laneOf y)) _ ?_ y
    (cover_all _ y)
  intro p hp
  simp only [List.mem_cons, List.not_mem_nil, or_false] at hp
  subst hp
  intro x'
  exact (pay1_at x').trans (outSpec_zero _ _ _ _ _ _ _ _ (by omega)).symm

/-- The window after a step, whatever the number of its live halves. -/
theorem outOf_at (lv : BitVec 32) (hlv : lv = 0#32 ∨ lv = 1#32 ∨ lv = 2#32) (x : FVec Ideal S4096x128 .f32) (bu : FVec Ideal S1x1x2048 .f32) (bd : FVec Ideal S1x1x1024 .f32) (wU : FVec Ideal S1024x2048 .bf16) (wD : FVec Ideal S1024x1024 .bf16) (y : S4096x128.Idx) :
    outOf (F := Ideal) lv x bu bd wU wD y = outSpec lv.toNat x bu bd wU wD (rowOf y) (laneOf y) := by
  unfold outOf
  rcases hlv with rfl | rfl | rfl
  · exact out0_at x bu bd wU wD y
  · exact out1_at x bu bd wU wD y
  · exact out2_at x bu bd wU wD y

end Cert.ExpertsIdeal.Out
-- ==== Proof.ArrayExperts.lean ====
/- The experts' whole result: each block's live rows through the block's expert, the others zero. -/
module

public import proofs.«01_k».proof.Proof.WordsExperts
public import proofs.«01_k».proof.Proof.SpecExperts

@[expose] public section

set_option maxRecDepth 16384

noncomputable section

namespace Cert.Exp

open Idealize.ShloMosaic

/-- The expert of block `b`. -/
def who (n : IVec (Routing.shape1 32) 32) (b : Fin 159) : Fin 32 :=
  ⟨(Words.expert n (ValueIdx.ix1 b)).toNat, Words.expert_lt n b⟩

/-- Row `r` of block `b`, its lanes lying in eight lines of 128. -/
def rowIn (A1 : FVec Ideal ⟨2, ![651264, 128]⟩ .f32) (b : Fin 159) (r : Fin 512) (j : Fin 1024) : EReal :=
  A1 (ix2 ⟨b.val * 4096 + 8 * r.val + j.val / 128, by omega⟩ ⟨j.val % 128, by omega⟩)

/-- Row `r` of block `b` through its expert. -/
def rowOut (n : IVec (Routing.shape1 32) 32) (A1 : FVec Ideal ⟨2, ![651264, 128]⟩ .f32) (A2 : FVec Ideal ⟨3, ![32, 1024, 2048]⟩ .f32)
    (A3 : FVec Ideal ⟨2, ![32, 2048]⟩ .f32) (A4 : FVec Ideal ⟨3, ![32, 1024, 1024]⟩ .f32) (A5 : FVec Ideal ⟨2, ![32, 1024]⟩ .f32)
    (b : Fin 159) (r : Fin 512) : Fin 1024 → EReal :=
  rowE (rowIn A1 b r) (fun i j => A2 (ix3 (who n b) i j)) (fun j => A3 (ix2 (who n b) j))
    (fun i j => A4 (ix3 (who n b) i j)) (fun j => A5 (ix2 (who n b) j))

/-- Row `r` of block `b` where it lies in the block's live halves, else zero. -/
def rowMask (n : IVec (Routing.shape1 32) 32) (A1 : FVec Ideal ⟨2, ![651264, 128]⟩ .f32) (A2 : FVec Ideal ⟨3, ![32, 1024, 2048]⟩ .f32)
    (A3 : FVec Ideal ⟨2, ![32, 2048]⟩ .f32) (A4 : FVec Ideal ⟨3, ![32, 1024, 1024]⟩ .f32) (A5 : FVec Ideal ⟨2, ![32, 1024]⟩ .f32)
    (b : Fin 159) (r : Fin 512) (k : Fin 1024) : EReal :=
  if r.val < 256 * (Words.halves n (ValueIdx.ix1 b)).toNat then rowOut n A1 A2 A3 A4 A5 b r k else Ideal.ofBits .f32 0x00000000#32

/-- The result. -/
def outArr (n : IVec (Routing.shape1 32) 32) (A1 : FVec Ideal ⟨2, ![651264, 128]⟩ .f32) (A2 : FVec Ideal ⟨3, ![32, 1024, 2048]⟩ .f32)
    (A3 : FVec Ideal ⟨2, ![32, 2048]⟩ .f32) (A4 : FVec Ideal ⟨3, ![32, 1024, 1024]⟩ .f32) (A5 : FVec Ideal ⟨2, ![32, 1024]⟩ .f32) :
    FVec Ideal ⟨2, ![651264, 128]⟩ .f32 := fun i =>
  have h0 : (i 0).val < 651264 := (i 0).isLt
  have h1 : (i 1).val < 128 := (i 1).isLt
  rowMask n A1 A2 A3 A4 A5 ⟨(i 0).val / 4096, by omega⟩ ⟨(i 0).val % 4096 / 8, by omega⟩
    ⟨(i 0).val % 8 * 128 + (i 1).val, by omega⟩

end Cert.Exp
-- ==== Proof.ValueExperts.lean ====
/- The experts' kernel's result array: every block's window in its place. -/
module

public import proofs.«01_k».proof.Proof.TablesExpertsIdeal
public import proofs.«01_k».proof.Proof.OutExperts
public import proofs.«01_k».proof.Proof.ArrayExperts
public import Idealize.ShloMosaic.Lib.Pipeline.TableIdle

@[expose] public section

set_option maxRecDepth 16384

noncomputable section

namespace Cert.ExpertsIdeal.Out

open Idealize.ShloMosaic Idealize.ShloMosaic.TcCoe Idealize.SL.Sem
open Idealize.ShloMosaic.Pipeline (Dat)
open Cert.ExpertsIdeal Cert.ExpertsIdeal.Gen Cert.ExpertsIdeal.Hand Cert.Exp

/-! ## Where a block's places lie -/

theorem at0 (t : Fin grid0.N) : cc0_transform_0 (grid0.coords t) = ![t.val, 0] := by
  revert t
  decide +kernel

theorem at3 (t : Fin grid0.N) : cc0_transform_5 (grid0.coords t) = ![t.val, 0] := by
  revert t
  decide +kernel

variable (T : (pcfg0 (F := Ideal)).Adm)

theorem emb0 (t : Fin grid0.N) (y : S4096x128.Idx) :
    (((cfg0 T).win 0).blk t).view.emb y = (ix2 ⟨t.val * 4096 + (y 0).val, by have := t.isLt; have : (y 0).val < 4096 := (y 0).isLt; have : t.val < 159 := t.isLt; omega⟩ (y 1) : S651264x128.Idx) := by
  funext a
  refine Fin.ext ?_
  match a with
  | ⟨0, _⟩ => exact (show cc0_transform_0 (grid0.coords t) 0 * 4096 + 1 * (y 0).val = t.val * 4096 + (y 0).val by rw [at0]; simp)
  | ⟨1, _⟩ => exact (show cc0_transform_0 (grid0.coords t) 1 * 128 + 1 * (y 1).val = (y 1).val by rw [at0]; simp)

theorem emb3 (t : Fin grid0.N) (y : S4096x128.Idx) :
    (((cfg0 T).win 3).blk t).view.emb y = (ix2 ⟨t.val * 4096 + (y 0).val, by have := t.isLt; have : (y 0).val < 4096 := (y 0).isLt; have : t.val < 159 := t.isLt; omega⟩ (y 1) : S651264x128.Idx) := by
  funext a
  refine Fin.ext ?_
  match a with
  | ⟨0, _⟩ => exact (show cc0_transform_5 (grid0.coords t) 0 * 4096 + 1 * (y 0).val = t.val * 4096 + (y 0).val by rw [at3]; simp)
  | ⟨1, _⟩ => exact (show cc0_transform_5 (grid0.coords t) 1 * 128 + 1 * (y 1).val = (y 1).val by rw [at3]; simp)

theorem emb1 (t : Fin grid0.N) (e : Fin 32) (he : (word (F := Ideal) 0 tBe (T.1 0) (grid0.coords t)).toNat = e.val) (j : Fin 2048) :
    (((cfg0 T).win 1).blk t).view.emb (ix3 0 0 j : S1x1x2048.Idx) = (ix3 e 0 j : S32x1x2048.Idx) := by
  funext a
  refine Fin.ext ?_
  match a with
  | ⟨0, _⟩ => exact (show (word (F := Ideal) 0 tBe (T.1 0) (grid0.coords t)).toNat * 1 + 1 * 0 = e.val by rw [he]; omega)
  | ⟨1, _⟩ => exact (show 0 * 1 + 1 * 0 = 0 by rfl)
  | ⟨2, _⟩ => exact (show 0 * 2048 + 1 * j.val = j.val by omega)

theorem emb2 (t : Fin grid0.N) (e : Fin 32) (he : (word (F := Ideal) 0 tBe (T.1 0) (grid0.coords t)).toNat = e.val) (j : Fin 1024) :
    (((cfg0 T).win 2).blk t).view.emb (ix3 0 0 j : S1x1x1024.Idx) = (ix3 e 0 j : S32x1x1024.Idx) := by
  funext a
  refine Fin.ext ?_
  match a with
  | ⟨0, _⟩ => exact (show (word (F := Ideal) 0 tBe (T.1 0) (grid0.coords t)).toNat * 1 + 1 * 0 = e.val by rw [he]; omega)
  | ⟨1, _⟩ => exact (show 0 * 1 + 1 * 0 = 0 by rfl)
  | ⟨2, _⟩ => exact (show 0 * 1024 + 1 * j.val = j.val by omega)

theorem idx3 (t : Fin grid0.N) : ((cfg0 T).win 3).index t = ![t.val, 0] := at3 t

theorem flush3 (t : Fin grid0.N) : ((cfg0 T).win 3).flush t = true := by
  rw [Pipeline.Window.flush_eq_flushF]
  unfold Pipeline.Window.flushF
  refine Bool.and_eq_true_iff.2 ⟨rfl, ?_⟩
  by_cases h : t.val + 1 = grid0.N
  · rw [Bool.or_eq_true_iff]; exact Or.inl (decide_eq_true h)
  · have h1 : t.val + 1 < grid0.N := by have := t.isLt; omega
    rw [Bool.or_eq_true_iff]
    refine Or.inr (decide_eq_true ⟨h1, (0 : Fin 2), ?_⟩)
    rw [idx3, idx3]
    show t.val + 1 ≠ t.val
    omega

theorem mem_of_eq {α : Type} {s : Finset α} {a b : α} (h : a = b) (ha : a ∈ s) : b ∈ s := h ▸ ha

/-- The result window's blocks, one a point, cover the array. -/
theorem cover3 (i : S651264x128.Idx) : ∃ t : Fin grid0.N, ((cfg0 T).win 3).flush t = true ∧ i ∈ (((cfg0 T).win 3).blk t).view.set := by
  have h0 : (i 0).val < 651264 := (i 0).isLt
  refine ⟨⟨(i 0).val / 4096, show (i 0).val / 4096 < 159 by omega⟩, flush3 T _, ?_⟩
  have hm := View.emb_mem_set (((cfg0 T).win 3).blk ⟨(i 0).val / 4096, show (i 0).val / 4096 < 159 by omega⟩).view (ix2 ⟨(i 0).val % 4096, by omega⟩ (i 1) : S4096x128.Idx)
  refine mem_of_eq ((emb3 T _ _).trans ?_) hm
  refine (congrArg₂ ix2 (Fin.ext ?_) rfl).trans (eq_ix2 i).symm
  show (i 0).val / 4096 * 4096 + (i 0).val % 4096 = (i 0).val
  omega

/-! ## The matrices in the scratch -/

theorem bfU (c : Dev nD) (A' A : FVec Ideal S32x1024x2048 .f32) (hA : A' = A) (e : BitVec 32) (he : e.toNat < 32) (w : Fin 32) (hw : e.toNat = w.val) (i : Fin 1024) (j : Fin 2048) :
    bfOfU (F := Ideal) c A' e he (ix2 i j) = A (ix3 w i j) := by
  subst hA
  unfold bfOfU
  have h : ∀ v : FVec Ideal S1x1024x2048 .f32, k0_pay9 (F := Ideal) v (ix2 i j) = v (ix3 0 i j) := fun v => by pointwise [k0_pay9]
  refine (h _).trans (congrArg A' (funext fun a => Fin.ext ?_))
  match a with
  | ⟨0, _⟩ => show e.toNat + 1 * 0 = w.val; omega
  | ⟨1, _⟩ => show 0 + 1 * i.val = i.val; omega
  | ⟨2, _⟩ => show 0 + 1 * j.val = j.val; omega

theorem bfD (c : Dev nD) (A' A : FVec Ideal S32x1024x1024 .f32) (hA : A' = A) (e : BitVec 32) (he : e.toNat < 32) (w : Fin 32) (hw : e.toNat = w.val) (i : Fin 1024) (j : Fin 1024) :
    bfOfD (F := Ideal) c A' e he (ix2 i j) = A (ix3 w i j) := by
  subst hA
  unfold bfOfD
  have h : ∀ v : FVec Ideal S1x1024x1024 .f32, k0_pay10 (F := Ideal) v (ix2 i j) = v (ix3 0 i j) := fun v => by pointwise [k0_pay10]
  refine (h _).trans (congrArg A' (funext fun a => Fin.ext ?_))
  match a with
  | ⟨0, _⟩ => show e.toNat + 1 * 0 = w.val; omega
  | ⟨1, _⟩ => show 0 + 1 * i.val = i.val; omega
  | ⟨2, _⟩ => show 0 + 1 * j.val = j.val; omega

/-! ## The array -/

variable (m : (ℓ : Loc nD τ sig) → Buf (Elt Ideal) ℓ) (h : Ok m)

theorem V_bu (c : Dev nD) : V m c main_v41 = broadcastInDim S32x1x2048 ![0, 2] bcast_S32x2048_S32x1x2048_0_2 (m ((c.tc : Thread nD τ).loc main_arg3)) := by
  show StableHlo.after (stretches (F := Ideal)).flatten (fun b => m (c, b)) (Proc.devRef .tc main_v41) = _
  simp only [stretches, List.flatten_cons, List.flatten_nil, List.append_nil, StableHlo.after_append]
  entry_read
  simp only [StableHlo.TRef.ofBuf, StableHlo.TRef.toBuf, cast_eq, id]

theorem V_bd (c : Dev nD) : V m c main_v42 = broadcastInDim S32x1x1024 ![0, 2] bcast_S32x1024_S32x1x1024_0_2 (m ((c.tc : Thread nD τ).loc main_arg5)) := by
  show StableHlo.after (stretches (F := Ideal)).flatten (fun b => m (c, b)) (Proc.devRef .tc main_v42) = _
  simp only [stretches, List.flatten_cons, List.flatten_nil, List.append_nil, StableHlo.after_append]
  entry_read
  simp only [StableHlo.TRef.ofBuf, StableHlo.TRef.toBuf, cast_eq, id]

/-- The tile's row, its block read at the grid point. -/
theorem xRow_blk (A : FVec Ideal S651264x128 .f32) (t : Fin grid0.N) (ht : t.val < 159) (r : Fin 512) :
    xRow (fun y => A ((((cfg0 T).win 0).blk t).view.emb y)) r = rowIn A ⟨t.val, ht⟩ r := by
  funext j
  refine congrArg A ((emb0 T t _).trans ?_)
  refine congrArg₂ ix2 (Fin.ext ?_) rfl
  show t.val * 4096 + (8 * r.val + j.val / 128) = t.val * 4096 + 8 * r.val + j.val / 128
  omega

theorem bu_blk (A : FVec Ideal S32x2048 .f32) (t : Fin grid0.N) (e : Fin 32) (he : (word (F := Ideal) 0 tBe (T.1 0) (grid0.coords t)).toNat = e.val) (j : Fin 2048) :
    broadcastInDim S32x1x2048 ![0, 2] bcast_S32x2048_S32x1x2048_0_2 A ((((cfg0 T).win 1).blk t).view.emb (ix3 0 0 j : S1x1x2048.Idx)) = A (ix2 e j) := by
  rw [emb1 T t e he j]
  pointwise

theorem bd_blk (A : FVec Ideal S32x1024 .f32) (t : Fin grid0.N) (e : Fin 32) (he : (word (F := Ideal) 0 tBe (T.1 0) (grid0.coords t)).toNat = e.val) (j : Fin 1024) :
    broadcastInDim S32x1x1024 ![0, 2] bcast_S32x1024_S32x1x1024_0_2 A ((((cfg0 T).win 2).blk t).view.emb (ix3 0 0 j : S1x1x1024.Idx)) = A (ix2 e j) := by
  rw [emb2 T t e he j]
  pointwise

/-- A tile's rows are the block's, its reads being the arrays'. -/
theorem tile_eq (n : IVec (Routing.shape1 32) 32) (A1 : FVec Ideal S651264x128 .f32) (A2 : FVec Ideal S32x1024x2048 .f32)
    (A3 : FVec Ideal S32x2048 .f32) (A4 : FVec Ideal S32x1024x1024 .f32) (A5 : FVec Ideal S32x1024 .f32) (b : Fin 159)
    (lv : BitVec 32) (x : FVec Ideal S4096x128 .f32) (bu : FVec Ideal S1x1x2048 .f32) (bd : FVec Ideal S1x1x1024 .f32)
    (wU : FVec Ideal S1024x2048 .bf16) (wD : FVec Ideal S1024x1024 .bf16) (hlv : lv = Words.halves n (ValueIdx.ix1 b))
    (hx : ∀ r, xRow x r = rowIn A1 b r) (hbu : ∀ j, bu (ix3 0 0 j) = A3 (ix2 (who n b) j)) (hbd : ∀ j, bd (ix3 0 0 j) = A5 (ix2 (who n b) j))
    (hU : ∀ i j, wU (ix2 i j) = A2 (ix3 (who n b) i j)) (hD : ∀ i j, wD (ix2 i j) = A4 (ix3 (who n b) i j)) (r : Fin 512) (k : Fin 1024) :
    outSpec lv.toNat x bu bd wU wD r k = rowMask n A1 A2 A3 A4 A5 b r k := by
  unfold outSpec rowMask rowAt rowOut
  rw [hlv, hx, funext hbu, funext hbd, funext fun i => funext (hU i), funext fun i => funext (hD i)]

theorem num_coords (t : Fin grid0.N) (ht : t.val < 159) : num (grid0.coords t) = ⟨t.val, ht⟩ := Fin.ext (coords_val t)

theorem who_val (n : IVec (Routing.shape1 32) 32) (b : Fin 159) (w : BitVec 32) (hw : w = Words.expert n (ValueIdx.ix1 b)) :
    w.toNat = (who n b).val := by
  subst hw
  rfl

/-- The block's reads of an array held elsewhere under another name. -/
theorem xRow_of (A' A : FVec Ideal S651264x128 .f32) (hA : A' = A) (t : Fin grid0.N) (ht : t.val < 159) (r : Fin 512) :
    xRow (fun y => A' ((((cfg0 T).win 0).blk t).view.emb y)) r = rowIn A ⟨t.val, ht⟩ r := by
  subst hA
  exact xRow_blk T A' t ht r

theorem bu_of (B : FVec Ideal S32x1x2048 .f32) (A : FVec Ideal S32x2048 .f32) (hB : B = broadcastInDim S32x1x2048 ![0, 2] bcast_S32x2048_S32x1x2048_0_2 A)
    (t : Fin grid0.N) (e : Fin 32) (he : (word (F := Ideal) 0 tBe (T.1 0) (grid0.coords t)).toNat = e.val) (j : Fin 2048) :
    B ((((cfg0 T).win 1).blk t).view.emb (ix3 0 0 j : S1x1x2048.Idx)) = A (ix2 e j) := by
  subst hB
  exact bu_blk T A t e he j

theorem bd_of (B : FVec Ideal S32x1x1024 .f32) (A : FVec Ideal S32x1024 .f32) (hB : B = broadcastInDim S32x1x1024 ![0, 2] bcast_S32x1024_S32x1x1024_0_2 A)
    (t : Fin grid0.N) (e : Fin 32) (he : (word (F := Ideal) 0 tBe (T.1 0) (grid0.coords t)).toNat = e.val) (j : Fin 1024) :
    B ((((cfg0 T).win 2).blk t).view.emb (ix3 0 0 j : S1x1x1024.Idx)) = A (ix2 e j) := by
  subst hB
  exact bd_blk T A t e he j

theorem word_at (c : Dev nD) (t : Fin grid0.N) (ht : t.val < 159) :
    word (F := Ideal) c tBe (V m c main_v19) (grid0.coords t) = Words.expert (counts m c) (ValueIdx.ix1 ⟨t.val, ht⟩) := by
  rw [V_be, word_be, num_coords t ht]

theorem live_at (c : Dev nD) (t : Fin grid0.N) (ht : t.val < 159) :
    word (F := Ideal) c tLive (V m c main_v40) (grid0.coords t) = Words.halves (counts m c) (ValueIdx.ix1 ⟨t.val, ht⟩) := by
  rw [V_live, word_live, num_coords t ht]

theorem pf_at (c : Dev nD) (t : Fin grid0.N) (ht : t.val < 159) :
    (word (F := Ideal) 0 tBe ((adm m h).1 0) (grid0.coords t)).toNat = (who (counts m c) ⟨t.val, ht⟩).val := by
  obtain rfl : c = 0 := Subsingleton.elim _ _
  exact who_val _ _ _ (word_at m 0 t ht)

/-- What a point leaves in the result's window. -/
theorem point (c : Dev nD) (t : Fin grid0.N) (ht : t.val < 159) (y : S4096x128.Idx) : outAt m h c t y =
    rowMask (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      ⟨t.val, ht⟩ (rowOf y) (laneOf y) := by
  unfold outAt
  refine (outOf_at _ ((h c).live _) _ _ _ _ _ y).trans ?_
  refine tile_eq (counts m c) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      ⟨t.val, ht⟩ _ _ _ _ _ _ (live_at m c t ht) ?_ ?_ ?_ ?_ ?_ _ _
  · exact fun r => xRow_of (adm m h) _ _ (V_arg1 m c) t ht r
  · exact fun j => bu_of (adm m h) _ _ (V_bu m c) t _ (pf_at m h c t ht) j
  · exact fun j => bd_of (adm m h) _ _ (V_bd m c) t _ (pf_at m h c t ht) j
  · exact fun i j => bfU c _ _ (V_arg2 m c) _ _ _ (who_val _ _ _ (word_at m c t ht)) i j
  · exact fun i j => bfD c _ _ (V_arg4 m c) _ _ _ (who_val _ _ _ (word_at m c t ht)) i j

/-- The whole result at a block's place. -/
theorem outArr_at (n : IVec (Routing.shape1 32) 32) (A1 : FVec Ideal S651264x128 .f32) (A2 : FVec Ideal S32x1024x2048 .f32)
    (A3 : FVec Ideal S32x2048 .f32) (A4 : FVec Ideal S32x1024x1024 .f32) (A5 : FVec Ideal S32x1024 .f32) (t : Fin grid0.N) (ht : t.val < 159) (y : S4096x128.Idx) :
    rowMask n A1 A2 A3 A4 A5 ⟨t.val, ht⟩ (rowOf y) (laneOf y) = outArr n A1 A2 A3 A4 A5 ((((cfg0 T).win 3).blk t).view.emb y) := by
  have hy0 : (y 0).val < 4096 := (y 0).isLt
  have hy1 : (y 1).val < 128 := (y 1).isLt
  refine Eq.trans ?_ (congrArg (outArr n A1 A2 A3 A4 A5) (emb3 T t y).symm)
  have e : (t.val * 4096 + (y 0).val) / 4096 = t.val := by omega
  have e1 : (t.val * 4096 + (y 0).val) % 4096 / 8 = (y 0).val / 8 := by omega
  have e2 : (t.val * 4096 + (y 0).val) % 8 * 128 + (y 1).val = (y 0).val % 8 * 128 + (y 1).val := by omega
  have E : ∀ (b b' : Fin 159) (r r' : Fin 512) (k k' : Fin 1024), b = b' → r = r' → k = k' →
      rowMask n A1 A2 A3 A4 A5 b r k = rowMask n A1 A2 A3 A4 A5 b' r' k' := by
    rintro b _ r _ k _ rfl rfl rfl; rfl
  exact E _ _ _ _ _ _ (Fin.ext e.symm) (Fin.ext e1.symm) (Fin.ext e2.symm)

/-- The array the kernel leaves. -/
theorem final (c : Dev nD) : (dats m h 0 c).arrAt 3 (cfgA m h).N =
    outArr (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (dats m h 0 c).arrAt_eq_of_emb 3 _ (fun t _ y => ?_) (cover3 (adm m h))
  refine Eq.trans (b := outAt m h c t y) (congrFun (after3 m h c t) y) ?_
  exact (point m h c t t.isLt y).trans (outArr_at (adm m h) _ _ _ _ _ _ t t.isLt y)

end Cert.ExpertsIdeal.Out
-- ==== Proof.GatherExperts.lean ====
/- The gathers of the experts' reference: a block's expert, read from its start index. -/
module

public import proofs.«01_k».proof.Proof.Gen.ExpertsReferenceIdeal.Run
public import proofs.«01_k».proof.Proof.ArrayExperts
public import Idealize.ShloMosaic.Lib.Pointwise

@[expose] public section

set_option maxRecDepth 16384

noncomputable section

namespace Cert.ExpertsReferenceIdeal.Stage

open Idealize.ShloMosaic Idealize.ShloMosaic.TcCoe Idealize.SL.Sem
open Cert.ExpertsReferenceIdeal Cert.ExpertsReferenceIdeal.Gen

/-- The expert a block's start index names. -/
def pick (idx : IVec S159x1 32) (b : Fin 159) : Fin 32 := ⟨min (idx (ix2 b 0)).toInt.toNat 31, by omega⟩

/-- A block's expert's up matrix. -/
theorem gatherU_at (x : FVec Ideal S32x1024x2048 .f32) (idx : IVec S159x1 32) (b : Fin 159) (i : Fin 1024) (j : Fin 2048) :
    Host.gather gather_S32x1024x2048_S159x1_S159x1024x2048_12_0_n_n_0_1_110242048 x idx (ix3 b i j) = x (ix3 (pick idx b) i j) := by
  refine congrArg x (funext fun a => Fin.ext ?_)
  match a with
  | ⟨0, _⟩ =>
    have h : gather_S32x1024x2048_S159x1_S159x1024x2048_12_0_n_n_0_1_110242048.siIdx (ix3 b i j) ⟨0, by decide⟩ = ix2 b 0 :=
      funext fun a => by
        match a with
        | ⟨0, _⟩ => rfl
        | ⟨1, _⟩ => rfl
    show min (idx (gather_S32x1024x2048_S159x1_S159x1024x2048_12_0_n_n_0_1_110242048.siIdx (ix3 b i j) ⟨0, by decide⟩)).toInt.toNat 31 = _
    rw [h]
    rfl
  | ⟨1, _⟩ => exact (show 0 + 0 + i.val = i.val from by omega)
  | ⟨2, _⟩ => exact (show 0 + 0 + j.val = j.val from by omega)

/-- A block's expert's down matrix. -/
theorem gatherD_at (x : FVec Ideal S32x1024x1024 .f32) (idx : IVec S159x1 32) (b : Fin 159) (i : Fin 1024) (j : Fin 1024) :
    Host.gather gather_S32x1024x1024_S159x1_S159x1024x1024_12_0_n_n_0_1_110241024 x idx (ix3 b i j) = x (ix3 (pick idx b) i j) := by
  refine congrArg x (funext fun a => Fin.ext ?_)
  match a with
  | ⟨0, _⟩ =>
    have h : gather_S32x1024x1024_S159x1_S159x1024x1024_12_0_n_n_0_1_110241024.siIdx (ix3 b i j) ⟨0, by decide⟩ = ix2 b 0 :=
      funext fun a => by
        match a with
        | ⟨0, _⟩ => rfl
        | ⟨1, _⟩ => rfl
    show min (idx (gather_S32x1024x1024_S159x1_S159x1024x1024_12_0_n_n_0_1_110241024.siIdx (ix3 b i j) ⟨0, by decide⟩)).toInt.toNat 31 = _
    rw [h]
    rfl
  | ⟨1, _⟩ => exact (show 0 + 0 + i.val = i.val from by omega)
  | ⟨2, _⟩ => exact (show 0 + 0 + j.val = j.val from by omega)

/-- A block's expert's up bias. -/
theorem gatherUb_at (x : FVec Ideal S32x2048 .f32) (idx : IVec S159x1 32) (b : Fin 159) (j : Fin 2048) :
    Host.gather gather_S32x2048_S159x1_S159x2048_1_0_n_n_0_1_12048 x idx (ix2 b j) = x (ix2 (pick idx b) j) := by
  refine congrArg x (funext fun a => Fin.ext ?_)
  match a with
  | ⟨0, _⟩ =>
    have h : gather_S32x2048_S159x1_S159x2048_1_0_n_n_0_1_12048.siIdx (ix2 b j) ⟨0, by decide⟩ = ix2 b 0 :=
      funext fun a => by
        match a with
        | ⟨0, _⟩ => rfl
        | ⟨1, _⟩ => rfl
    show min (idx (gather_S32x2048_S159x1_S159x2048_1_0_n_n_0_1_12048.siIdx (ix2 b j) ⟨0, by decide⟩)).toInt.toNat 31 = _
    rw [h]
    rfl
  | ⟨1, _⟩ => exact (show 0 + 0 + j.val = j.val from by omega)

/-- A block's expert's down bias. -/
theorem gatherDb_at (x : FVec Ideal S32x1024 .f32) (idx : IVec S159x1 32) (b : Fin 159) (j : Fin 1024) :
    Host.gather gather_S32x1024_S159x1_S159x1024_1_0_n_n_0_1_11024 x idx (ix2 b j) = x (ix2 (pick idx b) j) := by
  refine congrArg x (funext fun a => Fin.ext ?_)
  match a with
  | ⟨0, _⟩ =>
    have h : gather_S32x1024_S159x1_S159x1024_1_0_n_n_0_1_11024.siIdx (ix2 b j) ⟨0, by decide⟩ = ix2 b 0 :=
      funext fun a => by
        match a with
        | ⟨0, _⟩ => rfl
        | ⟨1, _⟩ => rfl
    show min (idx (gather_S32x1024_S159x1_S159x1024_1_0_n_n_0_1_11024.siIdx (ix2 b j) ⟨0, by decide⟩)).toInt.toNat 31 = _
    rw [h]
    rfl
  | ⟨1, _⟩ => exact (show 0 + 0 + j.val = j.val from by omega)

end Cert.ExpertsReferenceIdeal.Stage
-- ==== Proof.StageExperts.lean ====
/- The experts' reference, one stage at a time, read at a block, a row and a lane. -/
module

public import proofs.«01_k».proof.Proof.GatherExperts
public import Idealize.ShloMosaic.Lib.IdealHost

@[expose] public section

set_option maxRecDepth 16384

noncomputable section

namespace Cert.ExpertsReferenceIdeal.Stage

open Idealize.ShloMosaic Idealize.ShloMosaic.TcCoe Idealize.SL.Sem
open Cert.ExpertsReferenceIdeal Cert.ExpertsReferenceIdeal.Gen Cert.Exp

/-- Every row through its expert's up matrix, plus the bias. -/
def rUp (X : FVec Ideal S159x512x1024 .f32) (W : FVec Ideal S159x1024x2048 .f32) (B : FVec Ideal S159x2048 .f32) : FVec Ideal S159x512x2048 .f32 :=
  addf (Host.dotGeneral dot_S159x512x1024_S159x1024x2048_S159x512x2048_2_1_1_2_0_0 none X W)
    (broadcastInDim S159x512x2048 ![0, 1, 2] bcast_S159x1x2048_S159x512x2048_0_1_2 (broadcastInDim S159x1x2048 ![0, 2] bcast_S159x2048_S159x1x2048_0_2 B))

/-- The first half, cut at seven. -/
def rCut (U : FVec Ideal S159x512x2048 .f32) : FVec Ideal S159x512x1024 .f32 :=
  minimumf (extractStridedSlice S159x512x1024 ![0, 0, 0] U slices_S159x512x2048_S159x512x1024_0_0_0)
    (broadcastInDim S159x512x1024 ![] bcast_S_S159x512x1024 (constant S_ .f32 0x40E00000#32))

/-- The gate. -/
def rGate (G : FVec Ideal S159x512x1024 .f32) : FVec Ideal S159x512x1024 .f32 :=
  mulf G (Host.divf (broadcastInDim S159x512x1024 ![] bcast_S_S159x512x1024 (constant S_ .f32 0x3F800000#32))
    (addf (broadcastInDim S159x512x1024 ![] bcast_S_S159x512x1024 (constant S_ .f32 0x3F800000#32))
      (Host.exp (Host.negf (mulf (broadcastInDim S159x512x1024 ![] bcast_S_S159x512x1024 (constant S_ .f32 0x3FD9DB23#32)) G)))))

/-- The second half, cut on both sides, plus one. -/
def rLin (U : FVec Ideal S159x512x2048 .f32) : FVec Ideal S159x512x1024 .f32 :=
  addf (minimumf (broadcastInDim S159x512x1024 ![] bcast_S_S159x512x1024 (id (constant S_ .f32 0x40E00000#32)))
      (maximumf (broadcastInDim S159x512x1024 ![] bcast_S_S159x512x1024 (id (constant S_ .f32 0xC0E00000#32)))
        (extractStridedSlice S159x512x1024 ![0, 0, 1024] U slices_S159x512x2048_S159x512x1024_0_0_1024)))
    (broadcastInDim S159x512x1024 ![] bcast_S_S159x512x1024 (constant S_ .f32 0x3F800000#32))

/-- The hidden rows. -/
def rHid (U : FVec Ideal S159x512x2048 .f32) : FVec Ideal S159x512x1024 .f32 := mulf (rGate (rCut U)) (rLin U)

/-- Every hidden row through its expert's down matrix, plus the bias. -/
def rDown (H : FVec Ideal S159x512x1024 .f32) (W : FVec Ideal S159x1024x1024 .f32) (B : FVec Ideal S159x1024 .f32) : FVec Ideal S159x512x1024 .f32 :=
  addf (Host.dotGeneral dot_S159x512x1024_S159x1024x1024_S159x512x1024_2_1_1_2_0_0 none H W)
    (broadcastInDim S159x512x1024 ![0, 1, 2] bcast_S159x1x1024_S159x512x1024_0_1_2 (broadcastInDim S159x1x1024 ![0, 2] bcast_S159x1024_S159x1x1024_0_2 B))

/-- Whether a row lies in its block's live halves. -/
def rLive (h : IVec S159 32) : IVec S159x512 1 :=
  cmpi .slt (broadcastInDim S159x512 ![0, 1] bcast_S1x512_S159x512_0_1 (broadcastInDim S1x512 ![1] bcast_S512_S1x512_1 (iotaInDim S512 32 0)))
    (broadcastInDim S159x512 ![0, 1] bcast_S159x1_S159x512_0_1 (broadcastInDim S159x1 ![0] bcast_S159_S159x1_0
      (muli (broadcastInDim S159 ![] bcast_S_S159 (constantI S_ 32 256#32)) h)))

/-- The live rows kept, the others zero. -/
def rKeep (l : IVec S159x512 1) (Y : FVec Ideal S159x512x1024 .f32) : FVec Ideal S159x512x1024 .f32 :=
  select (broadcastInDim S159x512x1024 ![0, 1, 2] bcast_S159x512x1_S159x512x1024_0_1_2 (broadcastInDim S159x512x1 ![0, 1] bcast_S159x512_S159x512x1_0_1 l)) Y
    (broadcastInDim S159x512x1024 ![] bcast_S_S159x512x1024 (id (constant S_ .f32 0x00000000#32)))

theorem up_at (X : FVec Ideal S159x512x1024 .f32) (W : FVec Ideal S159x1024x2048 .f32) (B : FVec Ideal S159x2048 .f32)
    (b : Fin 159) (r : Fin 512) (j : Fin 2048) :
    rUp X W B (ix3 b r j) = up (fun i => X (ix3 b r i)) (fun i j => W (ix3 b i j)) (fun j => B (ix2 b j)) j := by
  pointwise [rUp, up]

theorem down_at (H : FVec Ideal S159x512x1024 .f32) (W : FVec Ideal S159x1024x1024 .f32) (B : FVec Ideal S159x1024 .f32)
    (b : Fin 159) (r : Fin 512) (j : Fin 1024) :
    rDown H W B (ix3 b r j) = down (fun i => H (ix3 b r i)) (fun i j => W (ix3 b i j)) (fun j => B (ix2 b j)) j := by
  pointwise [rDown, down]

theorem cut_at (U : FVec Ideal S159x512x2048 .f32) (b : Fin 159) (r : Fin 512) (j : Fin 1024) :
    rCut U (ix3 b r j) = min (U (ix3 b r ⟨j, by omega⟩)) (Ideal.ofBits .f32 0x40E00000#32) := by
  pointwise [rCut]

theorem gate_at (G : FVec Ideal S159x512x1024 .f32) (b : Fin 159) (r : Fin 512) (j : Fin 1024) :
    rGate G (ix3 b r j) = G (ix3 b r j) * Ideal.div (Ideal.ofBits .f32 0x3F800000#32)
      (Ideal.ofBits .f32 0x3F800000#32 + Ideal.exp (-(Ideal.ofBits .f32 0x3FD9DB23#32 * G (ix3 b r j)))) := by
  pointwise [rGate]

theorem one_bits : Ideal.ofBits .f32 0x3F800000#32 = 1 := Idealize.ShloMosaic.Ideal.ofBits_one_f32

theorem lin_at (U : FVec Ideal S159x512x2048 .f32) (b : Fin 159) (r : Fin 512) (j : Fin 1024) :
    rLin U (ix3 b r j) = lin (fun j => U (ix3 b r j)) j := by
  pointwise [rLin, lin]
  rfl

theorem hid_at (U : FVec Ideal S159x512x2048 .f32) (b : Fin 159) (r : Fin 512) (j : Fin 1024) :
    rHid U (ix3 b r j) = hid (fun j => U (ix3 b r j)) j := by
  show rGate (rCut U) (ix3 b r j) * rLin U (ix3 b r j) = _
  rw [gate_at, cut_at, lin_at, one_bits]
  rfl

theorem keep_at (l : IVec S159x512 1) (Y : FVec Ideal S159x512x1024 .f32) (b : Fin 159) (r : Fin 512) (j : Fin 1024) :
    rKeep l Y (ix3 b r j) = if l (ix2 b r) = 1#1 then Y (ix3 b r j) else Ideal.ofBits .f32 0x00000000#32 := by
  pointwise [rKeep]
  refine Eq.trans (b := Scalar.select (l (ix2 b r)) (Y (ix3 b r j)) (Ideal.ofBits .f32 0x00000000#32)) rfl ?_
  rw [Idealize.ShloMosaic.Ideal.ofBits_zero_f32]
  rfl

theorem live_at (h : IVec S159 32) (b : Fin 159) (r : Fin 512) :
    rLive h (ix2 b r) = IntOp.cmpi .slt (BitVec.ofNat 32 r.val) (IntOp.muli 256#32 (h (ix1 b))) := by
  pointwise [rLive]

/-- The number of live halves as the reference rounds it up. -/
def rHalves (n : IVec (Routing.shape1 32) 32) : IVec (Routing.shape1 159) 32 :=
  select (Words.before n) (Words.floor159 (addi (Words.filled n) (Words.all159 255#32)) 256#32) (Words.all159 0#32)

theorem rHalves_eq (n : IVec (Routing.shape1 32) 32) : rHalves n = Words.halves n := by
  have h : addi (Words.filled n) (Words.all159 255#32) = subi (addi (Words.filled n) (Words.all159 256#32)) (Words.all159 1#32) := by
    funext i
    show Words.filled n i + 255#32 = Words.filled n i + 256#32 - 1#32
    bv_omega
  unfold rHalves Words.halves
  rw [h]

theorem slt_none : ∀ r : Fin 512, IntOp.cmpi .slt (BitVec.ofNat 32 r.val) (IntOp.muli 256#32 0#32) = 1#1 ↔ r.val < 256 * (0#32).toNat := by
  decide +kernel
theorem slt_one : ∀ r : Fin 512, IntOp.cmpi .slt (BitVec.ofNat 32 r.val) (IntOp.muli 256#32 1#32) = 1#1 ↔ r.val < 256 * (1#32).toNat := by
  decide +kernel
theorem slt_two : ∀ r : Fin 512, IntOp.cmpi .slt (BitVec.ofNat 32 r.val) (IntOp.muli 256#32 2#32) = 1#1 ↔ r.val < 256 * (2#32).toNat := by
  decide +kernel

theorem slt_halves (n : IVec (Routing.shape1 32) 32) (b : Fin 159) (r : Fin 512) :
    IntOp.cmpi .slt (BitVec.ofNat 32 r.val) (IntOp.muli 256#32 (Words.halves n (ValueIdx.ix1 b))) = 1#1 ↔
      r.val < 256 * (Words.halves n (ValueIdx.ix1 b)).toNat := by
  rcases Words.halves_mem n b with h | h | h <;> rw [h]
  · exact slt_none r
  · exact slt_one r
  · exact slt_two r

theorem pick_small : ∀ k : Fin 32, min (Scalar.select (IntOp.cmpi .slt (BitVec.ofNat 32 k.val) 0#32) (IntOp.addi (BitVec.ofNat 32 k.val) 32#32) (BitVec.ofNat 32 k.val)).toInt.toNat 31 = k.val := by
  decide +kernel

theorem pick_word (w : BitVec 32) (h : w.toNat < 32) :
    min (Scalar.select (IntOp.cmpi .slt w 0#32) (IntOp.addi w 32#32) w).toInt.toNat 31 = w.toNat := by
  have := pick_small ⟨w.toNat, h⟩
  rwa [show BitVec.ofNat 32 (⟨w.toNat, h⟩ : Fin 32).val = w from by rw [BitVec.ofNat_toNat, BitVec.setWidth_eq]] at this

theorem pick_who (n : IVec (Routing.shape1 32) 32) (b : Fin 159) : pick (Words.column (Words.expert n) 32#32) b = who n b := by
  refine Fin.ext ?_
  have h : (ix2 b 0 : S159x1.Idx) = StableHlo.Predicate.ixP b := funext fun a => by
    match a with
    | ⟨0, _⟩ => rfl
    | ⟨1, _⟩ => rfl
  show min (Words.column (Words.expert n) 32#32 (ix2 b 0)).toInt.toNat 31 = (Words.expert n (ValueIdx.ix1 b)).toNat
  rw [h, Words.column_at]
  exact pick_word _ (Words.expert_lt n b)

end Cert.ExpertsReferenceIdeal.Stage

end
-- ==== Proof.RefExperts.lean ====
/- The experts' reference's result: the whole result's array. -/
module

public import proofs.«01_k».proof.Proof.StageExperts

@[expose] public section

set_option maxRecDepth 16384

noncomputable section

namespace Cert.ExpertsReferenceIdeal.Stage

open Idealize.ShloMosaic Idealize.ShloMosaic.TcCoe Idealize.SL.Sem
open Cert.ExpertsReferenceIdeal Cert.ExpertsReferenceIdeal.Gen Cert.Exp

theorem castIn (X : FVec Ideal S651264x128 .f32) (b : Fin 159) (r : Fin 512) (j : Fin 1024) :
    (shapeCast S159x512x1024 X shapeCasts_S651264x128_S159x512x1024 : FVec Ideal S159x512x1024 .f32) (ix3 b r j) = rowIn X b r j := by
  unfold rowIn
  pointwise
  exact congrArg (fun q : Fin 651264 => X (ix2 q _)) (Fin.ext (by show b.val * 4096 + r.val * 8 + j.val / 128 = b.val * 4096 + 8 * r.val + j.val / 128; omega))

theorem castOut (X : FVec Ideal S159x512x1024 .f32) (R : Fin 651264) (k : Fin 128) :
    (shapeCast S651264x128 X shapeCasts_S159x512x1024_S651264x128 : FVec Ideal S651264x128 .f32) (ix2 R k) =
      X (ix3 ⟨R / 4096, by omega⟩ ⟨R % 4096 / 8, by omega⟩ ⟨R % 8 * 128 + k, by omega⟩) := by
  pointwise
  exact congrArg (fun q : Fin 512 => X (ix3 _ q _)) (Fin.ext (by show R.val / 8 % 512 = R.val % 4096 / 8; omega))

/-- The reference's masked rows, whole. -/
def rAll (n : IVec (Routing.shape1 32) 32) (A1 : FVec Ideal S651264x128 .f32) (A2 : FVec Ideal S32x1024x2048 .f32)
    (A3 : FVec Ideal S32x2048 .f32) (A4 : FVec Ideal S32x1024x1024 .f32) (A5 : FVec Ideal S32x1024 .f32) : FVec Ideal S159x512x1024 .f32 :=
  rKeep (rLive (rHalves n))
    (rDown (rHid (rUp (shapeCast S159x512x1024 A1 shapeCasts_S651264x128_S159x512x1024)
        (Host.gather gather_S32x1024x2048_S159x1_S159x1024x2048_12_0_n_n_0_1_110242048 A2 (Words.column (Words.expert n) 32#32))
        (Host.gather gather_S32x2048_S159x1_S159x2048_1_0_n_n_0_1_12048 A3 (Words.column (Words.expert n) 32#32))))
      (Host.gather gather_S32x1024x1024_S159x1_S159x1024x1024_12_0_n_n_0_1_110241024 A4 (Words.column (Words.expert n) 32#32))
      (Host.gather gather_S32x1024_S159x1_S159x1024_1_0_n_n_0_1_11024 A5 (Words.column (Words.expert n) 32#32)))

theorem all_at (n : IVec (Routing.shape1 32) 32) (A1 : FVec Ideal S651264x128 .f32) (A2 : FVec Ideal S32x1024x2048 .f32)
    (A3 : FVec Ideal S32x2048 .f32) (A4 : FVec Ideal S32x1024x1024 .f32) (A5 : FVec Ideal S32x1024 .f32)
    (b : Fin 159) (r : Fin 512) (k : Fin 1024) : rAll n A1 A2 A3 A4 A5 (ix3 b r k) = rowMask n A1 A2 A3 A4 A5 b r k := by
  unfold rAll rowMask
  rw [keep_at, live_at, rHalves_eq]
  refine if_congr (slt_halves n b r) ?_ rfl
  unfold rowOut rowE
  rw [down_at]
  simp only [hid_at, up_at, castIn, gatherU_at, gatherUb_at, gatherD_at, gatherDb_at, pick_who]

theorem arr_eq (n : IVec (Routing.shape1 32) 32) (A1 : FVec Ideal S651264x128 .f32) (A2 : FVec Ideal S32x1024x2048 .f32)
    (A3 : FVec Ideal S32x2048 .f32) (A4 : FVec Ideal S32x1024x1024 .f32) (A5 : FVec Ideal S32x1024 .f32) :
    (shapeCast S651264x128 (rAll n A1 A2 A3 A4 A5) shapeCasts_S159x512x1024_S651264x128 : FVec Ideal S651264x128 .f32) = outArr n A1 A2 A3 A4 A5 := by
  funext i
  rw [eq_ix2 i]
  exact (castOut _ (i 0) (i 1)).trans (all_at _ _ _ _ _ _ _ _ _)

variable (V0 : Valuation τ sig (Elt Ideal))

open Cert.ExpertsReferenceIdeal.Value

theorem ends_eq : res_main_v7 V0 = Words.ends (V0 (Proc.devRef .tc main_arg0)) := rfl
theorem starts_eq : res_main_v10 V0 = Words.starts := rfl
theorem expert_eq : res_main_v19 V0 = Words.expert (V0 (Proc.devRef .tc main_arg0)) := rfl
theorem filled_eq : res_main_v36 V0 = addi (Words.filled (V0 (Proc.devRef .tc main_arg0))) (Words.all159 255#32) := rfl
theorem up_eq : res_main_v57 V0 = rUp (shapeCast S159x512x1024 (V0 (Proc.devRef .tc main_arg1)) shapeCasts_S651264x128_S159x512x1024)
    (Host.gather gather_S32x1024x2048_S159x1_S159x1024x2048_12_0_n_n_0_1_110242048 (V0 (Proc.devRef .tc main_arg2)) (Words.column (Words.expert (V0 (Proc.devRef .tc main_arg0))) 32#32))
    (Host.gather gather_S32x2048_S159x1_S159x2048_1_0_n_n_0_1_12048 (V0 (Proc.devRef .tc main_arg3)) (Words.column (Words.expert (V0 (Proc.devRef .tc main_arg0))) 32#32)) := rfl

end Cert.ExpertsReferenceIdeal.Stage

end
-- ==== Proof.ClaimExperts.lean ====
/- The claims of the experts' call: frames and the equality of its result. -/
module

public import proofs.«01_k».proof.Defs
public import proofs.«01_k».proof.Proof.FrameExperts
public import proofs.«01_k».proof.Proof.TablesExperts
public import proofs.«01_k».proof.Proof.ValueExperts
public import proofs.«01_k».proof.Proof.RefExperts
public import Idealize.ShloMosaic.Lib.Claim

@[expose] public section

set_option maxRecDepth 16384

noncomputable section

namespace Cert.Exp

open Idealize.ShloMosaic Idealize.SL.Sem

theorem frame : Cert.quiescent_Experts := fun m ρ _ => Cert.Experts.Hand.frame_of_ok m ρ (Cert.Experts.Hand.ok m)

theorem frameIdeal : Cert.quiescent_ExpertsIdeal := fun m ρ _ => Cert.ExpertsIdeal.Hand.frame_of_ok m ρ (Cert.ExpertsIdeal.Hand.ok m)

theorem frameRef : Cert.quiescent_ExpertsReferenceIdeal := fun m ρ _ =>
  (θ_run Cert.ExpertsReferenceIdeal.defs _ _).mono
    (fun r h => ⟨fun c => (h c).2, Idealize.ShloMosaic.sem_eq_zero_of_no_sems (by decide) r.2⟩)
    (Cert.ExpertsReferenceIdeal.Value.run m ρ)

section Kernel

open Cert.ExpertsIdeal Cert.ExpertsIdeal.Hand

/-- The kernel's run: its result, and its arguments. -/
theorem runKernel (m : (ℓ : Loc nD τ sig) → Buf (Elt Ideal) ℓ) (ρ : Dev nD → PrngReg) :
    θ_run defs (onTc (τ := τ) main) ⟨m, fun _ => 0, ρ⟩ (fun r => ∀ c : Dev nD,
      r.2.mem ((c.tc : Thread nD τ).loc main_v73) = outArr (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨((hr.1 c).1 3).trans (Cert.ExpertsIdeal.Out.final m (ok m) c),
      ((hr.1 c).2 main_arg0 rest0).trans (V_arg0 m c),
      ((hr.1 c).1 0).trans ((((dats m (ok m) 0 c).arrAt_in 0 rfl grid0.N)).trans ((A_eq m (ok m) c 0).trans (V_arg1 m c))),
      ((hr.1 c).2 main_arg2 rest2).trans (V_arg2 m c),
      ((hr.1 c).2 main_arg3 rest3).trans (V_arg3 m c),
      ((hr.1 c).2 main_arg4 rest4).trans (V_arg4 m c),
      ((hr.1 c).2 main_arg5 rest5).trans (V_arg5 m c)⟩) (run_main m ρ (ok m))

end Kernel

section Reference

open Cert.ExpertsReferenceIdeal Cert.ExpertsReferenceIdeal.Gen Cert.ExpertsReferenceIdeal.Stage

/-- The reference's run: its result, and its arguments. -/
theorem runRef (m : (ℓ : Loc nD τ sig) → Buf (Elt Ideal) ℓ) (ρ : Dev nD → PrngReg) :
    θ_run defs (onTc (τ := τ) main) ⟨m, fun _ => 0, ρ⟩ (fun r => ∀ c : Dev nD,
      r.2.mem ((c.tc : Thread nD τ).loc main_v103) = outArr (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (Eq.trans
      (b := (shapeCast S651264x128 (rAll (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))
        shapeCasts_S159x512x1024_S651264x128 : FVec Ideal S651264x128 .f32)) rfl (arr_eq _ _ _ _ _ _)), (h c).2⟩)
    (Cert.ExpertsReferenceIdeal.Value.run m ρ)

end Reference

theorem algebraic : Cert.algebraic_ExpertsIdeal_ExpertsReferenceIdeal := fun m g m' g' _ hagree =>
  ⟨fun c => outArr (m ((c.tc : Thread Cert.ExpertsIdeal.nD Cert.ExpertsIdeal.τ).loc Cert.ExpertsIdeal.main_arg0))
      (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg2))
      (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4))
      (m ((c.tc : Thread Cert.ExpertsIdeal.nD Cert.ExpertsIdeal.τ).loc Cert.ExpertsIdeal.main_arg5)),
    runKernel m g,
    (θ_run Cert.ExpertsReferenceIdeal.defs _ _).mono (fun r h c => ⟨(h c).1.trans (by
      obtain ⟨h0, h1, h2, h3, h4, h5⟩ := hagree c
      rw [h0, h1, h2, h3, h4, h5]), (h c).2⟩) (runRef m' g')⟩

end Cert.Exp

end
-- ==== Proof.OutInproj.lean ====
/- What the input projections' call leaves in the windows of its five results, as a function of the blocks, and what the
   result arrays then hold. -/
module

public import proofs.«01_k».proof.Proof.Gen.InprojIdeal.Frame
public import proofs.«01_k».proof.Proof.Spec
public import Idealize.ShloMosaic.Lib.Pointwise
public import Idealize.ShloMosaic.Lib.IdealHost
public import Idealize.ShloMosaic.Lib.Pipeline.ValueKit

@[expose] public section

set_option maxRecDepth 16384

noncomputable section

namespace Cert.Proj

open Idealize.ShloMosaic

/-- The queries' row: the first 256 lanes of the projection, scaled. -/
def sQ (p : Fin 1536 → EReal) (k : Fin 256) : EReal := p ⟨k, by omega⟩ * Ideal.ofBits .f32 0x3E000000#32

/-- The keys' row. -/
def sK (p : Fin 1536 → EReal) (k : Fin 256) : EReal := p ⟨256 + k, by omega⟩

/-- The values' row. -/
def sV (p : Fin 1536 → EReal) (k : Fin 512) : EReal := p ⟨512 + k, by omega⟩

/-- The output gate's row: the last 512 lanes, each times its logistic. -/
def sR (p : Fin 1536 → EReal) (k : Fin 512) : EReal := p ⟨1024 + k, by omega⟩ * Ideal.logistic (p ⟨1024 + k, by omega⟩)

/-- The gated linear unit: the first half times the logistic of the second. -/
def sU (p : Fin 1024 → EReal) (k : Fin 512) : EReal := p ⟨k, by omega⟩ * Ideal.logistic (p ⟨512 + k, by omega⟩)

/-- Row `y` of `x`, normed and taken through a matrix. -/
def row {n k : ℕ} (x : FVec Ideal ⟨2, ![n, 1024]⟩ .f32) (g : FVec Ideal ⟨2, ![1, 1024]⟩ .f32) (w : FVec Ideal ⟨2, ![1024, k]⟩ .bf16)
    (y : Fin n) : Fin k → EReal :=
  Cert.Mid.mm (Cert.Mid.rms (fun j => g (ix2 0 j)) (fun j => x (ix2 y j))) (fun i j => w (ix2 i j))

end Cert.Proj

namespace Cert.InprojIdeal.Out

open Idealize.ShloMosaic Idealize.ShloMosaic.TcCoe Idealize.SL.Sem
open Idealize.ShloMosaic.Pipeline (Dat)
open Cert.InprojIdeal Cert.InprojIdeal.Gen Cert.Mid Cert.Proj

theorem acc_at (v : FVec Ideal S256x1024 .f32) (g : FVec Ideal S1x1024 .f32) (w : FVec Ideal S1024x1536 .bf16) (r : Fin 256) (k : Fin 1536) :
    k0_pay4 (F := Ideal) v g w (ix2 r k) = row v g w r k := by
  pointwise [k0_pay4, k0_pay3, row, mm, rms]

theorem glu_at (v : FVec Ideal S256x1024 .f32) (g : FVec Ideal S1x1024 .f32) (w : FVec Ideal S1024x1024 .bf16) (r : Fin 256) (k : Fin 1024) :
    k0_pay5 (F := Ideal) v g w (ix2 r k) = row v g w r k := by
  pointwise [k0_pay5, k0_pay3, row, mm, rms]

theorem p11 (a : FVec Ideal S256x1536 .f32) (r : Fin 256) (k : Fin 256) :
    k0_pay11 (F := Ideal) a (ix2 r k) = sQ (fun j => a (ix2 r j)) k := by
  pointwise [k0_pay11, sQ]

theorem p12 (a : FVec Ideal S256x1536 .f32) (r : Fin 256) (k : Fin 256) :
    k0_pay12 (F := Ideal) a (ix2 r k) = sK (fun j => a (ix2 r j)) k := by
  pointwise [k0_pay12, sK]

theorem p13 (a : FVec Ideal S256x1536 .f32) (r : Fin 256) (k : Fin 512) :
    k0_pay13 (F := Ideal) a (ix2 r k) = sV (fun j => a (ix2 r j)) k := by
  pointwise [k0_pay13, sV]

theorem p14 (a : FVec Ideal S256x1536 .f32) (r : Fin 256) (k : Fin 512) :
    k0_pay14 (F := Ideal) a (ix2 r k) = sR (fun j => a (ix2 r j)) k := by
  pointwise [k0_pay14, sR]

theorem p15 (a : FVec Ideal S256x1024 .f32) (r : Fin 256) (k : Fin 512) :
    k0_pay15 (F := Ideal) a (ix2 r k) = sU (fun j => a (ix2 r j)) k := by
  pointwise [k0_pay15, sU]

/-- A tile written as its lower and its upper half. -/
theorem two256bf16 (G : Fin 512 → Fin 256 → EReal) (p0 p1 : Vec Ideal S256x256 .bf16)
    (h0 : ∀ (r : Fin 256) (k : Fin 256), p0 (ix2 r k) = G ⟨256 + r, by omega⟩ k)
    (h1 : ∀ (r : Fin 256) (k : Fin 256), p1 (ix2 r k) = G ⟨r, by omega⟩ k) (y : S512x256.Idx)
    (hy : ∃ pc ∈ ([⟨r0_10, p0⟩, ⟨r0_6, p1⟩] : List (View.Piece (Elt Ideal) S512x256 .bf16)), y ∈ pc.1.set) :
    View.canon (Val := Elt Ideal) (e := .bf16) [⟨r0_10, p0⟩, ⟨r0_6, p1⟩] y = G (y 0) (y 1) := by
  refine View.canon_apply_of_pieces (Val := Elt Ideal) (e := .bf16) (fun i => G (i 0) (i 1)) _ ?_ y hy
  intro p hp
  simp only [List.mem_cons, List.not_mem_nil, or_false] at hp
  rcases hp with rfl | rfl
  all_goals
    intro x
    rw [eq_ix2 x]
    first | refine (h0 (x 0) (x 1)).trans (congrArg₂ G (Fin.ext ?_) (Fin.ext ?_)) | refine (h1 (x 0) (x 1)).trans (congrArg₂ G (Fin.ext ?_) (Fin.ext ?_))
  · show 256 + (x 0).val = 256 + 1 * (x 0).val; omega
  · show (x 1).val = 0 + 1 * (x 1).val; omega
  · show (x 0).val = 0 + 1 * (x 0).val; omega
  · show (x 1).val = 0 + 1 * (x 1).val; omega

/-- A tile written as its lower and its upper half. -/
theorem two512bf16 (G : Fin 512 → Fin 512 → EReal) (p0 p1 : Vec Ideal S256x512 .bf16)
    (h0 : ∀ (r : Fin 256) (k : Fin 512), p0 (ix2 r k) = G ⟨256 + r, by omega⟩ k)
    (h1 : ∀ (r : Fin 256) (k : Fin 512), p1 (ix2 r k) = G ⟨r, by omega⟩ k) (y : S512x512.Idx)
    (hy : ∃ pc ∈ ([⟨r0_11, p0⟩, ⟨r0_7, p1⟩] : List (View.Piece (Elt Ideal) S512x512 .bf16)), y ∈ pc.1.set) :
    View.canon (Val := Elt Ideal) (e := .bf16) [⟨r0_11, p0⟩, ⟨r0_7, p1⟩] y = G (y 0) (y 1) := by
  refine View.canon_apply_of_pieces (Val := Elt Ideal) (e := .bf16) (fun i => G (i 0) (i 1)) _ ?_ y hy
  intro p hp
  simp only [List.mem_cons, List.not_mem_nil, or_false] at hp
  rcases hp with rfl | rfl
  all_goals
    intro x
    rw [eq_ix2 x]
    first | refine (h0 (x 0) (x 1)).trans (congrArg₂ G (Fin.ext ?_) (Fin.ext ?_)) | refine (h1 (x 0) (x 1)).trans (congrArg₂ G (Fin.ext ?_) (Fin.ext ?_))
  · show 256 + (x 0).val = 256 + 1 * (x 0).val; omega
  · show (x 1).val = 0 + 1 * (x 1).val; omega
  · show (x 0).val = 0 + 1 * (x 0).val; omega
  · show (x 1).val = 0 + 1 * (x 1).val; omega

/-- A tile written as its lower and its upper half. -/
theorem two512f32 (G : Fin 512 → Fin 512 → EReal) (p0 p1 : Vec Ideal S256x512 .f32)
    (h0 : ∀ (r : Fin 256) (k : Fin 512), p0 (ix2 r k) = G ⟨256 + r, by omega⟩ k)
    (h1 : ∀ (r : Fin 256) (k : Fin 512), p1 (ix2 r k) = G ⟨r, by omega⟩ k) (y : S512x512.Idx)
    (hy : ∃ pc ∈ ([⟨r0_11, p0⟩, ⟨r0_7, p1⟩] : List (View.Piece (Elt Ideal) S512x512 .f32)), y ∈ pc.1.set) :
    View.canon (Val := Elt Ideal) (e := .f32) [⟨r0_11, p0⟩, ⟨r0_7, p1⟩] y = G (y 0) (y 1) := by
  refine View.canon_apply_of_pieces (Val := Elt Ideal) (e := .f32) (fun i => G (i 0) (i 1)) _ ?_ y hy
  intro p hp
  simp only [List.mem_cons, List.not_mem_nil, or_false] at hp
  rcases hp with rfl | rfl
  all_goals
    intro x
    rw [eq_ix2 x]
    first | refine (h0 (x 0) (x 1)).trans (congrArg₂ G (Fin.ext ?_) (Fin.ext ?_)) | refine (h1 (x 0) (x 1)).trans (congrArg₂ G (Fin.ext ?_) (Fin.ext ?_))
  · show 256 + (x 0).val = 256 + 1 * (x 0).val; omega
  · show (x 1).val = 0 + 1 * (x 1).val; omega
  · show (x 0).val = 0 + 1 * (x 0).val; omega
  · show (x 1).val = 0 + 1 * (x 1).val; omega

variable (x0 : FVec Ideal S512x1024 .f32) (x1 : FVec Ideal S1x1024 .f32) (x2 : FVec Ideal S1024x1536 .bf16) (x3 : FVec Ideal S1024x1024 .bf16) (x4 : FVec Ideal S1024x128 .bf16)
    (x5 : FVec Ideal S128x512 .bf16) (x6 : FVec Ideal S1x512 .f32)

theorem top_at (r : Fin 256) (k : Fin 1536) :
    k0_pay26 (F := Ideal) x0 x1 x2 x3 x4 x5 x6 (ix2 r k) = row x0 x1 x2 ⟨r, by omega⟩ k :=
  (acc_at (View.ld (Val := Elt Ideal) (e' := .f32) x0 r0_0) (View.ld (Val := Elt Ideal) (e' := .f32) x1 r0_1) (View.ld (Val := Elt Ideal) (e' := .bf16) x2 r0_2) r k).trans
    (by unfold row; pointwise)

theorem bot_at (r : Fin 256) (k : Fin 1536) :
    k0_pay28 (F := Ideal) x0 x1 x2 x3 x4 x5 x6 (ix2 r k) = row x0 x1 x2 ⟨256 + r, by omega⟩ k :=
  (acc_at (View.ld (Val := Elt Ideal) (e' := .f32) x0 r0_5) (View.ld (Val := Elt Ideal) (e' := .f32) x1 r0_1) (View.ld (Val := Elt Ideal) (e' := .bf16) x2 r0_2) r k).trans
    (by unfold row; pointwise)

theorem out7 (y : S512x256.Idx) :
    out0_7 (F := Ideal) x0 x1 x2 x3 x4 x5 x6 y = sQ (row x0 x1 x2 (y 0)) (y 1) :=
  two256bf16 (fun a => sQ (row x0 x1 x2 a)) _ _
    (fun r k => (p11 _ r k).trans (congrArg (sQ · k) (funext fun j => bot_at x0 x1 x2 x3 x4 x5 x6 r j)))
    (fun r k => (p11 _ r k).trans (congrArg (sQ · k) (funext fun j => top_at x0 x1 x2 x3 x4 x5 x6 r j))) y (cover0_7 _ _ y)

theorem out8 (y : S512x256.Idx) :
    out0_8 (F := Ideal) x0 x1 x2 x3 x4 x5 x6 y = sK (row x0 x1 x2 (y 0)) (y 1) :=
  two256bf16 (fun a => sK (row x0 x1 x2 a)) _ _
    (fun r k => (p12 _ r k).trans (congrArg (sK · k) (funext fun j => bot_at x0 x1 x2 x3 x4 x5 x6 r j)))
    (fun r k => (p12 _ r k).trans (congrArg (sK · k) (funext fun j => top_at x0 x1 x2 x3 x4 x5 x6 r j))) y (cover0_8 _ _ y)

theorem out9 (y : S512x512.Idx) :
    out0_9 (F := Ideal) x0 x1 x2 x3 x4 x5 x6 y = sV (row x0 x1 x2 (y 0)) (y 1) :=
  two512bf16 (fun a => sV (row x0 x1 x2 a)) _ _
    (fun r k => (p13 _ r k).trans (congrArg (sV · k) (funext fun j => bot_at x0 x1 x2 x3 x4 x5 x6 r j)))
    (fun r k => (p13 _ r k).trans (congrArg (sV · k) (funext fun j => top_at x0 x1 x2 x3 x4 x5 x6 r j))) y (cover0_9 _ _ y)

theorem out10 (y : S512x512.Idx) :
    out0_10 (F := Ideal) x0 x1 x2 x3 x4 x5 x6 y = sR (row x0 x1 x2 (y 0)) (y 1) :=
  two512bf16 (fun a => sR (row x0 x1 x2 a)) _ _
    (fun r k => (p14 _ r k).trans (congrArg (sR · k) (funext fun j => bot_at x0 x1 x2 x3 x4 x5 x6 r j)))
    (fun r k => (p14 _ r k).trans (congrArg (sR · k) (funext fun j => top_at x0 x1 x2 x3 x4 x5 x6 r j))) y (cover0_10 _ _ y)

theorem out12 (y : S512x512.Idx) :
    out0_12 (F := Ideal) x0 x1 x2 x3 x4 x5 x6 y = sU (row x0 x1 x3 (y 0)) (y 1) :=
  two512f32 (fun a => sU (row x0 x1 x3 a)) _ _
    (fun r k => (p15 _ r k).trans (congrArg (sU · k) (funext fun j =>
      (glu_at (View.ld (Val := Elt Ideal) (e' := .f32) x0 r0_5) (View.ld (Val := Elt Ideal) (e' := .f32) x1 r0_1) (View.ld (Val := Elt Ideal) (e' := .bf16) x3 r0_3) r j).trans
        (by unfold row; pointwise))))
    (fun r k => (p15 _ r k).trans (congrArg (sU · k) (funext fun j =>
      (glu_at (View.ld (Val := Elt Ideal) (e' := .f32) x0 r0_0) (View.ld (Val := Elt Ideal) (e' := .f32) x1 r0_1) (View.ld (Val := Elt Ideal) (e' := .bf16) x3 r0_3) r j).trans
        (by unfold row; pointwise)))) y (cover0_12 _ _ y)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_7.index t = ![t.val, 0] ∧ win0_8.index t = ![t.val, 0] ∧ win0_9.index t = ![t.val, 0]
    ∧ win0_10.index t = ![t.val, 0] ∧ win0_12.index t = ![t.val, 0] :=
  (by decide +kernel : ∀ t : Fin grid0.N, _)

theorem acc_row (c : Dev nD) (t : Fin cfg0.N) (y : Fin 512) (R : Fin 16384) (hR : R.val = t.val * 512 + y.val) :
    row (iblk m c 0 t) (iblk m c 1 t) (iblk m c 2 t) y = row (m ((c : Thread nD τ).loc main_arg0)) (m ((c : Thread nD τ).loc main_arg1)) (m ((c : Thread nD τ).loc main_arg2)) R := by
  unfold row
  congr 2
  · funext j; blk_ext [iblk, V, idx t]
  · funext j; blk_ext [iblk, V, idx t]
  · funext i j; blk_ext [iblk, V, idx t]

theorem glu_row (c : Dev nD) (t : Fin cfg0.N) (y : Fin 512) (R : Fin 16384) (hR : R.val = t.val * 512 + y.val) :
    row (iblk m c 0 t) (iblk m c 1 t) (iblk m c 3 t) y = row (m ((c : Thread nD τ).loc main_arg0)) (m ((c : Thread nD τ).loc main_arg1)) (m ((c : Thread nD τ).loc main_arg3)) R := by
  unfold row
  congr 2
  · funext j; blk_ext [iblk, V, idx t]
  · funext j; blk_ext [iblk, V, idx t]
  · funext i j; blk_ext [iblk, V, idx t]

theorem final7 (c : Dev nD) : (dats m 0 c).arrAt 7 (cfgs 0).N =
    fun i => sQ (row (m ((c : Thread nD τ).loc main_arg0)) (m ((c : Thread nD τ).loc main_arg1)) (m ((c : Thread nD τ).loc main_arg2)) (i 0)) (i 1) := by
  refine (dats m 0 c).arrAt_eq_of_covers 7 _ (by decide +kernel) fun t _ y => ?_
  blk_simp
  rw [after0_7]
  refine (out7 _ _ _ _ _ _ _ y).trans (congrArg₂ sQ (acc_row m c t (y 0) (((cfg0.win 7).blk t).view.emb y 0) ?_) (Fin.ext ?_))
  · blk_simp [idx t]
  · blk_simp [idx t]

theorem final8 (c : Dev nD) : (dats m 0 c).arrAt 8 (cfgs 0).N =
    fun i => sK (row (m ((c : Thread nD τ).loc main_arg0)) (m ((c : Thread nD τ).loc main_arg1)) (m ((c : Thread nD τ).loc main_arg2)) (i 0)) (i 1) := by
  refine (dats m 0 c).arrAt_eq_of_covers 8 _ (by decide +kernel) fun t _ y => ?_
  blk_simp
  rw [after0_8]
  refine (out8 _ _ _ _ _ _ _ y).trans (congrArg₂ sK (acc_row m c t (y 0) (((cfg0.win 8).blk t).view.emb y 0) ?_) (Fin.ext ?_))
  · blk_simp [idx t]
  · blk_simp [idx t]

theorem final9 (c : Dev nD) : (dats m 0 c).arrAt 9 (cfgs 0).N =
    fun i => sV (row (m ((c : Thread nD τ).loc main_arg0)) (m ((c : Thread nD τ).loc main_arg1)) (m ((c : Thread nD τ).loc main_arg2)) (i 0)) (i 1) := by
  refine (dats m 0 c).arrAt_eq_of_covers 9 _ (by decide +kernel) fun t _ y => ?_
  blk_simp
  rw [after0_9]
  refine (out9 _ _ _ _ _ _ _ y).trans (congrArg₂ sV (acc_row m c t (y 0) (((cfg0.win 9).blk t).view.emb y 0) ?_) (Fin.ext ?_))
  · blk_simp [idx t]
  · blk_simp [idx t]

theorem final10 (c : Dev nD) : (dats m 0 c).arrAt 10 (cfgs 0).N =
    fun i => sR (row (m ((c : Thread nD τ).loc main_arg0)) (m ((c : Thread nD τ).loc main_arg1)) (m ((c : Thread nD τ).loc main_arg2)) (i 0)) (i 1) := by
  refine (dats m 0 c).arrAt_eq_of_covers 10 _ (by decide +kernel) fun t _ y => ?_
  blk_simp
  rw [after0_10]
  refine (out10 _ _ _ _ _ _ _ y).trans (congrArg₂ sR (acc_row m c t (y 0) (((cfg0.win 10).blk t).view.emb y 0) ?_) (Fin.ext ?_))
  · blk_simp [idx t]
  · blk_simp [idx t]

theorem final12 (c : Dev nD) : (dats m 0 c).arrAt 12 (cfgs 0).N =
    fun i => sU (row (m ((c : Thread nD τ).loc main_arg0)) (m ((c : Thread nD τ).loc main_arg1)) (m ((c : Thread nD τ).loc main_arg3)) (i 0)) (i 1) := by
  refine (dats m 0 c).arrAt_eq_of_covers 12 _ (by decide +kernel) fun t _ y => ?_
  blk_simp
  rw [after0_12]
  refine (out12 _ _ _ _ _ _ _ y).trans (congrArg₂ sU (glu_row m c t (y 0) (((cfg0.win 12).blk t).view.emb y 0) ?_) (Fin.ext ?_))
  · blk_simp [idx t]
  · blk_simp [idx t]

end Cert.InprojIdeal.Out

end
-- ==== Proof.ClaimInproj.lean ====
/- The claims of the input projections' call: frames and the equality of its five results. -/
module

public import proofs.«01_k».proof.Defs
public import proofs.«01_k».proof.Proof.Gen.Inproj.Frame
public import proofs.«01_k».proof.Proof.OutInproj
public import proofs.«01_k».proof.Proof.Gen.InprojReferenceIdeal.Run
public import Idealize.ShloMosaic.Lib.Claim

@[expose] public section

set_option maxRecDepth 16384

noncomputable section

namespace Cert.Proj

open Idealize.ShloMosaic Idealize.SL.Sem

section Reference

open Cert.InprojReferenceIdeal Cert.InprojReferenceIdeal.Gen Cert.Mid

/-- The reference's normed rows. -/
def rH (A0 : FVec Ideal S16384x1024 .f32) (A1 : FVec Ideal S1x1024 .f32) : FVec Ideal S16384x1024 .f32 :=
  mulf (mulf A0 (broadcastInDim S16384x1024 ![0, 1] bcast_S16384x1_S16384x1024_0_1 (Host.rsqrt (addf (Host.divf (broadcastInDim S16384x1 ![0] bcast_S16384_S16384x1_0 (Host.reduceAdd (mulf A0 A0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ A1 shapeCasts_S1x1024_S1024)))

theorem rH_at (A0 : FVec Ideal S16384x1024 .f32) (A1 : FVec Ideal S1x1024 .f32) (r : Fin 16384) (k : Fin 1024) :
    rH A0 A1 (ix2 r k) = rms (fun j => A1 (ix2 0 j)) (fun j => A0 (ix2 r j)) k := by
  pointwise [rH, rms]

/-- The reference's projection of the normed rows. -/
def rA (H : FVec Ideal S16384x1024 .f32) (W : FVec Ideal S1024x1536 .bf16) : FVec Ideal S16384x1536 .f32 :=
  Host.dotGeneral dot_S16384x1024_S1024x1536_S16384x1536_1_0_0_1_n_n none H (extf .f32 W bitsLt_bf16_f32)

theorem rA_row (A0 : FVec Ideal S16384x1024 .f32) (A1 : FVec Ideal S1x1024 .f32) (W : FVec Ideal S1024x1536 .bf16) (r : Fin 16384) :
    (fun k => rA (rH A0 A1) W (ix2 r k)) = row A0 A1 W r := by
  funext k
  refine Eq.trans (b := mm (fun j => rH A0 A1 (ix2 r j)) (fun i j => W (ix2 i j)) k) (by pointwise [rA, mm]) ?_
  exact congrArg (mm · _ k) (funext fun j => rH_at A0 A1 r j)

/-- The reference's projection of the normed rows. -/
def rG (H : FVec Ideal S16384x1024 .f32) (W : FVec Ideal S1024x1024 .bf16) : FVec Ideal S16384x1024 .f32 :=
  Host.dotGeneral dot_S16384x1024_S1024x1024_S16384x1024_1_0_0_1_n_n none H (extf .f32 W bitsLt_bf16_f32)

theorem rG_row (A0 : FVec Ideal S16384x1024 .f32) (A1 : FVec Ideal S1x1024 .f32) (W : FVec Ideal S1024x1024 .bf16) (r : Fin 16384) :
    (fun k => rG (rH A0 A1) W (ix2 r k)) = row A0 A1 W r := by
  funext k
  refine Eq.trans (b := mm (fun j => rH A0 A1 (ix2 r j)) (fun i j => W (ix2 i j)) k) (by pointwise [rG, mm]) ?_
  exact congrArg (mm · _ k) (funext fun j => rH_at A0 A1 r j)

theorem rQ (P : FVec Ideal S16384x1536 .f32) : (truncf .bf16 (mulf (extractStridedSlice S16384x256 ![0, 0] P slices_S16384x1536_S16384x256_0_0) (broadcastInDim S16384x256 ![] bcast_S_S16384x256 (constant S_ .f32 0x3E000000#32))) bitsLt_bf16_f32 : FVec Ideal S16384x256 .bf16) =
    fun i => sQ (fun k => P (ix2 (i 0) k)) (i 1) := by
  funext i
  rw [eq_ix2 i]
  pointwise [sQ]

theorem rK (P : FVec Ideal S16384x1536 .f32) : (truncf .bf16 (extractStridedSlice S16384x256 ![0, 256] P slices_S16384x1536_S16384x256_0_256) bitsLt_bf16_f32 : FVec Ideal S16384x256 .bf16) =
    fun i => sK (fun k => P (ix2 (i 0) k)) (i 1) := by
  funext i
  rw [eq_ix2 i]
  pointwise [sK]

theorem rV (P : FVec Ideal S16384x1536 .f32) : (truncf .bf16 (extractStridedSlice S16384x512 ![0, 512] P slices_S16384x1536_S16384x512_0_512) bitsLt_bf16_f32 : FVec Ideal S16384x512 .bf16) =
    fun i => sV (fun k => P (ix2 (i 0) k)) (i 1) := by
  funext i
  rw [eq_ix2 i]
  pointwise [sV]

theorem rR (P : FVec Ideal S16384x1536 .f32) : (truncf .bf16 (mulf (extractStridedSlice S16384x512 ![0, 1024] P slices_S16384x1536_S16384x512_0_1024) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 1024] P slices_S16384x1536_S16384x512_0_1024)))))) bitsLt_bf16_f32 : FVec Ideal S16384x512 .bf16) =
    fun i => sR (fun k => P (ix2 (i 0) k)) (i 1) := by
  funext i
  rw [eq_ix2 i]
  pointwise [sR]
  rfl

theorem rU (P : FVec Ideal S16384x1024 .f32) : (mulf (extractStridedSlice S16384x512 ![0, 0] P slices_S16384x1024_S16384x512_0_0) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 512] P slices_S16384x1024_S16384x512_0_512))))) : FVec Ideal S16384x512 .f32) =
    fun i => sU (fun k => P (ix2 (i 0) k)) (i 1) := by
  funext i
  rw [eq_ix2 i]
  pointwise [sU]
  rfl

end Reference

theorem frameRef : Cert.quiescent_InprojReferenceIdeal := fun m ρ _ =>
  (θ_run Cert.InprojReferenceIdeal.defs _ _).mono
    (fun r h => ⟨fun c => (h c).2.2.2.2.2, Idealize.ShloMosaic.sem_eq_zero_of_no_sems (by decide) r.2⟩)
    (Cert.InprojReferenceIdeal.Value.run m ρ)

set_option maxHeartbeats 4000000 in
theorem algebraic : Cert.algebraic_InprojIdeal_InprojReferenceIdeal := by
  pair_intro
  · run_from Cert.InprojIdeal.Gen.run_main m g
  · refine (θ_run Cert.InprojReferenceIdeal.defs _ _).mono (fun r h c => ?_) (Cert.InprojReferenceIdeal.Value.run m' g')
    obtain ⟨a0, a1, a2, a3, _⟩ := hagree c
    obtain ⟨h0, h1, h2, h3, h4, h5⟩ := h c
    refine ⟨h0.trans (Eq.trans ?_ (Cert.InprojIdeal.Out.final7 m c).symm), h1.trans (Eq.trans ?_ (Cert.InprojIdeal.Out.final8 m c).symm),
      h2.trans (Eq.trans ?_ (Cert.InprojIdeal.Out.final9 m c).symm), h3.trans (Eq.trans ?_ (Cert.InprojIdeal.Out.final10 m c).symm),
      h4.trans (Eq.trans ?_ (Cert.InprojIdeal.Out.final12 m c).symm), h5⟩
    · rw [a0, a1, a2]; exact (rQ (rA (rH _ _) _)).trans (funext fun i => congrArg (sQ · (i 1)) (rA_row _ _ _ (i 0)))
    · rw [a0, a1, a2]; exact (rK (rA (rH _ _) _)).trans (funext fun i => congrArg (sK · (i 1)) (rA_row _ _ _ (i 0)))
    · rw [a0, a1, a2]; exact (rV (rA (rH _ _) _)).trans (funext fun i => congrArg (sV · (i 1)) (rA_row _ _ _ (i 0)))
    · rw [a0, a1, a2]; exact (rR (rA (rH _ _) _)).trans (funext fun i => congrArg (sR · (i 1)) (rA_row _ _ _ (i 0)))
    · rw [a0, a1, a3]; exact (rU (rG (rH _ _) _)).trans (funext fun i => congrArg (sU · (i 1)) (rG_row _ _ _ (i 0)))

end Cert.Proj

end
-- ==== Proof.ClaimMemkv.lean ====
/- The claims of the memory's keys and values: frames and the equality of both results. A result's row is the memory's
   row, normed and taken through a matrix. -/
module

public import proofs.«01_k».proof.Defs
public import proofs.«01_k».proof.Proof.Gen.Memkv.Frame
public import proofs.«01_k».proof.Proof.Gen.MemkvIdeal.Frame
public import proofs.«01_k».proof.Proof.OutInproj
public import proofs.«01_k».proof.Proof.Gen.MemkvReferenceIdeal.Run
public import Idealize.ShloMosaic.Lib.Claim

@[expose] public section

set_option maxRecDepth 16384

noncomputable section

namespace Cert.MemkvIdeal.Out

open Idealize.ShloMosaic Idealize.ShloMosaic.TcCoe Idealize.SL.Sem
open Idealize.ShloMosaic.Pipeline (Dat)
open Cert.MemkvIdeal Cert.MemkvIdeal.Gen Cert.Mid Cert.Proj

theorem pay (v : FVec Ideal S256x1024 .f32) (g : FVec Ideal S1x1024 .f32) (w : FVec Ideal S1024x1024 .bf16) (r : Fin 256) (k : Fin 1024) :
    k0_pay2 (F := Ideal) v g w (ix2 r k) = row v g w r k := by
  pointwise [k0_pay2, k0_pay1, row, mm, rms]

/-- A result's tile. -/
theorem out (x0 : FVec Ideal S256x1024 .f32) (x1 : FVec Ideal S1x1024 .f32) (w : FVec Ideal S1024x1024 .bf16) (y : S256x1024.Idx) :
    View.canon (Val := Elt Ideal) (e := .bf16) [⟨r0_0, k0_pay2 (F := Ideal) (View.ld x0 r0_0) (View.ld x1 r0_1) (View.ld w r0_2)⟩] y = row x0 x1 w (y 0) (y 1) := by
  refine View.canon_apply_of_pieces (Val := Elt Ideal) (e := .bf16) (fun i => row x0 x1 w (i 0) (i 1)) _ ?_ y (cover0_4 _ y)
  intro p hp
  simp only [List.mem_cons, List.not_mem_nil, or_false] at hp
  obtain rfl := hp
  intro x
  rw [eq_ix2 x]
  refine (pay (View.ld (Val := Elt Ideal) (e' := .f32) x0 r0_0) (View.ld (Val := Elt Ideal) (e' := .f32) x1 r0_1) (View.ld (Val := Elt Ideal) (e' := .bf16) w r0_2) (x 0) (x 1)).trans
    (Eq.trans (b := row x0 x1 w (x 0) (x 1)) (by unfold row; pointwise) (congrArg₂ (row x0 x1 w) (Fin.ext ?_) (Fin.ext ?_)))
  · show (x 0).val = 0 + 1 * (x 0).val; omega
  · show (x 1).val = 0 + 1 * (x 1).val; omega

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

theorem final4 (c : Dev nD) : (dats m 0 c).arrAt 4 (cfgs 0).N = fun i => row (m ((c.tc : Thread nD τ).loc main_arg0)) (m ((c.tc : Thread nD τ).loc main_arg1)) (m ((c.tc : Thread nD τ).loc main_arg2)) (i 0) (i 1) := by
  refine (dats m 0 c).arrAt_eq_of_covers 4 _ (by decide +kernel) fun t _ y => ?_
  blk_simp
  rw [after0_4]
  refine (out (iblk m c 0 t) (iblk m c 1 t) (iblk m c 2 t) y).trans (congr (Eq.trans (b := row (m ((c.tc : Thread nD τ).loc main_arg0)) (m ((c.tc : Thread nD τ).loc main_arg1)) (m ((c.tc : Thread nD τ).loc main_arg2)) (((cfg0.win 4).blk t).view.emb y 0)) ?_ rfl) (Fin.ext ?_))
  · unfold row
    congr 2
    · funext j; blk_ext [iblk, V, idx t]
    · funext j; blk_ext [iblk, V, idx t]
    · funext i j; blk_ext [iblk, V, idx t]
  · blk_simp [idx t]

theorem final5 (c : Dev nD) : (dats m 0 c).arrAt 5 (cfgs 0).N = fun i => row (m ((c.tc : Thread nD τ).loc main_arg0)) (m ((c.tc : Thread nD τ).loc main_arg1)) (m ((c.tc : Thread nD τ).loc main_arg3)) (i 0) (i 1) := by
  refine (dats m 0 c).arrAt_eq_of_covers 5 _ (by decide +kernel) fun t _ y => ?_
  blk_simp
  rw [after0_5]
  refine (out (iblk m c 0 t) (iblk m c 1 t) (iblk m c 3 t) y).trans (congr (Eq.trans (b := row (m ((c.tc : Thread nD τ).loc main_arg0)) (m ((c.tc : Thread nD τ).loc main_arg1)) (m ((c.tc : Thread nD τ).loc main_arg3)) (((cfg0.win 5).blk t).view.emb y 0)) ?_ rfl) (Fin.ext ?_))
  · unfold row
    congr 2
    · funext j; blk_ext [iblk, V, idx t]
    · funext j; blk_ext [iblk, V, idx t]
    · funext i j; blk_ext [iblk, V, idx t]
  · blk_simp [idx t]

end Cert.MemkvIdeal.Out

namespace Cert.Memory

open Idealize.ShloMosaic Idealize.SL.Sem

section Reference

open Cert.MemkvReferenceIdeal Cert.MemkvReferenceIdeal.Gen Cert.Mid Cert.Proj

/-- The reference's result. -/
def rO (A0 : FVec Ideal S2048x1024 .f32) (A1 : FVec Ideal S1x1024 .f32) (W : FVec Ideal S1024x1024 .bf16) : FVec Ideal S2048x1024 .bf16 :=
  truncf .bf16 (Host.dotGeneral dot_S2048x1024_S1024x1024_S2048x1024_1_0_0_1_n_n none (mulf (mulf A0 (broadcastInDim S2048x1024 ![0, 1] bcast_S2048x1_S2048x1024_0_1 (Host.rsqrt (addf (Host.divf (broadcastInDim S2048x1 ![0] bcast_S2048_S2048x1_0 (Host.reduceAdd (mulf A0 A0) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 (shapeCast _ A1 shapeCasts_S1x1024_S1024)))) (extf .f32 W bitsLt_bf16_f32)) bitsLt_bf16_f32

theorem rO_eq (A0 : FVec Ideal S2048x1024 .f32) (A1 : FVec Ideal S1x1024 .f32) (W : FVec Ideal S1024x1024 .bf16) :
    rO A0 A1 W = fun i => row A0 A1 W (i 0) (i 1) := by
  funext i
  rw [eq_ix2 i]
  pointwise [rO, row, mm, rms]

end Reference

theorem frameRef : Cert.quiescent_MemkvReferenceIdeal := fun m ρ _ =>
  (θ_run Cert.MemkvReferenceIdeal.defs _ _).mono
    (fun r h => ⟨fun c => (h c).2.2, Idealize.ShloMosaic.sem_eq_zero_of_no_sems (by decide) r.2⟩)
    (Cert.MemkvReferenceIdeal.Value.run m ρ)

set_option maxHeartbeats 4000000 in
theorem algebraic : Cert.algebraic_MemkvIdeal_MemkvReferenceIdeal := by
  pair_intro
  · run_from Cert.MemkvIdeal.Gen.run_main m g
  · refine (θ_run Cert.MemkvReferenceIdeal.defs _ _).mono (fun r h c => ?_) (Cert.MemkvReferenceIdeal.Value.run m' g')
    obtain ⟨a0, a1, a2, a3⟩ := hagree c
    obtain ⟨h0, h1, h2⟩ := h c
    refine ⟨(h0.trans (rO_eq _ _ _)).trans (Eq.trans ?_ (Cert.MemkvIdeal.Out.final4 m c).symm),
      (h1.trans (rO_eq _ _ _)).trans (Eq.trans ?_ (Cert.MemkvIdeal.Out.final5 m c).symm), h2⟩
    · rw [a0, a1, a2]; rfl
    · rw [a0, a1, a3]; rfl

end Cert.Memory

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsReferenceIdeal
public import proofs.«01_k».proof.Proof.Gen.ExpertsReferenceIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojReferenceIdeal
public import proofs.«01_k».proof.Proof.Gen.InprojReferenceIdeal.Run
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvReferenceIdeal
public import proofs.«01_k».proof.Proof.Gen.MemkvReferenceIdeal.Run
public import proofs.«01_k».proof.Proof.BodyKernel
public import proofs.«01_k».proof.Proof.BodyKernelIdeal
public import proofs.«01_k».proof.Proof.ClaimMid
public import proofs.«01_k».proof.Proof.ClaimExperts
public import proofs.«01_k».proof.Proof.ClaimInproj
public import proofs.«01_k».proof.Proof.ClaimMemkv
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Inproj.Gen.facts, Cert.InprojIdeal.Gen.facts, Cert.InprojReferenceIdeal.Gen.facts,
  Cert.Memkv.Gen.facts, Cert.MemkvIdeal.Gen.facts, Cert.MemkvReferenceIdeal.Gen.facts,
  fun m ρ _ => Cert.Kernel.Body.frame m ρ, fun m ρ _ => Cert.KernelIdeal.Body.frame m ρ,
  Cert.Mid.frameRef, Cert.Exp.frame, Cert.Exp.frameIdeal, Cert.Exp.frameRef,
  fun m ρ _ => Cert.Inproj.Gen.frame m ρ, fun m ρ _ => Cert.InprojIdeal.Gen.frame m ρ, Cert.Proj.frameRef,
  fun m ρ _ => Cert.Memkv.Gen.frame m ρ, fun m ρ _ => Cert.MemkvIdeal.Gen.frame m ρ, Cert.Memory.frameRef,
  Cert.Mid.named, Cert.Mid.algebraic, trivial, Cert.Exp.algebraic, trivial, Cert.Proj.algebraic, trivial, Cert.Memory.algebraic⟩

end Cert.Proof

end
